-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v72) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_v79) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v32_0)) (v1 : (c : Dev Cert.Kernel9Ideal.nD) → Buf (Elt Ideal) ((c.tc : Thread Cert.Kernel9Ideal.nD Cert.Kernel9Ideal.τ).loc Cert.Kernel9Ideal.main_v32_1)) (v2 : (c : Dev Cert.Kernel9Ideal.nD) → Buf (Elt Ideal) ((c.tc : Thread Cert.Kernel9Ideal.nD Cert.Kernel9Ideal.τ).loc Cert.Kernel9Ideal.main_v32_2)) (v3 : (c : Dev Cert.Kernel9Ideal.nD) → Buf (Elt Ideal) ((c.tc : Thread Cert.Kernel9Ideal.nD Cert.Kernel9Ideal.τ).loc Cert.Kernel9Ideal.main_v32_3)) (v4 : (c : Dev Cert.Kernel9Ideal.nD) → Buf (Elt Ideal) ((c.tc : Thread Cert.Kernel9Ideal.nD Cert.Kernel9Ideal.τ).loc Cert.Kernel9Ideal.main_v32_4)) (v5 : (c : Dev Cert.Kernel9Ideal.nD) → Buf (Elt Ideal) ((c.tc : Thread Cert.Kernel9Ideal.nD Cert.Kernel9Ideal.τ).loc Cert.Kernel9Ideal.main_v32_5)) (v6 : (c : Dev Cert.Kernel9Ideal.nD) → Buf (Elt Ideal) ((c.tc : Thread Cert.Kernel9Ideal.nD Cert.Kernel9Ideal.τ).loc Cert.Kernel9Ideal.main_v32_6)) (v7 : (c : Dev Cert.Kernel9Ideal.nD) → Buf (Elt Ideal) ((c.tc : Thread Cert.Kernel9Ideal.nD Cert.Kernel9Ideal.τ).loc Cert.Kernel9Ideal.main_v32_7)) (v8 : (c : Dev Cert.Kernel9Ideal.nD) → Buf (Elt Ideal) ((c.tc : Thread Cert.Kernel9Ideal.nD Cert.Kernel9Ideal.τ).loc Cert.Kernel9Ideal.main_v32_8)) (v9 : (c : Dev Cert.Kernel9Ideal.nD) → Buf (Elt Ideal) ((c.tc : Thread Cert.Kernel9Ideal.nD Cert.Kernel9Ideal.τ).loc Cert.Kernel9Ideal.main_v32_9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v32_0) = v0 c
          ∧ r.2.mem ((c.tc : Thread Cert.Kernel9Ideal.nD Cert.Kernel9Ideal.τ).loc Cert.Kernel9Ideal.main_v32_1) = v1 c
          ∧ r.2.mem ((c.tc : Thread Cert.Kernel9Ideal.nD Cert.Kernel9Ideal.τ).loc Cert.Kernel9Ideal.main_v32_2) = v2 c
          ∧ r.2.mem ((c.tc : Thread Cert.Kernel9Ideal.nD Cert.Kernel9Ideal.τ).loc Cert.Kernel9Ideal.main_v32_3) = v3 c
          ∧ r.2.mem ((c.tc : Thread Cert.Kernel9Ideal.nD Cert.Kernel9Ideal.τ).loc Cert.Kernel9Ideal.main_v32_4) = v4 c
          ∧ r.2.mem ((c.tc : Thread Cert.Kernel9Ideal.nD Cert.Kernel9Ideal.τ).loc Cert.Kernel9Ideal.main_v32_5) = v5 c
          ∧ r.2.mem ((c.tc : Thread Cert.Kernel9Ideal.nD Cert.Kernel9Ideal.τ).loc Cert.Kernel9Ideal.main_v32_6) = v6 c
          ∧ r.2.mem ((c.tc : Thread Cert.Kernel9Ideal.nD Cert.Kernel9Ideal.τ).loc Cert.Kernel9Ideal.main_v32_7) = v7 c
          ∧ r.2.mem ((c.tc : Thread Cert.Kernel9Ideal.nD Cert.Kernel9Ideal.τ).loc Cert.Kernel9Ideal.main_v32_8) = v8 c
          ∧ r.2.mem ((c.tc : Thread Cert.Kernel9Ideal.nD Cert.Kernel9Ideal.τ).loc Cert.Kernel9Ideal.main_v32_9) = v9 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v77) = v0 c
          ∧ r.2.mem ((c.tc : Thread Cert.Reference9Ideal.nD Cert.Reference9Ideal.τ).loc Cert.Reference9Ideal.main_v78) = v1 c
          ∧ r.2.mem ((c.tc : Thread Cert.Reference9Ideal.nD Cert.Reference9Ideal.τ).loc Cert.Reference9Ideal.main_v79) = v2 c
          ∧ r.2.mem ((c.tc : Thread Cert.Reference9Ideal.nD Cert.Reference9Ideal.τ).loc Cert.Reference9Ideal.main_v80) = v3 c
          ∧ r.2.mem ((c.tc : Thread Cert.Reference9Ideal.nD Cert.Reference9Ideal.τ).loc Cert.Reference9Ideal.main_v81) = v4 c
          ∧ r.2.mem ((c.tc : Thread Cert.Reference9Ideal.nD Cert.Reference9Ideal.τ).loc Cert.Reference9Ideal.main_v82) = v5 c
          ∧ r.2.mem ((c.tc : Thread Cert.Reference9Ideal.nD Cert.Reference9Ideal.τ).loc Cert.Reference9Ideal.main_v84) = v6 c
          ∧ r.2.mem ((c.tc : Thread Cert.Reference9Ideal.nD Cert.Reference9Ideal.τ).loc Cert.Reference9Ideal.main_v86) = v7 c
          ∧ r.2.mem ((c.tc : Thread Cert.Reference9Ideal.nD Cert.Reference9Ideal.τ).loc Cert.Reference9Ideal.main_v88) = v8 c
          ∧ r.2.mem ((c.tc : Thread Cert.Reference9Ideal.nD Cert.Reference9Ideal.τ).loc Cert.Reference9Ideal.main_v90) = v9 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v32_0)) (v1 : (c : Dev Cert.Kernel10Ideal.nD) → Buf (Elt Ideal) ((c.tc : Thread Cert.Kernel10Ideal.nD Cert.Kernel10Ideal.τ).loc Cert.Kernel10Ideal.main_v32_1)) (v2 : (c : Dev Cert.Kernel10Ideal.nD) → Buf (Elt Ideal) ((c.tc : Thread Cert.Kernel10Ideal.nD Cert.Kernel10Ideal.τ).loc Cert.Kernel10Ideal.main_v32_2)) (v3 : (c : Dev Cert.Kernel10Ideal.nD) → Buf (Elt Ideal) ((c.tc : Thread Cert.Kernel10Ideal.nD Cert.Kernel10Ideal.τ).loc Cert.Kernel10Ideal.main_v32_3)) (v4 : (c : Dev Cert.Kernel10Ideal.nD) → Buf (Elt Ideal) ((c.tc : Thread Cert.Kernel10Ideal.nD Cert.Kernel10Ideal.τ).loc Cert.Kernel10Ideal.main_v32_4)) (v5 : (c : Dev Cert.Kernel10Ideal.nD) → Buf (Elt Ideal) ((c.tc : Thread Cert.Kernel10Ideal.nD Cert.Kernel10Ideal.τ).loc Cert.Kernel10Ideal.main_v32_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v32_0) = v0 c
          ∧ r.2.mem ((c.tc : Thread Cert.Kernel10Ideal.nD Cert.Kernel10Ideal.τ).loc Cert.Kernel10Ideal.main_v32_1) = v1 c
          ∧ r.2.mem ((c.tc : Thread Cert.Kernel10Ideal.nD Cert.Kernel10Ideal.τ).loc Cert.Kernel10Ideal.main_v32_2) = v2 c
          ∧ r.2.mem ((c.tc : Thread Cert.Kernel10Ideal.nD Cert.Kernel10Ideal.τ).loc Cert.Kernel10Ideal.main_v32_3) = v3 c
          ∧ r.2.mem ((c.tc : Thread Cert.Kernel10Ideal.nD Cert.Kernel10Ideal.τ).loc Cert.Kernel10Ideal.main_v32_4) = v4 c
          ∧ r.2.mem ((c.tc : Thread Cert.Kernel10Ideal.nD Cert.Kernel10Ideal.τ).loc Cert.Kernel10Ideal.main_v32_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v77) = v0 c
          ∧ r.2.mem ((c.tc : Thread Cert.Reference10Ideal.nD Cert.Reference10Ideal.τ).loc Cert.Reference10Ideal.main_v78) = v1 c
          ∧ r.2.mem ((c.tc : Thread Cert.Reference10Ideal.nD Cert.Reference10Ideal.τ).loc Cert.Reference10Ideal.main_v79) = v2 c
          ∧ r.2.mem ((c.tc : Thread Cert.Reference10Ideal.nD Cert.Reference10Ideal.τ).loc Cert.Reference10Ideal.main_v80) = v3 c
          ∧ r.2.mem ((c.tc : Thread Cert.Reference10Ideal.nD Cert.Reference10Ideal.τ).loc Cert.Reference10Ideal.main_v81) = v4 c
          ∧ r.2.mem ((c.tc : Thread Cert.Reference10Ideal.nD Cert.Reference10Ideal.τ).loc Cert.Reference10Ideal.main_v82) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v14_0)) (v1 : (c : Dev Cert.Kernel12Ideal.nD) → Buf (Elt Ideal) ((c.tc : Thread Cert.Kernel12Ideal.nD Cert.Kernel12Ideal.τ).loc Cert.Kernel12Ideal.main_v14_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v14_0) = v0 c
          ∧ r.2.mem ((c.tc : Thread Cert.Kernel12Ideal.nD Cert.Kernel12Ideal.τ).loc Cert.Kernel12Ideal.main_v14_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v17) = v0 c
          ∧ r.2.mem ((c.tc : Thread Cert.Reference18Ideal.nD Cert.Reference18Ideal.τ).loc Cert.Reference18Ideal.main_v35) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Kernel.lean ====
abbrev S8192x4096 : Shape := ⟨2, ![8192, 4096]⟩
abbrev S32x4096 : Shape := ⟨2, ![32, 4096]⟩
abbrev S1x4096x17456 : Shape := ⟨3, ![1, 4096, 17456]⟩
abbrev S4096x17456 : Shape := ⟨2, ![4096, 17456]⟩
abbrev S17456x4096 : Shape := ⟨2, ![17456, 4096]⟩
abbrev S1024x4096 : Shape := ⟨2, ![1024, 4096]⟩
abbrev S512x4096 : Shape := ⟨2, ![512, 4096]⟩
abbrev S1024x512 : Shape := ⟨2, ![1024, 512]⟩
abbrev S32x512 : Shape := ⟨2, ![32, 512]⟩
abbrev S128x4096 : Shape := ⟨2, ![128, 4096]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x17456, .f32⟩
  | .hbm, ⟨3, _⟩ => ⟨S4096x17456, .f32⟩
  | .hbm, ⟨4, _⟩ => ⟨S17456x4096, .f32⟩
  | .hbm, ⟨5, _⟩ => ⟨S8192x4096, .bf16⟩
  | .hbm, ⟨6, _⟩ => ⟨S32x4096, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S512x4096, .f32⟩
  | .local _ .vmem, ⟨4, _⟩ => ⟨S512x4096, .f32⟩
  | .local _ .vmem, ⟨5, _⟩ => ⟨S1024x512, .bf16⟩
  | .local _ .vmem, ⟨6, _⟩ => ⟨S1024x512, .bf16⟩
  | .local _ .vmem, ⟨7, _⟩ => ⟨S32x512, .f32⟩
  | .local _ .vmem, ⟨8, _⟩ => ⟨S32x512, .f32⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c5168_i32 : BitVec 32 := 5168#32
  let arg0 : BitVec 32 := BitVec.ofNat 32 (i 0).val
  let c512_i32 : BitVec 32 := 512#32
  let v0 : BitVec 32 := Scalar.muli arg0 c512_i32
  let v1 : BitVec 32 := Scalar.addi c5168_i32 v0
  v1
def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c5168_i32 : BitVec 32 := 5168#32
  let v1 : BitVec 32 := Scalar.addi c5168_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x4096 : Shape := ⟨2, ![8192, 4096]⟩
abbrev S32x4096 : Shape := ⟨2, ![32, 4096]⟩
abbrev S1x4096x17456 : Shape := ⟨3, ![1, 4096, 17456]⟩
abbrev S4096x17456 : Shape := ⟨2, ![4096, 17456]⟩
abbrev S8192x17456 : Shape := ⟨2, ![8192, 17456]⟩
abbrev S_ : Shape := ⟨0, ![]⟩
abbrev S32x17456 : Shape := ⟨2, ![32, 17456]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x17456, .f32⟩
  | .hbm, ⟨3, _⟩ => ⟨S8192x4096, .f32⟩
  | .hbm, ⟨4, _⟩ => ⟨S4096x17456, .f32⟩
  | .hbm, ⟨5, _⟩ => ⟨S8192x17456, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .bf16⟩
  | .hbm, ⟨25, _⟩ => ⟨S32x4096, .f32⟩
  | .hbm, ⟨26, _⟩ => ⟨S4096x17456, .f32⟩
  | .hbm, ⟨27, _⟩ => ⟨S32x17456, .f32⟩
  | .hbm, ⟨28, _⟩ => ⟨S32x4096, .f32⟩
  | .hbm, ⟨29, _⟩ => ⟨S32x4096, .f32⟩
  | .hbm, ⟨30, _⟩ => ⟨S32x4096, .f32⟩
  | .hbm, ⟨31, _⟩ => ⟨S_, .f32⟩
  | .hbm, ⟨32, _⟩ => ⟨S32x4096, .f32⟩
  | .hbm, ⟨33, _⟩ => ⟨S32x4096, .f32⟩
  | .hbm, ⟨34, _⟩ => ⟨S32x4096, .f32⟩
  | .hbm, ⟨35, _⟩ => ⟨S_, .f32⟩
  | .hbm, ⟨36, _⟩ => ⟨S32x4096, .f32⟩
  | .hbm, ⟨37, _⟩ => ⟨S32x4096, .f32⟩
  | .hbm, ⟨38, _⟩ => ⟨S32x4096, .f32⟩
  | .hbm, ⟨39, _⟩ => ⟨S_, .f32⟩
  | .hbm, ⟨40, _⟩ => ⟨S32x4096, .f32⟩
  | .hbm, ⟨41, _⟩ => ⟨S32x4096, .f32⟩
  | .hbm, ⟨42, _⟩ => ⟨S_, .f32⟩
  | .hbm, ⟨43, _⟩ => ⟨S32x4096, .f32⟩
  | .hbm, ⟨44, _⟩ => ⟨S32x4096, .f32⟩
  | .hbm, ⟨45, _⟩ => ⟨S32x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S8192x4096 : Shape := ⟨2, ![8192, 4096]⟩
abbrev S32x4096 : Shape := ⟨2, ![32, 4096]⟩
abbrev S1x4096x17456 : Shape := ⟨3, ![1, 4096, 17456]⟩
abbrev S4096x17456 : Shape := ⟨2, ![4096, 17456]⟩
abbrev S17456x4096 : Shape := ⟨2, ![17456, 4096]⟩
abbrev S8192x5632 : Shape := ⟨2, ![8192, 5632]⟩
abbrev S32x5632 : Shape := ⟨2, ![32, 5632]⟩
abbrev S1024x4096 : Shape := ⟨2, ![1024, 4096]⟩
abbrev S512x4096 : Shape := ⟨2, ![512, 4096]⟩
abbrev S1024x512 : Shape := ⟨2, ![1024, 512]⟩
abbrev S32x512 : Shape := ⟨2, ![32, 512]⟩
abbrev S128x4096 : Shape := ⟨2, ![128, 4096]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x17456, .f32⟩
  | .hbm, ⟨3, _⟩ => ⟨S4096x17456, .f32⟩
  | .hbm, ⟨4, _⟩ => ⟨S17456x4096, .f32⟩
  | .hbm, ⟨5, _⟩ => ⟨S8192x5632, .f32⟩
  | .hbm, ⟨6, _⟩ => ⟨S32x5632, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S512x4096, .f32⟩
  | .local _ .vmem, ⟨4, _⟩ => ⟨S512x4096, .f32⟩
  | .local _ .vmem, ⟨5, _⟩ => ⟨S1024x512, .f32⟩
  | .local _ .vmem, ⟨6, _⟩ => ⟨S1024x512, .f32⟩
  | .local _ .vmem, ⟨7, _⟩ => ⟨S32x512, .f32⟩
  | .local _ .vmem, ⟨8, _⟩ => ⟨S32x512, .f32⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 8], ![false, false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def k0_cond2 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x4096 : Shape := ⟨2, ![8192, 4096]⟩
abbrev S32x4096 : Shape := ⟨2, ![32, 4096]⟩
abbrev S1x4096x17456 : Shape := ⟨3, ![1, 4096, 17456]⟩
abbrev S4096x17456 : Shape := ⟨2, ![4096, 17456]⟩
abbrev S8192x17456 : Shape := ⟨2, ![8192, 17456]⟩
abbrev S8192x5632 : Shape := ⟨2, ![8192, 5632]⟩
abbrev S32x17456 : Shape := ⟨2, ![32, 17456]⟩
abbrev S32x5632 : Shape := ⟨2, ![32, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x17456, .f32⟩
  | .hbm, ⟨3, _⟩ => ⟨S8192x4096, .f32⟩
  | .hbm, ⟨4, _⟩ => ⟨S4096x17456, .f32⟩
  | .hbm, ⟨5, _⟩ => ⟨S8192x17456, .f32⟩
  | .hbm, ⟨6, _⟩ => ⟨S8192x5632, .f32⟩
  | .hbm, ⟨7, _⟩ => ⟨S32x4096, .f32⟩
  | .hbm, ⟨8, _⟩ => ⟨S4096x17456, .f32⟩
  | .hbm, ⟨9, _⟩ => ⟨S32x17456, .f32⟩
  | .hbm, ⟨10, _⟩ => ⟨S32x5632, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x4096 : Shape := ⟨2, ![8192, 4096]⟩
abbrev S32x4096 : Shape := ⟨2, ![32, 4096]⟩
abbrev S1x4096x17456 : Shape := ⟨3, ![1, 4096, 17456]⟩
abbrev S4096x17456 : Shape := ⟨2, ![4096, 17456]⟩
abbrev S17456x4096 : Shape := ⟨2, ![17456, 4096]⟩
abbrev S8192x8192 : Shape := ⟨2, ![8192, 8192]⟩
abbrev S32x8192 : Shape := ⟨2, ![32, 8192]⟩
abbrev S1024x4096 : Shape := ⟨2, ![1024, 4096]⟩
abbrev S512x4096 : Shape := ⟨2, ![512, 4096]⟩
abbrev S1024x512 : Shape := ⟨2, ![1024, 512]⟩
abbrev S32x512 : Shape := ⟨2, ![32, 512]⟩
abbrev S128x4096 : Shape := ⟨2, ![128, 4096]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x17456, .f32⟩
  | .hbm, ⟨3, _⟩ => ⟨S4096x17456, .f32⟩
  | .hbm, ⟨4, _⟩ => ⟨S17456x4096, .f32⟩
  | .hbm, ⟨5, _⟩ => ⟨S8192x8192, .bf16⟩
  | .hbm, ⟨6, _⟩ => ⟨S32x8192, .bf16⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S512x4096, .f32⟩
  | .local _ .vmem, ⟨4, _⟩ => ⟨S512x4096, .f32⟩
  | .local _ .vmem, ⟨5, _⟩ => ⟨S1024x512, .bf16⟩
  | .local _ .vmem, ⟨6, _⟩ => ⟨S1024x512, .bf16⟩
  | .local _ .vmem, ⟨7, _⟩ => ⟨S32x512, .bf16⟩
  | .local _ .vmem, ⟨8, _⟩ => ⟨S32x512, .bf16⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c9264_i32 : BitVec 32 := 9264#32
  let arg0 : BitVec 32 := BitVec.ofNat 32 (i 0).val
  let c512_i32 : BitVec 32 := 512#32
  let v0 : BitVec 32 := Scalar.muli arg0 c512_i32
  let v1 : BitVec 32 := Scalar.addi c9264_i32 v0
  v1
def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c9264_i32 : BitVec 32 := 9264#32
  let v1 : BitVec 32 := Scalar.addi c9264_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x4096 : Shape := ⟨2, ![8192, 4096]⟩
abbrev S32x4096 : Shape := ⟨2, ![32, 4096]⟩
abbrev S1x4096x17456 : Shape := ⟨3, ![1, 4096, 17456]⟩
abbrev S4096x17456 : Shape := ⟨2, ![4096, 17456]⟩
abbrev S8192x17456 : Shape := ⟨2, ![8192, 17456]⟩
abbrev S8192x8192 : Shape := ⟨2, ![8192, 8192]⟩
abbrev S_ : Shape := ⟨0, ![]⟩
abbrev S32x17456 : Shape := ⟨2, ![32, 17456]⟩
abbrev S32x8192 : Shape := ⟨2, ![32, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x17456, .f32⟩
  | .hbm, ⟨3, _⟩ => ⟨S8192x4096, .f32⟩
  | .hbm, ⟨4, _⟩ => ⟨S4096x17456, .f32⟩
  | .hbm, ⟨5, _⟩ => ⟨S8192x17456, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .bf16⟩
  | .hbm, ⟨16, _⟩ => ⟨S32x4096, .f32⟩
  | .hbm, ⟨17, _⟩ => ⟨S4096x17456, .f32⟩
  | .hbm, ⟨18, _⟩ => ⟨S32x17456, .f32⟩
  | .hbm, ⟨19, _⟩ => ⟨S32x8192, .f32⟩
  | .hbm, ⟨20, _⟩ => ⟨S32x8192, .f32⟩
  | .hbm, ⟨21, _⟩ => ⟨S32x8192, .f32⟩
  | .hbm, ⟨22, _⟩ => ⟨S_, .f32⟩
  | .hbm, ⟨23, _⟩ => ⟨S32x8192, .f32⟩
  | .hbm, ⟨24, _⟩ => ⟨S32x8192, .f32⟩
  | .hbm, ⟨25, _⟩ => ⟨S_, .f32⟩
  | .hbm, ⟨26, _⟩ => ⟨S32x8192, .f32⟩
  | .hbm, ⟨27, _⟩ => ⟨S32x8192, .f32⟩
  | .hbm, ⟨28, _⟩ => ⟨S32x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel4.lean ====
abbrev S8192x4096 : Shape := ⟨2, ![8192, 4096]⟩
abbrev S32x4096 : Shape := ⟨2, ![32, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x32x2x22016 : Shape := ⟨4, ![1, 32, 2, 22016]⟩
abbrev S32x2x22016 : Shape := ⟨3, ![32, 2, 22016]⟩
abbrev S4096x22016 : Shape := ⟨2, ![4096, 22016]⟩
abbrev S3x22016 : Shape := ⟨2, ![3, 22016]⟩
abbrev S22016 : Shape := ⟨1, ![22016]⟩
abbrev S32x1x22016 : Shape := ⟨3, ![32, 1, 22016]⟩
abbrev S32x22016 : Shape := ⟨2, ![32, 22016]⟩
abbrev S8192x11008 : Shape := ⟨2, ![8192, 11008]⟩
abbrev S4x2x11008 : Shape := ⟨3, ![4, 2, 11008]⟩
abbrev S32x11008 : Shape := ⟨2, ![32, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S32x256 : Shape := ⟨2, ![32, 256]⟩
abbrev S1024x256 : Shape := ⟨2, ![1024, 256]⟩
abbrev S1x2x256 : Shape := ⟨3, ![1, 2, 256]⟩
abbrev S8x256 : Shape := ⟨2, ![8, 256]⟩
abbrev S128x256 : Shape := ⟨2, ![128, 256]⟩
abbrev S16x256 : Shape := ⟨2, ![16, 256]⟩
abbrev S1016x256 : Shape := ⟨2, ![1016, 256]⟩
abbrev S2x256 : Shape := ⟨2, ![2, 256]⟩

abbrev nBuf : Space → Nat
  | .hbm => 21
  | .vmem => 39
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x22016, .f32⟩
  | .hbm, ⟨3, _⟩ => ⟨S1x3x22016, .f32⟩
  | .hbm, ⟨4, _⟩ => ⟨S1x22016, .f32⟩
  | .hbm, ⟨5, _⟩ => ⟨S1x32x2x22016, .f32⟩
  | .hbm, ⟨6, _⟩ => ⟨S32x2x22016, .f32⟩
  | .hbm, ⟨7, _⟩ => ⟨S4096x22016, .f32⟩
  | .hbm, ⟨8, _⟩ => ⟨S3x22016, .f32⟩
  | .hbm, ⟨9, _⟩ => ⟨S22016, .f32⟩
  | .hbm, ⟨10, _⟩ => ⟨S1x22016, .f32⟩
  | .hbm, ⟨11, _⟩ => ⟨S32x1x22016, .f32⟩
  | .hbm, ⟨12, _⟩ => ⟨S32x22016, .f32⟩
  | .hbm, ⟨13, _⟩ => ⟨S32x1x22016, .f32⟩
  | .hbm, ⟨14, _⟩ => ⟨S32x22016, .f32⟩
  | .hbm, ⟨15, _⟩ => ⟨S8192x11008, .bf16⟩
  | .hbm, ⟨16, _⟩ => ⟨S4x2x11008, .f32⟩
  | .hbm, ⟨17, _⟩ => ⟨S4x2x11008, .f32⟩
  | .hbm, ⟨18, _⟩ => ⟨S32x11008, .bf16⟩
  | .hbm, ⟨19, _⟩ => ⟨S32x11008, .f32⟩
  | .hbm, ⟨20, _⟩ => ⟨S32x11008, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S1024x256, .bf16⟩
  | .local _ .vmem, ⟨24, _⟩ => ⟨S1024x256, .bf16⟩
  | .local _ .vmem, ⟨25, _⟩ => ⟨S1x2x256, .f32⟩
  | .local _ .vmem, ⟨26, _⟩ => ⟨S1x2x256, .f32⟩
  | .local _ .vmem, ⟨27, _⟩ => ⟨S1x2x256, .f32⟩
  | .local _ .vmem, ⟨28, _⟩ => ⟨S1x2x256, .f32⟩
  | .local _ .vmem, ⟨29, _⟩ => ⟨S32x256, .bf16⟩
  | .local _ .vmem, ⟨30, _⟩ => ⟨S32x256, .bf16⟩
  | .local _ .vmem, ⟨31, _⟩ => ⟨S32x256, .f32⟩
  | .local _ .vmem, ⟨32, _⟩ => ⟨S32x256, .f32⟩
  | .local _ .vmem, ⟨33, _⟩ => ⟨S32x256, .f32⟩
  | .local _ .vmem, ⟨34, _⟩ => ⟨S32x256, .f32⟩
  | .local _ .vmem, ⟨35, _⟩ => ⟨S4096x256, .bf16⟩
  | .local _ .vmem, ⟨36, _⟩ => ⟨S4096x256, .bf16⟩
  | .local _ .vmem, ⟨37, _⟩ => ⟨S8x256, .f32⟩
  | .local _ .vmem, ⟨38, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![43, 8], ![false, false]⟩

def k0_cond3 (i : grid0.Coords) : BitVec 1 :=
  let arg1 : BitVec 32 := BitVec.ofNat 32 (i 1).val
  let c7_i32 : BitVec 32 := 7#32
  let v124 : BitVec 1 := Scalar.cmpi .eq arg1 c7_i32
  let v125 : BitVec 32 := Scalar.extui v124
  let c0_i32_50 : BitVec 32 := 0#32
  let v126 : BitVec 1 := Scalar.cmpi .ne v125 c0_i32_50
  v126

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S32x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference4Ideal.lean ====
abbrev S8192x4096 : Shape := ⟨2, ![8192, 4096]⟩
abbrev S32x4096 : Shape := ⟨2, ![32, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x32x2x22016 : Shape := ⟨4, ![1, 32, 2, 22016]⟩
abbrev S_ : Shape := ⟨0, ![]⟩
abbrev S4x2x22016 : Shape := ⟨3, ![4, 2, 22016]⟩
abbrev S4096x22016 : Shape := ⟨2, ![4096, 22016]⟩
abbrev S8192x22016 : Shape := ⟨2, ![8192, 22016]⟩
abbrev S4x2048x22016 : Shape := ⟨3, ![4, 2048, 22016]⟩
abbrev S4x2050x22016 : Shape := ⟨3, ![4, 2050, 22016]⟩
abbrev S22016 : Shape := ⟨1, ![22016]⟩
abbrev S1x1x22016 : Shape := ⟨3, ![1, 1, 22016]⟩
abbrev S4x2048x11008 : Shape := ⟨3, ![4, 2048, 11008]⟩
abbrev S8192x11008 : Shape := ⟨2, ![8192, 11008]⟩
abbrev S32x2x22016 : Shape := ⟨3, ![32, 2, 22016]⟩
abbrev S32x22016 : Shape := ⟨2, ![32, 22016]⟩
abbrev S32x1x22016 : Shape := ⟨3, ![32, 1, 22016]⟩
abbrev S32x3x22016 : Shape := ⟨3, ![32, 3, 22016]⟩
abbrev S32x1x11008 : Shape := ⟨3, ![32, 1, 11008]⟩
abbrev S32x11008 : Shape := ⟨2, ![32, 11008]⟩
abbrev S4x2x11008 : Shape := ⟨3, ![4, 2, 11008]⟩

abbrev nBuf : Space → Nat
  | .hbm => 103
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x22016, .f32⟩
  | .hbm, ⟨3, _⟩ => ⟨S1x3x22016, .f32⟩
  | .hbm, ⟨4, _⟩ => ⟨S1x22016, .f32⟩
  | .hbm, ⟨5, _⟩ => ⟨S1x32x2x22016, .f32⟩
  | .hbm, ⟨6, _⟩ => ⟨S_, .f32⟩
  | .hbm, ⟨7, _⟩ => ⟨S4x2x22016, .f32⟩
  | .hbm, ⟨8, _⟩ => ⟨S8192x4096, .f32⟩
  | .hbm, ⟨9, _⟩ => ⟨S4096x22016, .f32⟩
  | .hbm, ⟨10, _⟩ => ⟨S8192x22016, .f32⟩
  | .hbm, ⟨11, _⟩ => ⟨S4x2048x22016, .f32⟩
  | .hbm, ⟨12, _⟩ => ⟨S4x2050x22016, .f32⟩
  | .hbm, ⟨13, _⟩ => ⟨S22016, .f32⟩
  | .hbm, ⟨14, _⟩ => ⟨S4x2048x22016, .f32⟩
  | .hbm, ⟨15, _⟩ => ⟨S1x1x22016, .f32⟩
  | .hbm, ⟨16, _⟩ => ⟨S22016, .f32⟩
  | .hbm, ⟨17, _⟩ => ⟨S1x1x22016, .f32⟩
  | .hbm, ⟨18, _⟩ => ⟨S4x2048x22016, .f32⟩
  | .hbm, ⟨19, _⟩ => ⟨S4x2048x22016, .f32⟩
  | .hbm, ⟨20, _⟩ => ⟨S1x1x22016, .f32⟩
  | .hbm, ⟨21, _⟩ => ⟨S4x2048x22016, .f32⟩
  | .hbm, ⟨22, _⟩ => ⟨S4x2048x22016, .f32⟩
  | .hbm, ⟨23, _⟩ => ⟨S4x2048x22016, .f32⟩
  | .hbm, ⟨24, _⟩ => ⟨S1x1x22016, .f32⟩
  | .hbm, ⟨25, _⟩ => ⟨S22016, .f32⟩
  | .hbm, ⟨26, _⟩ => ⟨S1x1x22016, .f32⟩
  | .hbm, ⟨27, _⟩ => ⟨S4x2048x22016, .f32⟩
  | .hbm, ⟨28, _⟩ => ⟨S4x2048x22016, .f32⟩
  | .hbm, ⟨29, _⟩ => ⟨S4x2048x22016, .f32⟩
  | .hbm, ⟨30, _⟩ => ⟨S4x2048x22016, .f32⟩
  | .hbm, ⟨31, _⟩ => ⟨S1x1x22016, .f32⟩
  | .hbm, ⟨32, _⟩ => ⟨S22016, .f32⟩
  | .hbm, ⟨33, _⟩ => ⟨S1x1x22016, .f32⟩
  | .hbm, ⟨34, _⟩ => ⟨S4x2048x22016, .f32⟩
  | .hbm, ⟨35, _⟩ => ⟨S4x2048x22016, .f32⟩
  | .hbm, ⟨36, _⟩ => ⟨S4x2048x22016, .f32⟩
  | .hbm, ⟨37, _⟩ => ⟨S4x2048x11008, .f32⟩
  | .hbm, ⟨38, _⟩ => ⟨S4x2048x11008, .f32⟩
  | .hbm, ⟨39, _⟩ => ⟨S4x2048x11008, .f32⟩
  | .hbm, ⟨40, _⟩ => ⟨S4x2048x11008, .f32⟩
  | .hbm, ⟨41, _⟩ => ⟨S_, .f32⟩
  | .hbm, ⟨42, _⟩ => ⟨S4x2048x11008, .f32⟩
  | .hbm, ⟨43, _⟩ => ⟨S4x2048x11008, .f32⟩
  | .hbm, ⟨44, _⟩ => ⟨S_, .f32⟩
  | .hbm, ⟨45, _⟩ => ⟨S4x2048x11008, .f32⟩
  | .hbm, ⟨46, _⟩ => ⟨S4x2048x11008, .f32⟩
  | .hbm, ⟨47, _⟩ => ⟨S4x2048x11008, .f32⟩
  | .hbm, ⟨48, _⟩ => ⟨S4x2048x11008, .f32⟩
  | .hbm, ⟨49, _⟩ => ⟨S8192x11008, .f32⟩
  | .hbm, ⟨50, _⟩ => ⟨S8192x11008, .bf16⟩
  | .hbm, ⟨51, _⟩ => ⟨S4x2x22016, .f32⟩
  | .hbm, ⟨52, _⟩ => ⟨S32x2x22016, .f32⟩
  | .hbm, ⟨53, _⟩ => ⟨S32x4096, .f32⟩
  | .hbm, ⟨54, _⟩ => ⟨S4096x22016, .f32⟩
  | .hbm, ⟨55, _⟩ => ⟨S32x22016, .f32⟩
  | .hbm, ⟨56, _⟩ => ⟨S32x1x22016, .f32⟩
  | .hbm, ⟨57, _⟩ => ⟨S32x3x22016, .f32⟩
  | .hbm, ⟨58, _⟩ => ⟨S22016, .f32⟩
  | .hbm, ⟨59, _⟩ => ⟨S32x1x22016, .f32⟩
  | .hbm, ⟨60, _⟩ => ⟨S1x1x22016, .f32⟩
  | .hbm, ⟨61, _⟩ => ⟨S22016, .f32⟩
  | .hbm, ⟨62, _⟩ => ⟨S1x1x22016, .f32⟩
  | .hbm, ⟨63, _⟩ => ⟨S32x1x22016, .f32⟩
  | .hbm, ⟨64, _⟩ => ⟨S32x1x22016, .f32⟩
  | .hbm, ⟨65, _⟩ => ⟨S1x1x22016, .f32⟩
  | .hbm, ⟨66, _⟩ => ⟨S32x1x22016, .f32⟩
  | .hbm, ⟨67, _⟩ => ⟨S32x1x22016, .f32⟩
  | .hbm, ⟨68, _⟩ => ⟨S32x1x22016, .f32⟩
  | .hbm, ⟨69, _⟩ => ⟨S1x1x22016, .f32⟩
  | .hbm, ⟨70, _⟩ => ⟨S22016, .f32⟩
  | .hbm, ⟨71, _⟩ => ⟨S1x1x22016, .f32⟩
  | .hbm, ⟨72, _⟩ => ⟨S32x1x22016, .f32⟩
  | .hbm, ⟨73, _⟩ => ⟨S32x1x22016, .f32⟩
  | .hbm, ⟨74, _⟩ => ⟨S32x1x22016, .f32⟩
  | .hbm, ⟨75, _⟩ => ⟨S32x1x22016, .f32⟩
  | .hbm, ⟨76, _⟩ => ⟨S1x1x22016, .f32⟩
  | .hbm, ⟨77, _⟩ => ⟨S22016, .f32⟩
  | .hbm, ⟨78, _⟩ => ⟨S1x1x22016, .f32⟩
  | .hbm, ⟨79, _⟩ => ⟨S32x1x22016, .f32⟩
  | .hbm, ⟨80, _⟩ => ⟨S32x1x22016, .f32⟩
  | .hbm, ⟨81, _⟩ => ⟨S32x1x22016, .f32⟩
  | .hbm, ⟨82, _⟩ => ⟨S32x1x11008, .f32⟩
  | .hbm, ⟨83, _⟩ => ⟨S32x1x11008, .f32⟩
  | .hbm, ⟨84, _⟩ => ⟨S32x1x11008, .f32⟩
  | .hbm, ⟨85, _⟩ => ⟨S32x1x11008, .f32⟩
  | .hbm, ⟨86, _⟩ => ⟨S_, .f32⟩
  | .hbm, ⟨87, _⟩ => ⟨S32x1x11008, .f32⟩
  | .hbm, ⟨88, _⟩ => ⟨S32x1x11008, .f32⟩
  | .hbm, ⟨89, _⟩ => ⟨S_, .f32⟩
  | .hbm, ⟨90, _⟩ => ⟨S32x1x11008, .f32⟩
  | .hbm, ⟨91, _⟩ => ⟨S32x1x11008, .f32⟩
  | .hbm, ⟨92, _⟩ => ⟨S32x1x11008, .f32⟩
  | .hbm, ⟨93, _⟩ => ⟨S32x1x11008, .f32⟩
  | .hbm, ⟨94, _⟩ => ⟨S32x11008, .f32⟩
  | .hbm, ⟨95, _⟩ => ⟨S32x11008, .bf16⟩
  | .hbm, ⟨96, _⟩ => ⟨S32x2x22016, .f32⟩
  | .hbm, ⟨97, _⟩ => ⟨S4x2x11008, .f32⟩
  | .hbm, ⟨98, _⟩ => ⟨S4x2x11008, .f32⟩
  | .hbm, ⟨99, _⟩ => ⟨S32x1x11008, .f32⟩
  | .hbm, ⟨100, _⟩ => ⟨S32x11008, .f32⟩
  | .hbm, ⟨101, _⟩ => ⟨S32x1x11008, .f32⟩
  | .hbm, ⟨102, _⟩ => ⟨S32x11008, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Kernel5.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S11008x4096, .f32⟩
  | .hbm, ⟨4, _⟩ => ⟨S11008x4096, .bf16⟩
  | .hbm, ⟨5, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S8192x11008, .f32⟩
  | .hbm, ⟨4, _⟩ => ⟨S11008x4096, .f32⟩
  | .hbm, ⟨5, _⟩ => ⟨S8192x4096, .f32⟩
  | .hbm, ⟨6, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S32x11008 : Shape := ⟨2, ![32, 11008]⟩
abbrev S1x11008x4096 : Shape := ⟨3, ![1, 11008, 4096]⟩
abbrev S32x4096 : Shape := ⟨2, ![32, 4096]⟩
abbrev S11008x4096 : Shape := ⟨2, ![11008, 4096]⟩
abbrev S11008x256 : Shape := ⟨2, ![11008, 256]⟩
abbrev S32x256 : Shape := ⟨2, ![32, 256]⟩

abbrev nBuf : Space → Nat
  | .hbm => 6
  | .vmem => 7
  | .smem => 0
  | _ => 0

abbrev bufTy : (tb : Table) → Fin (tcTables nBuf tb) → BufTy
  | .hbm, ⟨0, _⟩ => ⟨S32x11008, .bf16⟩
  | .hbm, ⟨1, _⟩ => ⟨S1x11008x4096, .f32⟩
  | .hbm, ⟨2, _⟩ => ⟨S32x4096, .f32⟩
  | .hbm, ⟨3, _⟩ => ⟨S11008x4096, .f32⟩
  | .hbm, ⟨4, _⟩ => ⟨S11008x4096, .bf16⟩
  | .hbm, ⟨5, _⟩ => ⟨S32x4096, .f32⟩
  | .local _ .vmem, ⟨0, _⟩ => ⟨S32x11008, .bf16⟩
  | .local _ .vmem, ⟨1, _⟩ => ⟨S11008x256, .bf16⟩
  | .local _ .vmem, ⟨2, _⟩ => ⟨S11008x256, .bf16⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | _, _ => ⟨S32x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x11008 : Shape := ⟨2, ![32, 11008]⟩
abbrev S1x11008x4096 : Shape := ⟨3, ![1, 11008, 4096]⟩
abbrev S32x4096 : Shape := ⟨2, ![32, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S32x11008, .bf16⟩
  | .hbm, ⟨1, _⟩ => ⟨S1x11008x4096, .f32⟩
  | .hbm, ⟨2, _⟩ => ⟨S32x4096, .f32⟩
  | .hbm, ⟨3, _⟩ => ⟨S32x11008, .f32⟩
  | .hbm, ⟨4, _⟩ => ⟨S11008x4096, .f32⟩
  | .hbm, ⟨5, _⟩ => ⟨S32x4096, .f32⟩
  | .hbm, ⟨6, _⟩ => ⟨S32x4096, .f32⟩
  | _, _ => ⟨S32x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S32x4096 : Shape := ⟨2, ![32, 4096]⟩
abbrev S1x4096x4096 : Shape := ⟨3, ![1, 4096, 4096]⟩
abbrev S4x2048x4096 : Shape := ⟨3, ![4, 2048, 4096]⟩
abbrev S32x1x4096 : Shape := ⟨3, ![32, 1, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S32x512 : Shape := ⟨2, ![32, 512]⟩
abbrev S128x512 : Shape := ⟨2, ![128, 512]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x4096, .f32⟩
  | .hbm, ⟨3, _⟩ => ⟨S4x2048x4096, .f32⟩
  | .hbm, ⟨4, _⟩ => ⟨S32x1x4096, .f32⟩
  | .hbm, ⟨5, _⟩ => ⟨S8192x4096, .f32⟩
  | .hbm, ⟨6, _⟩ => ⟨S32x4096, .f32⟩
  | .hbm, ⟨7, _⟩ => ⟨S4096x4096, .f32⟩
  | .hbm, ⟨8, _⟩ => ⟨S8192x4096, .f32⟩
  | .hbm, ⟨9, _⟩ => ⟨S32x4096, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x512, .f32⟩
  | .local _ .vmem, ⟨4, _⟩ => ⟨S4096x512, .f32⟩
  | .local _ .vmem, ⟨5, _⟩ => ⟨S1024x512, .f32⟩
  | .local _ .vmem, ⟨6, _⟩ => ⟨S1024x512, .f32⟩
  | .local _ .vmem, ⟨7, _⟩ => ⟨S32x512, .f32⟩
  | .local _ .vmem, ⟨8, _⟩ => ⟨S32x512, .f32⟩
  | .local _ .vmem, ⟨9, _⟩ => ⟨S1024x512, .f32⟩
  | .local _ .vmem, ⟨10, _⟩ => ⟨S1024x512, .f32⟩
  | .local _ .vmem, ⟨11, _⟩ => ⟨S32x512, .f32⟩
  | .local _ .vmem, ⟨12, _⟩ => ⟨S32x512, .f32⟩
  | .local _ .vmem, ⟨13, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S8192x4096 : Shape := ⟨2, ![8192, 4096]⟩
abbrev S32x4096 : Shape := ⟨2, ![32, 4096]⟩
abbrev S1x4096x4096 : Shape := ⟨3, ![1, 4096, 4096]⟩
abbrev S4x2048x4096 : Shape := ⟨3, ![4, 2048, 4096]⟩
abbrev S32x1x4096 : Shape := ⟨3, ![32, 1, 4096]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S1x4096x4096, .f32⟩
  | .hbm, ⟨3, _⟩ => ⟨S4x2048x4096, .f32⟩
  | .hbm, ⟨4, _⟩ => ⟨S32x1x4096, .f32⟩
  | .hbm, ⟨5, _⟩ => ⟨S8192x4096, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S32x4096, .f32⟩
  | .hbm, ⟨11, _⟩ => ⟨S32x4096, .f32⟩
  | .hbm, ⟨12, _⟩ => ⟨S4096x4096, .f32⟩
  | .hbm, ⟨13, _⟩ => ⟨S32x4096, .f32⟩
  | .hbm, ⟨14, _⟩ => ⟨S32x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S8192x2048 : Shape := ⟨2, ![8192, 2048]⟩
abbrev S32x2048 : Shape := ⟨2, ![32, 2048]⟩
abbrev S1x2048x4096 : Shape := ⟨3, ![1, 2048, 4096]⟩
abbrev S8192x8192 : Shape := ⟨2, ![8192, 8192]⟩
abbrev S32x8192 : Shape := ⟨2, ![32, 8192]⟩
abbrev S2048x4096 : Shape := ⟨2, ![2048, 4096]⟩
abbrev S8192x4096 : Shape := ⟨2, ![8192, 4096]⟩
abbrev S32x4096 : Shape := ⟨2, ![32, 4096]⟩
abbrev S1024x2048 : Shape := ⟨2, ![1024, 2048]⟩
abbrev S2048x512 : Shape := ⟨2, ![2048, 512]⟩
abbrev S1024x512 : Shape := ⟨2, ![1024, 512]⟩
abbrev S32x512 : Shape := ⟨2, ![32, 512]⟩
abbrev S128x512 : Shape := ⟨2, ![128, 512]⟩

abbrev nBuf : Space → Nat
  | .hbm => 12
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S8192x2048, .bf16⟩
  | .hbm, ⟨3, _⟩ => ⟨S32x2048, .bf16⟩
  | .hbm, ⟨4, _⟩ => ⟨S1x2048x4096, .f32⟩
  | .hbm, ⟨5, _⟩ => ⟨S1x2048x4096, .f32⟩
  | .hbm, ⟨6, _⟩ => ⟨S8192x8192, .bf16⟩
  | .hbm, ⟨7, _⟩ => ⟨S32x8192, .bf16⟩
  | .hbm, ⟨8, _⟩ => ⟨S2048x4096, .f32⟩
  | .hbm, ⟨9, _⟩ => ⟨S2048x4096, .f32⟩
  | .hbm, ⟨10, _⟩ => ⟨S8192x4096, .bf16⟩
  | .hbm, ⟨11, _⟩ => ⟨S32x4096, .bf16⟩
  | .local _ .vmem, ⟨0, _⟩ => ⟨S1024x2048, .bf16⟩
  | .local _ .vmem, ⟨1, _⟩ => ⟨S1024x2048, .bf16⟩
  | .local _ .vmem, ⟨2, _⟩ => ⟨S32x2048, .bf16⟩
  | .local _ .vmem, ⟨3, _⟩ => ⟨S1024x2048, .bf16⟩
  | .local _ .vmem, ⟨4, _⟩ => ⟨S1024x2048, .bf16⟩
  | .local _ .vmem, ⟨5, _⟩ => ⟨S32x2048, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S32x512, .bf16⟩
  | .local _ .vmem, ⟨15, _⟩ => ⟨S32x512, .bf16⟩
  | .local _ .vmem, ⟨16, _⟩ => ⟨S32x512, .bf16⟩
  | .local _ .vmem, ⟨17, _⟩ => ⟨S32x512, .bf16⟩
  | .local _ .vmem, ⟨18, _⟩ => ⟨S1024x512, .bf16⟩
  | .local _ .vmem, ⟨19, _⟩ => ⟨S1024x512, .bf16⟩
  | .local _ .vmem, ⟨20, _⟩ => ⟨S32x512, .bf16⟩
  | .local _ .vmem, ⟨21, _⟩ => ⟨S32x512, .bf16⟩
  | .local _ .vmem, ⟨22, _⟩ => ⟨S2048x512, .bf16⟩
  | .local _ .vmem, ⟨23, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference8Ideal.lean ====
abbrev S8192x2048 : Shape := ⟨2, ![8192, 2048]⟩
abbrev S32x2048 : Shape := ⟨2, ![32, 2048]⟩
abbrev S1x2048x4096 : Shape := ⟨3, ![1, 2048, 4096]⟩
abbrev S8192x8192 : Shape := ⟨2, ![8192, 8192]⟩
abbrev S32x8192 : Shape := ⟨2, ![32, 8192]⟩
abbrev S8192x4096 : Shape := ⟨2, ![8192, 4096]⟩
abbrev S2048x4096 : Shape := ⟨2, ![2048, 4096]⟩
abbrev S32x4096 : Shape := ⟨2, ![32, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S8192x2048, .bf16⟩
  | .hbm, ⟨3, _⟩ => ⟨S32x2048, .bf16⟩
  | .hbm, ⟨4, _⟩ => ⟨S1x2048x4096, .f32⟩
  | .hbm, ⟨5, _⟩ => ⟨S1x2048x4096, .f32⟩
  | .hbm, ⟨6, _⟩ => ⟨S8192x8192, .bf16⟩
  | .hbm, ⟨7, _⟩ => ⟨S32x8192, .bf16⟩
  | .hbm, ⟨8, _⟩ => ⟨S8192x8192, .f32⟩
  | .hbm, ⟨9, _⟩ => ⟨S8192x4096, .f32⟩
  | .hbm, ⟨10, _⟩ => ⟨S8192x4096, .f32⟩
  | .hbm, ⟨11, _⟩ => ⟨S8192x2048, .f32⟩
  | .hbm, ⟨12, _⟩ => ⟨S2048x4096, .f32⟩
  | .hbm, ⟨13, _⟩ => ⟨S8192x4096, .f32⟩
  | .hbm, ⟨14, _⟩ => ⟨S8192x4096, .f32⟩
  | .hbm, ⟨15, _⟩ => ⟨S8192x2048, .f32⟩
  | .hbm, ⟨16, _⟩ => ⟨S2048x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | .hbm, ⟨21, _⟩ => ⟨S32x8192, .f32⟩
  | .hbm, ⟨22, _⟩ => ⟨S32x4096, .f32⟩
  | .hbm, ⟨23, _⟩ => ⟨S32x4096, .f32⟩
  | .hbm, ⟨24, _⟩ => ⟨S32x2048, .f32⟩
  | .hbm, ⟨25, _⟩ => ⟨S2048x4096, .f32⟩
  | .hbm, ⟨26, _⟩ => ⟨S32x4096, .f32⟩
  | .hbm, ⟨27, _⟩ => ⟨S32x4096, .f32⟩
  | .hbm, ⟨28, _⟩ => ⟨S32x2048, .f32⟩
  | .hbm, ⟨29, _⟩ => ⟨S2048x4096, .f32⟩
  | .hbm, ⟨30, _⟩ => ⟨S32x4096, .f32⟩
  | .hbm, ⟨31, _⟩ => ⟨S32x4096, .f32⟩
  | .hbm, ⟨32, _⟩ => ⟨S32x4096, .f32⟩
  | .hbm, ⟨33, _⟩ => ⟨S32x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel9.lean ====
abbrev S8192x5632 : Shape := ⟨2, ![8192, 5632]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2048x112 : Shape := ⟨2, ![2048, 112]⟩
abbrev S1x2048x1x128 : Shape := ⟨4, ![1, 2048, 1, 128]⟩
abbrev S1x2048x4x128 : Shape := ⟨4, ![1, 2048, 4, 128]⟩
abbrev S2048x512 : Shape := ⟨2, ![2048, 512]⟩
abbrev S32768x128 : Shape := ⟨2, ![32768, 128]⟩
abbrev S8192x512 : Shape := ⟨2, ![8192, 512]⟩
abbrev S256x512 : Shape := ⟨2, ![256, 512]⟩
abbrev S1024x128 : Shape := ⟨2, ![1024, 128]⟩
abbrev S256x128 : Shape := ⟨2, ![256, 128]⟩

abbrev nBuf : Space → Nat
  | .hbm => 49
  | .vmem => 38
  | .smem => 0
  | _ => 0

abbrev bufTy : (tb : Table) → Fin (tcTables nBuf tb) → BufTy
  | .hbm, ⟨0, _⟩ => ⟨S8192x5632, .f32⟩
  | .hbm, ⟨1, _⟩ => ⟨S2048, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S2048, .f32⟩
  | .hbm, ⟨11, _⟩ => ⟨S2048x1, .f32⟩
  | .hbm, ⟨12, _⟩ => ⟨S1x16, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S_, .f32⟩
  | .hbm, ⟨19, _⟩ => ⟨S2048x96, .f32⟩
  | .hbm, ⟨20, _⟩ => ⟨S2048x128, .f32⟩
  | .hbm, ⟨21, _⟩ => ⟨S2048x16, .f32⟩
  | .hbm, ⟨22, _⟩ => ⟨S_, .f32⟩
  | .hbm, ⟨23, _⟩ => ⟨S2048x112, .f32⟩
  | .hbm, ⟨24, _⟩ => ⟨S2048x128, .f32⟩
  | .hbm, ⟨25, _⟩ => ⟨S_, .f32⟩
  | .hbm, ⟨26, _⟩ => ⟨S2048x16, .f32⟩
  | .hbm, ⟨27, _⟩ => ⟨S_, .f32⟩
  | .hbm, ⟨28, _⟩ => ⟨S2048x96, .f32⟩
  | .hbm, ⟨29, _⟩ => ⟨S2048x128, .f32⟩
  | .hbm, ⟨30, _⟩ => ⟨S1x2048x1x128, .f32⟩
  | .hbm, ⟨31, _⟩ => ⟨S1x2048x4x128, .f32⟩
  | .hbm, ⟨32, _⟩ => ⟨S2048x512, .f32⟩
  | .hbm, ⟨33, _⟩ => ⟨S1x2048x1x128, .f32⟩
  | .hbm, ⟨34, _⟩ => ⟨S1x2048x4x128, .f32⟩
  | .hbm, ⟨35, _⟩ => ⟨S2048x512, .f32⟩
  | .hbm, ⟨36, _⟩ => ⟨S1x2048x1x128, .f32⟩
  | .hbm, ⟨37, _⟩ => ⟨S1x2048x4x128, .f32⟩
  | .hbm, ⟨38, _⟩ => ⟨S2048x512, .f32⟩
  | .hbm, ⟨39, _⟩ => ⟨S32768x128, .f32⟩
  | .hbm, ⟨40, _⟩ => ⟨S32768x128, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S8192x512, .bf16⟩
  | .hbm, ⟨46, _⟩ => ⟨S8192x512, .bf16⟩
  | .hbm, ⟨47, _⟩ => ⟨S8192x512, .bf16⟩
  | .hbm, ⟨48, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev main_v32_6 : Ref sig .tc := ⟨.hbm, 45, rfl⟩
abbrev main_v32_7 : Ref sig .tc := ⟨.hbm, 46, rfl⟩
abbrev main_v32_8 : Ref sig .tc := ⟨.hbm, 47, rfl⟩
abbrev main_v32_9 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference9Ideal.lean ====
abbrev S8192x5632 : Shape := ⟨2, ![8192, 5632]⟩
abbrev S2048 : Shape := ⟨1, ![2048]⟩
abbrev S8192x3072 : Shape := ⟨2, ![8192, 3072]⟩
abbrev S4x2048x3072 : Shape := ⟨3, ![4, 2048, 3072]⟩
abbrev S4x2048x512 : Shape := ⟨3, ![4, 2048, 512]⟩
abbrev S4x2048x4x128 : Shape := ⟨4, ![4, 2048, 4, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x4x16 : Shape := ⟨4, ![4, 2048, 4, 16]⟩
abbrev S4x2048x4x32 : Shape := ⟨4, ![4, 2048, 4, 32]⟩
abbrev S4x2048x4x96 : Shape := ⟨4, ![4, 2048, 4, 96]⟩
abbrev S32768x128 : Shape := ⟨2, ![32768, 128]⟩
abbrev S8192x512 : Shape := ⟨2, ![8192, 512]⟩

abbrev nBuf : Space → Nat
  | .hbm => 96
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2048, .i32⟩
  | .hbm, ⟨2, _⟩ => ⟨S8192x3072, .f32⟩
  | .hbm, ⟨3, _⟩ => ⟨S4x2048x3072, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S4x2048x512, .f32⟩
  | .hbm, ⟨9, _⟩ => ⟨S4x2048x512, .f32⟩
  | .hbm, ⟨10, _⟩ => ⟨S4x2048x4x128, .f32⟩
  | .hbm, ⟨11, _⟩ => ⟨S4x2048x4x128, .f32⟩
  | .hbm, ⟨12, _⟩ => ⟨S4x2048x4x128, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S1x2048x1x16, .f32⟩
  | .hbm, ⟨29, _⟩ => ⟨S2048x16, .f32⟩
  | .hbm, ⟨30, _⟩ => ⟨S1x2048x1x16, .f32⟩
  | .hbm, ⟨31, _⟩ => ⟨S4x2048x4x16, .f32⟩
  | .hbm, ⟨32, _⟩ => ⟨S4x2048x4x16, .f32⟩
  | .hbm, ⟨33, _⟩ => ⟨S4x2048x4x16, .f32⟩
  | .hbm, ⟨34, _⟩ => ⟨S4x2048x4x16, .f32⟩
  | .hbm, ⟨35, _⟩ => ⟨S4x2048x4x16, .f32⟩
  | .hbm, ⟨36, _⟩ => ⟨S4x2048x4x16, .f32⟩
  | .hbm, ⟨37, _⟩ => ⟨S4x2048x4x16, .f32⟩
  | .hbm, ⟨38, _⟩ => ⟨S4x2048x4x16, .f32⟩
  | .hbm, ⟨39, _⟩ => ⟨S4x2048x4x16, .f32⟩
  | .hbm, ⟨40, _⟩ => ⟨S4x2048x4x16, .f32⟩
  | .hbm, ⟨41, _⟩ => ⟨S4x2048x4x16, .f32⟩
  | .hbm, ⟨42, _⟩ => ⟨S4x2048x4x16, .f32⟩
  | .hbm, ⟨43, _⟩ => ⟨S4x2048x4x32, .f32⟩
  | .hbm, ⟨44, _⟩ => ⟨S4x2048x4x96, .f32⟩
  | .hbm, ⟨45, _⟩ => ⟨S4x2048x4x128, .f32⟩
  | .hbm, ⟨46, _⟩ => ⟨S4x2048x4x128, .f32⟩
  | .hbm, ⟨47, _⟩ => ⟨S4x2048x4x128, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S2048, .f32⟩
  | .hbm, ⟨57, _⟩ => ⟨S2048x1, .f32⟩
  | .hbm, ⟨58, _⟩ => ⟨S1x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S1x2048x1x16, .f32⟩
  | .hbm, ⟨64, _⟩ => ⟨S2048x16, .f32⟩
  | .hbm, ⟨65, _⟩ => ⟨S1x2048x1x16, .f32⟩
  | .hbm, ⟨66, _⟩ => ⟨S4x2048x4x16, .f32⟩
  | .hbm, ⟨67, _⟩ => ⟨S4x2048x4x16, .f32⟩
  | .hbm, ⟨68, _⟩ => ⟨S4x2048x4x16, .f32⟩
  | .hbm, ⟨69, _⟩ => ⟨S4x2048x4x16, .f32⟩
  | .hbm, ⟨70, _⟩ => ⟨S4x2048x4x16, .f32⟩
  | .hbm, ⟨71, _⟩ => ⟨S4x2048x4x16, .f32⟩
  | .hbm, ⟨72, _⟩ => ⟨S4x2048x4x16, .f32⟩
  | .hbm, ⟨73, _⟩ => ⟨S4x2048x4x16, .f32⟩
  | .hbm, ⟨74, _⟩ => ⟨S4x2048x4x16, .f32⟩
  | .hbm, ⟨75, _⟩ => ⟨S4x2048x4x16, .f32⟩
  | .hbm, ⟨76, _⟩ => ⟨S4x2048x4x16, .f32⟩
  | .hbm, ⟨77, _⟩ => ⟨S4x2048x4x16, .f32⟩
  | .hbm, ⟨78, _⟩ => ⟨S4x2048x4x32, .f32⟩
  | .hbm, ⟨79, _⟩ => ⟨S4x2048x4x96, .f32⟩
  | .hbm, ⟨80, _⟩ => ⟨S4x2048x4x128, .f32⟩
  | .hbm, ⟨81, _⟩ => ⟨S4x2048x4x128, .f32⟩
  | .hbm, ⟨82, _⟩ => ⟨S32768x128, .f32⟩
  | .hbm, ⟨83, _⟩ => ⟨S32768x128, .f32⟩
  | .hbm, ⟨84, _⟩ => ⟨S32768x128, .f32⟩
  | .hbm, ⟨85, _⟩ => ⟨S32768x128, .f32⟩
  | .hbm, ⟨86, _⟩ => ⟨S32768x128, .f32⟩
  | .hbm, ⟨87, _⟩ => ⟨S32768x128, .f32⟩
  | .hbm, ⟨88, _⟩ => ⟨S8192x512, .f32⟩
  | .hbm, ⟨89, _⟩ => ⟨S8192x512, .bf16⟩
  | .hbm, ⟨90, _⟩ => ⟨S8192x512, .f32⟩
  | .hbm, ⟨91, _⟩ => ⟨S8192x512, .bf16⟩
  | .hbm, ⟨92, _⟩ => ⟨S8192x512, .f32⟩
  | .hbm, ⟨93, _⟩ => ⟨S8192x512, .bf16⟩
  | .hbm, ⟨94, _⟩ => ⟨S8192x512, .f32⟩
  | .hbm, ⟨95, _⟩ => ⟨S8192x512, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_1 : Ref sig .tc := ⟨.hbm, 50, rfl⟩
abbrev main_v47 : Ref sig .tc := ⟨.hbm, 51, rfl⟩
abbrev main_v48 : Ref sig .tc := ⟨.hbm, 52, rfl⟩
abbrev main_cst_2 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩

abbrev nD : Nat := 1
abbrev τ : Topo := Topo.v7x

variable {F : FTy → Type} [FloatOps F]
-- ==== Kernel10.lean ====
abbrev S32x5632 : Shape := ⟨2, ![32, 5632]⟩
abbrev S_ : Shape := ⟨0, ![]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x128 : Shape := ⟨2, ![32, 128]⟩
abbrev S32x112 : Shape := ⟨2, ![32, 112]⟩
abbrev S1x32x1x128 : Shape := ⟨4, ![1, 32, 1, 128]⟩
abbrev S1x32x4x128 : Shape := ⟨4, ![1, 32, 4, 128]⟩
abbrev S32x512 : Shape := ⟨2, ![32, 512]⟩
abbrev S128x128 : Shape := ⟨2, ![128, 128]⟩

abbrev nBuf : Space → Nat
  | .hbm => 50
  | .vmem => 19
  | .smem => 0
  | _ => 0

abbrev bufTy : (tb : Table) → Fin (tcTables nBuf tb) → BufTy
  | .hbm, ⟨0, _⟩ => ⟨S32x5632, .f32⟩
  | .hbm, ⟨1, _⟩ => ⟨S_, .i32⟩
  | .hbm, ⟨2, _⟩ => ⟨S32, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S32, .f32⟩
  | .hbm, ⟨12, _⟩ => ⟨S32x1, .f32⟩
  | .hbm, ⟨13, _⟩ => ⟨S1x16, .f32⟩
  | .hbm, ⟨14, _⟩ => ⟨S32x16, .f32⟩
  | .hbm, ⟨15, _⟩ => ⟨S32x16, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S_, .f32⟩
  | .hbm, ⟨20, _⟩ => ⟨S32x96, .f32⟩
  | .hbm, ⟨21, _⟩ => ⟨S32x128, .f32⟩
  | .hbm, ⟨22, _⟩ => ⟨S32x16, .f32⟩
  | .hbm, ⟨23, _⟩ => ⟨S_, .f32⟩
  | .hbm, ⟨24, _⟩ => ⟨S32x112, .f32⟩
  | .hbm, ⟨25, _⟩ => ⟨S32x128, .f32⟩
  | .hbm, ⟨26, _⟩ => ⟨S_, .f32⟩
  | .hbm, ⟨27, _⟩ => ⟨S32x16, .f32⟩
  | .hbm, ⟨28, _⟩ => ⟨S_, .f32⟩
  | .hbm, ⟨29, _⟩ => ⟨S32x96, .f32⟩
  | .hbm, ⟨30, _⟩ => ⟨S32x128, .f32⟩
  | .hbm, ⟨31, _⟩ => ⟨S1x32x1x128, .f32⟩
  | .hbm, ⟨32, _⟩ => ⟨S1x32x4x128, .f32⟩
  | .hbm, ⟨33, _⟩ => ⟨S32x512, .f32⟩
  | .hbm, ⟨34, _⟩ => ⟨S1x32x1x128, .f32⟩
  | .hbm, ⟨35, _⟩ => ⟨S1x32x4x128, .f32⟩
  | .hbm, ⟨36, _⟩ => ⟨S32x512, .f32⟩
  | .hbm, ⟨37, _⟩ => ⟨S1x32x1x128, .f32⟩
  | .hbm, ⟨38, _⟩ => ⟨S1x32x4x128, .f32⟩
  | .hbm, ⟨39, _⟩ => ⟨S32x512, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S32x512, .bf16⟩
  | .hbm, ⟨47, _⟩ => ⟨S32x512, .bf16⟩
  | .hbm, ⟨48, _⟩ => ⟨S32x512, .bf16⟩
  | .hbm, ⟨49, _⟩ => ⟨S32x512, .bf16⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S32x512, .bf16⟩
  | .local _ .vmem, ⟨16, _⟩ => ⟨S32x512, .bf16⟩
  | .local _ .vmem, ⟨17, _⟩ => ⟨S32x512, .bf16⟩
  | .local _ .vmem, ⟨18, _⟩ => ⟨S32x512, .bf16⟩
  | _, _ => ⟨S32x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev main_v32_3 : Ref sig .tc := ⟨.hbm, 43, rfl⟩
abbrev main_v32_4 : Ref sig .tc := ⟨.hbm, 44, rfl⟩
abbrev main_v32_5 : Ref sig .tc := ⟨.hbm, 45, rfl⟩
abbrev main_v32_6 : Ref sig .tc := ⟨.hbm, 46, rfl⟩
abbrev main_v32_7 : Ref sig .tc := ⟨.hbm, 47, rfl⟩
abbrev main_v32_8 : Ref sig .tc := ⟨.hbm, 48, rfl⟩
abbrev main_v32_9 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference10Ideal.lean ====
abbrev S32x5632 : Shape := ⟨2, ![32, 5632]⟩
abbrev S1 : Shape := ⟨1, ![1]⟩
abbrev S_ : Shape := ⟨0, ![]⟩
abbrev S32x3072 : Shape := ⟨2, ![32, 3072]⟩
abbrev S32x1x3072 : Shape := ⟨3, ![32, 1, 3072]⟩
abbrev S32x1x512 : Shape := ⟨3, ![32, 1, 512]⟩
abbrev S32x1x4x128 : Shape := ⟨4, ![32, 1, 4, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x4x16 : Shape := ⟨4, ![32, 1, 4, 16]⟩
abbrev S32x1x4x32 : Shape := ⟨4, ![32, 1, 4, 32]⟩
abbrev S32x1x4x96 : Shape := ⟨4, ![32, 1, 4, 96]⟩
abbrev S128x128 : Shape := ⟨2, ![128, 128]⟩

abbrev nBuf : Space → Nat
  | .hbm => 89
  | .vmem => 0
  | .smem => 0
  | _ => 0

abbrev bufTy : (tb : Table) → Fin (tcTables nBuf tb) → BufTy
  | .hbm, ⟨0, _⟩ => ⟨S32x5632, .f32⟩
  | .hbm, ⟨1, _⟩ => ⟨S1, .i32⟩
  | .hbm, ⟨2, _⟩ => ⟨S_, .i32⟩
  | .hbm, ⟨3, _⟩ => ⟨S1, .i32⟩
  | .hbm, ⟨4, _⟩ => ⟨S1, .i32⟩
  | .hbm, ⟨5, _⟩ => ⟨S32x3072, .f32⟩
  | .hbm, ⟨6, _⟩ => ⟨S32x1x3072, .f32⟩
  | .hbm, ⟨7, _⟩ => ⟨S32x1x512, .f32⟩
  | .hbm, ⟨8, _⟩ => ⟨S32x1x512, .f32⟩
  | .hbm, ⟨9, _⟩ => ⟨S32x1x512, .f32⟩
  | .hbm, ⟨10, _⟩ => ⟨S32x1x512, .f32⟩
  | .hbm, ⟨11, _⟩ => ⟨S32x1x512, .f32⟩
  | .hbm, ⟨12, _⟩ => ⟨S32x1x512, .f32⟩
  | .hbm, ⟨13, _⟩ => ⟨S32x1x4x128, .f32⟩
  | .hbm, ⟨14, _⟩ => ⟨S32x1x4x128, .f32⟩
  | .hbm, ⟨15, _⟩ => ⟨S32x1x4x128, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S1, .f32⟩
  | .hbm, ⟨25, _⟩ => ⟨S1x1, .f32⟩
  | .hbm, ⟨26, _⟩ => ⟨S1x16, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S1x1x1x16, .f32⟩
  | .hbm, ⟨31, _⟩ => ⟨S1x16, .f32⟩
  | .hbm, ⟨32, _⟩ => ⟨S1x1x1x16, .f32⟩
  | .hbm, ⟨33, _⟩ => ⟨S32x1x4x16, .f32⟩
  | .hbm, ⟨34, _⟩ => ⟨S32x1x4x16, .f32⟩
  | .hbm, ⟨35, _⟩ => ⟨S32x1x4x16, .f32⟩
  | .hbm, ⟨36, _⟩ => ⟨S32x1x4x16, .f32⟩
  | .hbm, ⟨37, _⟩ => ⟨S32x1x4x16, .f32⟩
  | .hbm, ⟨38, _⟩ => ⟨S32x1x4x16, .f32⟩
  | .hbm, ⟨39, _⟩ => ⟨S32x1x4x16, .f32⟩
  | .hbm, ⟨40, _⟩ => ⟨S32x1x4x16, .f32⟩
  | .hbm, ⟨41, _⟩ => ⟨S32x1x4x16, .f32⟩
  | .hbm, ⟨42, _⟩ => ⟨S32x1x4x16, .f32⟩
  | .hbm, ⟨43, _⟩ => ⟨S32x1x4x16, .f32⟩
  | .hbm, ⟨44, _⟩ => ⟨S32x1x4x16, .f32⟩
  | .hbm, ⟨45, _⟩ => ⟨S32x1x4x32, .f32⟩
  | .hbm, ⟨46, _⟩ => ⟨S32x1x4x96, .f32⟩
  | .hbm, ⟨47, _⟩ => ⟨S32x1x4x128, .f32⟩
  | .hbm, ⟨48, _⟩ => ⟨S32x1x4x128, .f32⟩
  | .hbm, ⟨49, _⟩ => ⟨S32x1x4x128, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S1, .f32⟩
  | .hbm, ⟨59, _⟩ => ⟨S1x1, .f32⟩
  | .hbm, ⟨60, _⟩ => ⟨S1x16, .f32⟩
  | .hbm, ⟨61, _⟩ => ⟨S1x16, .f32⟩
  | .hbm, ⟨62, _⟩ => ⟨S1x16, .f32⟩
  | .hbm, ⟨63, _⟩ => ⟨S1x16, .f32⟩
  | .hbm, ⟨64, _⟩ => ⟨S1x1x1x16, .f32⟩
  | .hbm, ⟨65, _⟩ => ⟨S1x16, .f32⟩
  | .hbm, ⟨66, _⟩ => ⟨S1x1x1x16, .f32⟩
  | .hbm, ⟨67, _⟩ => ⟨S32x1x4x16, .f32⟩
  | .hbm, ⟨68, _⟩ => ⟨S32x1x4x16, .f32⟩
  | .hbm, ⟨69, _⟩ => ⟨S32x1x4x16, .f32⟩
  | .hbm, ⟨70, _⟩ => ⟨S32x1x4x16, .f32⟩
  | .hbm, ⟨71, _⟩ => ⟨S32x1x4x16, .f32⟩
  | .hbm, ⟨72, _⟩ => ⟨S32x1x4x16, .f32⟩
  | .hbm, ⟨73, _⟩ => ⟨S32x1x4x16, .f32⟩
  | .hbm, ⟨74, _⟩ => ⟨S32x1x4x16, .f32⟩
  | .hbm, ⟨75, _⟩ => ⟨S32x1x4x16, .f32⟩
  | .hbm, ⟨76, _⟩ => ⟨S32x1x4x16, .f32⟩
  | .hbm, ⟨77, _⟩ => ⟨S32x1x4x16, .f32⟩
  | .hbm, ⟨78, _⟩ => ⟨S32x1x4x16, .f32⟩
  | .hbm, ⟨79, _⟩ => ⟨S32x1x4x32, .f32⟩
  | .hbm, ⟨80, _⟩ => ⟨S32x1x4x96, .f32⟩
  | .hbm, ⟨81, _⟩ => ⟨S32x1x4x128, .f32⟩
  | .hbm, ⟨82, _⟩ => ⟨S32x1x4x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S128x128, .f32⟩
  | _, _ => ⟨S32x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_cst_2 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩

abbrev nD : Nat := 1
abbrev τ : Topo := Topo.v7x

variable {F : FTy → Type} [FloatOps F]
-- ==== Kernel11.lean ====
abbrev S1x32x512x4x128 : Shape := ⟨5, ![1, 32, 512, 4, 128]⟩
abbrev S128x128 : Shape := ⟨2, ![128, 128]⟩
abbrev S32x512x4x128 : Shape := ⟨4, ![32, 512, 4, 128]⟩
abbrev S32x2048x128 : Shape := ⟨3, ![32, 2048, 128]⟩
abbrev S32x4x128 : Shape := ⟨3, ![32, 4, 128]⟩
abbrev S1x2048x128 : Shape := ⟨3, ![1, 2048, 128]⟩
abbrev S1x4x128 : Shape := ⟨3, ![1, 4, 128]⟩
abbrev S1x2044x128 : Shape := ⟨3, ![1, 2044, 128]⟩
abbrev S2044x128 : Shape := ⟨2, ![2044, 128]⟩
abbrev S4x128 : Shape := ⟨2, ![4, 128]⟩

abbrev nBuf : Space → Nat
  | .hbm => 12
  | .vmem => 12
  | .smem => 0
  | _ => 0

abbrev bufTy : (tb : Table) → Fin (tcTables nBuf tb) → BufTy
  | .hbm, ⟨0, _⟩ => ⟨S1x32x512x4x128, .f32⟩
  | .hbm, ⟨1, _⟩ => ⟨S1x32x512x4x128, .f32⟩
  | .hbm, ⟨2, _⟩ => ⟨S128x128, .f32⟩
  | .hbm, ⟨3, _⟩ => ⟨S128x128, .f32⟩
  | .hbm, ⟨4, _⟩ => ⟨S32x512x4x128, .f32⟩
  | .hbm, ⟨5, _⟩ => ⟨S32x2048x128, .f32⟩
  | .hbm, ⟨6, _⟩ => ⟨S32x512x4x128, .f32⟩
  | .hbm, ⟨7, _⟩ => ⟨S32x2048x128, .f32⟩
  | .hbm, ⟨8, _⟩ => ⟨S32x4x128, .f32⟩
  | .hbm, ⟨9, _⟩ => ⟨S32x4x128, .f32⟩
  | .hbm, ⟨10, _⟩ => ⟨S32x2048x128, .f32⟩
  | .hbm, ⟨11, _⟩ => ⟨S32x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | _, _ => ⟨S1x32x512x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S1x32x512x4x128 : Shape := ⟨5, ![1, 32, 512, 4, 128]⟩
abbrev S128x128 : Shape := ⟨2, ![128, 128]⟩
abbrev S32x512x4x128 : Shape := ⟨4, ![32, 512, 4, 128]⟩
abbrev S32x1x4x128 : Shape := ⟨4, ![32, 1, 4, 128]⟩
abbrev S32x513x4x128 : Shape := ⟨4, ![32, 513, 4, 128]⟩
abbrev S32x2048x128 : Shape := ⟨3, ![32, 2048, 128]⟩

abbrev nBuf : Space → Nat
  | .hbm => 14
  | .vmem => 0
  | .smem => 0
  | _ => 0

abbrev bufTy : (tb : Table) → Fin (tcTables nBuf tb) → BufTy
  | .hbm, ⟨0, _⟩ => ⟨S1x32x512x4x128, .f32⟩
  | .hbm, ⟨1, _⟩ => ⟨S1x32x512x4x128, .f32⟩
  | .hbm, ⟨2, _⟩ => ⟨S128x128, .f32⟩
  | .hbm, ⟨3, _⟩ => ⟨S128x128, .f32⟩
  | .hbm, ⟨4, _⟩ => ⟨S32x512x4x128, .f32⟩
  | .hbm, ⟨5, _⟩ => ⟨S32x1x4x128, .f32⟩
  | .hbm, ⟨6, _⟩ => ⟨S32x513x4x128, .f32⟩
  | .hbm, ⟨7, _⟩ => ⟨S32x512x4x128, .f32⟩
  | .hbm, ⟨8, _⟩ => ⟨S32x2048x128, .f32⟩
  | .hbm, ⟨9, _⟩ => ⟨S32x512x4x128, .f32⟩
  | .hbm, ⟨10, _⟩ => ⟨S32x1x4x128, .f32⟩
  | .hbm, ⟨11, _⟩ => ⟨S32x513x4x128, .f32⟩
  | .hbm, ⟨12, _⟩ => ⟨S32x512x4x128, .f32⟩
  | .hbm, ⟨13, _⟩ => ⟨S32x2048x128, .f32⟩
  | _, _ => ⟨S1x32x512x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S32x4096 : Shape := ⟨2, ![32, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S16x1x1 : Shape := ⟨3, ![16, 1, 1]⟩
abbrev S16 : Shape := ⟨1, ![16]⟩
abbrev S16x1 : Shape := ⟨2, ![16, 1]⟩
abbrev S32x2048 : Shape := ⟨2, ![32, 2048]⟩
abbrev S32 : Shape := ⟨1, ![32]⟩
abbrev S32x1 : Shape := ⟨2, ![32, 1]⟩

abbrev nBuf : Space → Nat
  | .hbm => 20
  | .vmem => 7
  | .smem => 0
  | _ => 0

abbrev bufTy : (tb : Table) → Fin (tcTables nBuf tb) → BufTy
  | .hbm, ⟨0, _⟩ => ⟨S32x4096, .f32⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S16x1x1, .f32⟩
  | .hbm, ⟨8, _⟩ => ⟨S16, .f32⟩
  | .hbm, ⟨9, _⟩ => ⟨S16x128, .f32⟩
  | .hbm, ⟨10, _⟩ => ⟨S2048, .f32⟩
  | .hbm, ⟨11, _⟩ => ⟨S1x2048, .f32⟩
  | .hbm, ⟨12, _⟩ => ⟨S16x1, .f32⟩
  | .hbm, ⟨13, _⟩ => ⟨S16, .f32⟩
  | .hbm, ⟨14, _⟩ => ⟨S16x128, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S32x2048, .bf16⟩
  | .hbm, ⟨19, _⟩ => ⟨S32x2048, .f32⟩
  | .local _ .vmem, ⟨0, _⟩ => ⟨S32x2048, .f32⟩
  | .local _ .vmem, ⟨1, _⟩ => ⟨S32x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S32x2048, .bf16⟩
  | .local _ .vmem, ⟨6, _⟩ => ⟨S32x2048, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S32x4096 : Shape := ⟨2, ![32, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S32x1x4096 : Shape := ⟨3, ![32, 1, 4096]⟩
abbrev S32x1x2048 : Shape := ⟨3, ![32, 1, 2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x1x16x128 : Shape := ⟨4, ![32, 1, 16, 128]⟩
abbrev S32x128x16x128 : Shape := ⟨4, ![32, 128, 16, 128]⟩
abbrev S32x1x128x16x128 : Shape := ⟨5, ![32, 1, 128, 16, 128]⟩
abbrev S128x128 : Shape := ⟨2, ![128, 128]⟩
abbrev S1x128x128 : Shape := ⟨3, ![1, 128, 128]⟩
abbrev S16x32x1x128x128 : Shape := ⟨5, ![16, 32, 1, 128, 128]⟩
abbrev S128x16 : Shape := ⟨2, ![128, 16]⟩
abbrev S1x1x128x16x1 : Shape := ⟨5, ![1, 1, 128, 16, 1]⟩
abbrev S32x2048 : Shape := ⟨2, ![32, 2048]⟩

abbrev nBuf : Space → Nat
  | .hbm => 58
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S32x1x4096, .f32⟩
  | .hbm, ⟨8, _⟩ => ⟨S32x1x2048, .f32⟩
  | .hbm, ⟨9, _⟩ => ⟨S32x1x2048, .f32⟩
  | .hbm, ⟨10, _⟩ => ⟨S32x1x2048, .f32⟩
  | .hbm, ⟨11, _⟩ => ⟨S_, .f32⟩
  | .hbm, ⟨12, _⟩ => ⟨S32x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S_, .f32⟩
  | .hbm, ⟨18, _⟩ => ⟨S32x1x1, .f32⟩
  | .hbm, ⟨19, _⟩ => ⟨S32x1x1, .f32⟩
  | .hbm, ⟨20, _⟩ => ⟨S32x1x1, .f32⟩
  | .hbm, ⟨21, _⟩ => ⟨S32x1x2048, .f32⟩
  | .hbm, ⟨22, _⟩ => ⟨S32x1x2048, .f32⟩
  | .hbm, ⟨23, _⟩ => ⟨S1x1x2048, .f32⟩
  | .hbm, ⟨24, _⟩ => ⟨S32x1x2048, .f32⟩
  | .hbm, ⟨25, _⟩ => ⟨S32x1x2048, .f32⟩
  | .hbm, ⟨26, _⟩ => ⟨S32x1x16x128, .f32⟩
  | .hbm, ⟨27, _⟩ => ⟨S_, .i32⟩
  | .hbm, ⟨28, _⟩ => ⟨S_, .f32⟩
  | .hbm, ⟨29, _⟩ => ⟨S32x128x16x128, .f32⟩
  | .hbm, ⟨30, _⟩ => ⟨S32x1x128x16x128, .f32⟩
  | .hbm, ⟨31, _⟩ => ⟨S_, .f32⟩
  | .hbm, ⟨32, _⟩ => ⟨S128x128, .f32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S1x128x128, .f32⟩
  | .hbm, ⟨43, _⟩ => ⟨S16x128x128, .f32⟩
  | .hbm, ⟨44, _⟩ => ⟨S16x128x128, .f32⟩
  | .hbm, ⟨45, _⟩ => ⟨S16x32x1x128x128, .f32⟩
  | .hbm, ⟨46, _⟩ => ⟨S32x1x128x16x128, .f32⟩
  | .hbm, ⟨47, _⟩ => ⟨S128x16, .f32⟩
  | .hbm, ⟨48, _⟩ => ⟨S1x1x128x16x1, .f32⟩
  | .hbm, ⟨49, _⟩ => ⟨S32x1x128x16x128, .f32⟩
  | .hbm, ⟨50, _⟩ => ⟨S32x1x128x16x128, .f32⟩
  | .hbm, ⟨51, _⟩ => ⟨S32x128x16x128, .f32⟩
  | .hbm, ⟨52, _⟩ => ⟨S32x1x16x128, .f32⟩
  | .hbm, ⟨53, _⟩ => ⟨S32x1x2048, .f32⟩
  | .hbm, ⟨54, _⟩ => ⟨S32x1x2048, .f32⟩
  | .hbm, ⟨55, _⟩ => ⟨S32x2048, .f32⟩
  | .hbm, ⟨56, _⟩ => ⟨S32x2048, .bf16⟩
  | .hbm, ⟨57, _⟩ => ⟨S32x2048, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_cst : Ref sig .tc := ⟨.hbm, 39, rfl⟩
abbrev main_call1_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Kernel13.lean ====
abbrev S8192x4096 : Shape := ⟨2, ![8192, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S8192x2048 : Shape := ⟨2, ![8192, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S1x2048, .f32⟩
  | .hbm, ⟨8, _⟩ => ⟨S128x16, .f32⟩
  | .hbm, ⟨9, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S16x128x128, .f32⟩
  | .local _ .vmem, ⟨6, _⟩ => ⟨S128x16, .f32⟩
  | .local _ .vmem, ⟨7, _⟩ => ⟨S128x2048, .bf16⟩
  | .local _ .vmem, ⟨8, _⟩ => ⟨S128x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8192x4096 : Shape := ⟨2, ![8192, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S4x2048x4096 : Shape := ⟨3, ![4, 2048, 4096]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x16x128 : Shape := ⟨4, ![4, 2048, 16, 128]⟩
abbrev S4x16x128x16x128 : Shape := ⟨5, ![4, 16, 128, 16, 128]⟩
abbrev S128x128 : Shape := ⟨2, ![128, 128]⟩
abbrev S1x128x128 : Shape := ⟨3, ![1, 128, 128]⟩
abbrev S16x4x16x128x128 : Shape := ⟨5, ![16, 4, 16, 128, 128]⟩
abbrev S128x16 : Shape := ⟨2, ![128, 16]⟩
abbrev S1x1x128x16x1 : Shape := ⟨5, ![1, 1, 128, 16, 1]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S8192x4096, .f32⟩
  | .hbm, ⟨8, _⟩ => ⟨S4x2048x4096, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x2048x16x128, .f32⟩
  | .hbm, ⟨28, _⟩ => ⟨S_, .i32⟩
  | .hbm, ⟨29, _⟩ => ⟨S_, .f32⟩
  | .hbm, ⟨30, _⟩ => ⟨S4x2048x16x128, .f32⟩
  | .hbm, ⟨31, _⟩ => ⟨S4x16x128x16x128, .f32⟩
  | .hbm, ⟨32, _⟩ => ⟨S_, .f32⟩
  | .hbm, ⟨33, _⟩ => ⟨S128x128, .f32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S1x128x128, .f32⟩
  | .hbm, ⟨44, _⟩ => ⟨S16x128x128, .f32⟩
  | .hbm, ⟨45, _⟩ => ⟨S16x128x128, .f32⟩
  | .hbm, ⟨46, _⟩ => ⟨S16x4x16x128x128, .f32⟩
  | .hbm, ⟨47, _⟩ => ⟨S4x16x128x16x128, .f32⟩
  | .hbm, ⟨48, _⟩ => ⟨S128x16, .f32⟩
  | .hbm, ⟨49, _⟩ => ⟨S1x1x128x16x1, .f32⟩
  | .hbm, ⟨50, _⟩ => ⟨S4x16x128x16x128, .f32⟩
  | .hbm, ⟨51, _⟩ => ⟨S4x16x128x16x128, .f32⟩
  | .hbm, ⟨52, _⟩ => ⟨S4x2048x16x128, .f32⟩
  | .hbm, ⟨53, _⟩ => ⟨S4x2048x2048, .f32⟩
  | .hbm, ⟨54, _⟩ => ⟨S4x2048x2048, .f32⟩
  | .hbm, ⟨55, _⟩ => ⟨S8192x2048, .f32⟩
  | .hbm, ⟨56, _⟩ => ⟨S8192x2048, .bf16⟩
  | .hbm, ⟨57, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_cst : Ref sig .tc := ⟨.hbm, 40, rfl⟩
abbrev main_call1_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Kernel14.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel15.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x4096, .f32⟩
  | .hbm, ⟨3, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference15Ideal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S32x4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S4x2048x4096 : Shape := ⟨3, ![4, 2048, 4096]⟩
abbrev S1x4096 : Shape := ⟨2, ![1, 4096]⟩
abbrev S8192x4096 : Shape := ⟨2, ![8192, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4x2048x4096 : Shape := ⟨3, ![4, 2048, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S8192x4096, .f32⟩
  | .hbm, ⟨20, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel17.lean ====
abbrev S32x1x4096 : Shape := ⟨3, ![32, 1, 4096]⟩
abbrev S1x4096 : Shape := ⟨2, ![1, 4096]⟩
abbrev S32x4096 : Shape := ⟨2, ![32, 4096]⟩
abbrev S4096 : Shape := ⟨1, ![4096]⟩
abbrev S32 : Shape := ⟨1, ![32]⟩
abbrev S32x1 : Shape := ⟨2, ![32, 1]⟩

abbrev nBuf : Space → Nat
  | .hbm => 6
  | .vmem => 3
  | .smem => 0
  | _ => 0

abbrev bufTy : (tb : Table) → Fin (tcTables nBuf tb) → BufTy
  | .hbm, ⟨0, _⟩ => ⟨S32x1x4096, .f32⟩
  | .hbm, ⟨1, _⟩ => ⟨S1x4096, .f32⟩
  | .hbm, ⟨2, _⟩ => ⟨S32x4096, .f32⟩
  | .hbm, ⟨3, _⟩ => ⟨S4096, .f32⟩
  | .hbm, ⟨4, _⟩ => ⟨S1x4096, .f32⟩
  | .hbm, ⟨5, _⟩ => ⟨S32x4096, .bf16⟩
  | .local _ .vmem, ⟨0, _⟩ => ⟨S32x4096, .f32⟩
  | .local _ .vmem, ⟨1, _⟩ => ⟨S1x4096, .f32⟩
  | .local _ .vmem, ⟨2, _⟩ => ⟨S32x4096, .bf16⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference17Ideal.lean ====
abbrev S32x1x4096 : Shape := ⟨3, ![32, 1, 4096]⟩
abbrev S1x4096 : Shape := ⟨2, ![1, 4096]⟩
abbrev S4096 : Shape := ⟨1, ![4096]⟩
abbrev S_ : Shape := ⟨0, ![]⟩
abbrev S32x1 : Shape := ⟨2, ![32, 1]⟩
abbrev S32x1x1 : Shape := ⟨3, ![32, 1, 1]⟩
abbrev S1x1x4096 : Shape := ⟨3, ![1, 1, 4096]⟩
abbrev S32x4096 : Shape := ⟨2, ![32, 4096]⟩

abbrev nBuf : Space → Nat
  | .hbm => 21
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S1x4096, .f32⟩
  | .hbm, ⟨2, _⟩ => ⟨S4096, .f32⟩
  | .hbm, ⟨3, _⟩ => ⟨S32x1x4096, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x4096, .f32⟩
  | .hbm, ⟨15, _⟩ => ⟨S32x1x4096, .f32⟩
  | .hbm, ⟨16, _⟩ => ⟨S1x1x4096, .f32⟩
  | .hbm, ⟨17, _⟩ => ⟨S32x1x4096, .f32⟩
  | .hbm, ⟨18, _⟩ => ⟨S32x1x4096, .f32⟩
  | .hbm, ⟨19, _⟩ => ⟨S32x4096, .f32⟩
  | .hbm, ⟨20, _⟩ => ⟨S32x4096, .bf16⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel18.lean ====
abbrev S32768x128 : Shape := ⟨2, ![32768, 128]⟩
abbrev S1x32x128 : Shape := ⟨3, ![1, 32, 128]⟩
abbrev S1x128 : Shape := ⟨2, ![1, 128]⟩
abbrev S32x128 : Shape := ⟨2, ![32, 128]⟩
abbrev S128 : Shape := ⟨1, ![128]⟩
abbrev S4x128x512 : Shape := ⟨3, ![4, 128, 512]⟩
abbrev S8192x128 : Shape := ⟨2, ![8192, 128]⟩
abbrev S1x128x512 : Shape := ⟨3, ![1, 128, 512]⟩
abbrev S128x128 : Shape := ⟨2, ![128, 128]⟩
abbrev S1x128x128 : Shape := ⟨3, ![1, 128, 128]⟩

abbrev nBuf : Space → Nat
  | .hbm => 14
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x32x128, .f32⟩
  | .hbm, ⟨3, _⟩ => ⟨S1x128, .f32⟩
  | .hbm, ⟨4, _⟩ => ⟨S1x32x128, .f32⟩
  | .hbm, ⟨5, _⟩ => ⟨S1x128, .f32⟩
  | .hbm, ⟨6, _⟩ => ⟨S32x128, .f32⟩
  | .hbm, ⟨7, _⟩ => ⟨S128, .f32⟩
  | .hbm, ⟨8, _⟩ => ⟨S32x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S4x128x512, .f32⟩
  | .hbm, ⟨13, _⟩ => ⟨S4x128x512, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S32x128, .f32⟩
  | .local _ .vmem, ⟨5, _⟩ => ⟨S1x128, .f32⟩
  | .local _ .vmem, ⟨6, _⟩ => ⟨S32x128, .f32⟩
  | .local _ .vmem, ⟨7, _⟩ => ⟨S1x128, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S32768x128 : Shape := ⟨2, ![32768, 128]⟩
abbrev S1x32x128 : Shape := ⟨3, ![1, 32, 128]⟩
abbrev S1x128 : Shape := ⟨2, ![1, 128]⟩
abbrev S32x128 : Shape := ⟨2, ![32, 128]⟩
abbrev S128 : Shape := ⟨1, ![128]⟩
abbrev S4x128x16x4x128 : Shape := ⟨5, ![4, 128, 16, 4, 128]⟩
abbrev S16x128 : Shape := ⟨2, ![16, 128]⟩
abbrev S128x4x128x4 : Shape := ⟨4, ![128, 4, 128, 4]⟩
abbrev S4x128x4x128 : Shape := ⟨4, ![4, 128, 4, 128]⟩
abbrev S4x1x4x128 : Shape := ⟨4, ![4, 1, 4, 128]⟩
abbrev S4x127x4x128 : Shape := ⟨4, ![4, 127, 4, 128]⟩
abbrev S1x1x1x128 : Shape := ⟨4, ![1, 1, 1, 128]⟩
abbrev S_ : Shape := ⟨0, ![]⟩
abbrev S4x128x512 : Shape := ⟨3, ![4, 128, 512]⟩

abbrev nBuf : Space → Nat
  | .hbm => 58
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x32x128, .f32⟩
  | .hbm, ⟨3, _⟩ => ⟨S1x128, .f32⟩
  | .hbm, ⟨4, _⟩ => ⟨S1x32x128, .f32⟩
  | .hbm, ⟨5, _⟩ => ⟨S1x128, .f32⟩
  | .hbm, ⟨6, _⟩ => ⟨S32x128, .f32⟩
  | .hbm, ⟨7, _⟩ => ⟨S128, .f32⟩
  | .hbm, ⟨8, _⟩ => ⟨S4x128x16x4x128, .f32⟩
  | .hbm, ⟨9, _⟩ => ⟨S16x128, .f32⟩
  | .hbm, ⟨10, _⟩ => ⟨S128x4x128x4, .f32⟩
  | .hbm, ⟨11, _⟩ => ⟨S4x128x4x128, .f32⟩
  | .hbm, ⟨12, _⟩ => ⟨S16x128, .f32⟩
  | .hbm, ⟨13, _⟩ => ⟨S128x4x128x4, .f32⟩
  | .hbm, ⟨14, _⟩ => ⟨S4x128x4x128, .f32⟩
  | .hbm, ⟨15, _⟩ => ⟨S4x1x4x128, .f32⟩
  | .hbm, ⟨16, _⟩ => ⟨S4x127x4x128, .f32⟩
  | .hbm, ⟨17, _⟩ => ⟨S4x128x4x128, .f32⟩
  | .hbm, ⟨18, _⟩ => ⟨S4x128x4x128, .f32⟩
  | .hbm, ⟨19, _⟩ => ⟨S1x1x1x128, .f32⟩
  | .hbm, ⟨20, _⟩ => ⟨S4x128x4x128, .f32⟩
  | .hbm, ⟨21, _⟩ => ⟨S4x128x4x128, .f32⟩
  | .hbm, ⟨22, _⟩ => ⟨S4x128x4x128, .f32⟩
  | .hbm, ⟨23, _⟩ => ⟨S4x128x4x128, .f32⟩
  | .hbm, ⟨24, _⟩ => ⟨S_, .f32⟩
  | .hbm, ⟨25, _⟩ => ⟨S4x128x4x128, .f32⟩
  | .hbm, ⟨26, _⟩ => ⟨S4x128x4x128, .f32⟩
  | .hbm, ⟨27, _⟩ => ⟨S_, .f32⟩
  | .hbm, ⟨28, _⟩ => ⟨S4x128x4x128, .f32⟩
  | .hbm, ⟨29, _⟩ => ⟨S4x128x4x128, .f32⟩
  | .hbm, ⟨30, _⟩ => ⟨S4x128x4x128, .f32⟩
  | .hbm, ⟨31, _⟩ => ⟨S4x128x512, .f32⟩
  | .hbm, ⟨32, _⟩ => ⟨S32x128, .f32⟩
  | .hbm, ⟨33, _⟩ => ⟨S128, .f32⟩
  | .hbm, ⟨34, _⟩ => ⟨S4x128x16x4x128, .f32⟩
  | .hbm, ⟨35, _⟩ => ⟨S16x128, .f32⟩
  | .hbm, ⟨36, _⟩ => ⟨S128x4x128x4, .f32⟩
  | .hbm, ⟨37, _⟩ => ⟨S4x128x4x128, .f32⟩
  | .hbm, ⟨38, _⟩ => ⟨S16x128, .f32⟩
  | .hbm, ⟨39, _⟩ => ⟨S128x4x128x4, .f32⟩
  | .hbm, ⟨40, _⟩ => ⟨S4x128x4x128, .f32⟩
  | .hbm, ⟨41, _⟩ => ⟨S4x1x4x128, .f32⟩
  | .hbm, ⟨42, _⟩ => ⟨S4x127x4x128, .f32⟩
  | .hbm, ⟨43, _⟩ => ⟨S4x128x4x128, .f32⟩
  | .hbm, ⟨44, _⟩ => ⟨S4x128x4x128, .f32⟩
  | .hbm, ⟨45, _⟩ => ⟨S1x1x1x128, .f32⟩
  | .hbm, ⟨46, _⟩ => ⟨S4x128x4x128, .f32⟩
  | .hbm, ⟨47, _⟩ => ⟨S4x128x4x128, .f32⟩
  | .hbm, ⟨48, _⟩ => ⟨S4x128x4x128, .f32⟩
  | .hbm, ⟨49, _⟩ => ⟨S4x128x4x128, .f32⟩
  | .hbm, ⟨50, _⟩ => ⟨S_, .f32⟩
  | .hbm, ⟨51, _⟩ => ⟨S4x128x4x128, .f32⟩
  | .hbm, ⟨52, _⟩ => ⟨S4x128x4x128, .f32⟩
  | .hbm, ⟨53, _⟩ => ⟨S_, .f32⟩
  | .hbm, ⟨54, _⟩ => ⟨S4x128x4x128, .f32⟩
  | .hbm, ⟨55, _⟩ => ⟨S4x128x4x128, .f32⟩
  | .hbm, ⟨56, _⟩ => ⟨S4x128x4x128, .f32⟩
  | .hbm, ⟨57, _⟩ => ⟨S4x128x512, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Shared.lean ====
module

public import proofs.«01_k».proof.Defs
public import Idealize.ShloMosaic.Lib.Pipeline.ValueKit
public import Idealize.ShloMosaic.Lib.IdealHost

/-! The functions of one number that the layer's calls share. -/

@[expose] public section

noncomputable section

open Idealize.ShloMosaic

namespace Cert.Layer

/-- gelu in its tanh form, on an extended real -/
def gelu (z : EReal) : EReal :=
  z * (Ideal.ofBits FTy.f32 1056964608#32 * (1 + Ideal.tanh (Ideal.ofBits FTy.f32 1061962282#32 *
    (z + Ideal.ofBits FTy.f32 1027024659#32 * ((z * z) * z)))))

/-- the logistic function, on an extended real -/
def logis (z : EReal) : EReal := Ideal.div 1 (1 + Ideal.exp (-z))

/-- the constant one half -/
theorem half_eq : Ideal.ofBits .f32 0x3F000000#32 = (((1 : ℝ) / 2 : ℝ) : EReal) := by
  simp [Ideal.ofBits, Ideal.ieee]
  norm_num
  rw [← EReal.coe_mul]
  norm_num

/-- the logistic function written with the hyperbolic tangent -/
theorem half_tanh (z : EReal) : Ideal.ofBits .f32 0x3F000000#32 * Ideal.tanh (Ideal.ofBits .f32 0x3F000000#32 * z)
    + Ideal.ofBits .f32 0x3F000000#32 = logis z := by
  have hpos : (0 : EReal) < (((1 : ℝ) / 2 : ℝ) : EReal) := by
    rw [← EReal.coe_zero, EReal.coe_lt_coe_iff]; norm_num
  rw [half_eq, logis]
  induction z using EReal.rec with
  | bot =>
    rw [EReal.coe_mul_bot_of_pos (by norm_num), Ideal.tanh_bot, EReal.neg_bot]
    have h1 : (1 : EReal) + Ideal.exp ⊤ = ⊤ := rfl
    rw [h1, Ideal.div, if_neg (by simp)]
    rw [show (-1 : EReal) = ((-1 : ℝ) : EReal) from rfl, ← EReal.coe_mul, ← EReal.coe_add]
    simp
  | top =>
    rw [EReal.coe_mul_top_of_pos (by norm_num), Ideal.tanh_top, EReal.neg_top]
    have h1 : (1 : EReal) + Ideal.exp ⊥ = 1 := by show (1 : EReal) + 0 = 1; simp
    rw [h1, Ideal.div, if_neg (by simp)]
    rw [show (1 : EReal) = ((1 : ℝ) : EReal) from rfl, ← EReal.coe_mul, ← EReal.coe_add, ← EReal.coe_inv, ← EReal.coe_mul]
    norm_num
  | coe r =>
    have h1 : (1 : EReal) + Ideal.exp (-(r : EReal)) = ((1 + Real.exp (-r) : ℝ) : EReal) := rfl
    have hp : 0 < 1 + Real.exp (-r) := by positivity
    rw [h1, Ideal.div, if_neg (by rw [← EReal.coe_zero, EReal.coe_eq_coe_iff]; exact hp.ne'), ← EReal.coe_mul,
      Ideal.tanh_coe, ← EReal.coe_mul, ← EReal.coe_add]
    rw [show (1 : EReal) = ((1 : ℝ) : EReal) from rfl, ← EReal.coe_inv, ← EReal.coe_mul, EReal.coe_eq_coe_iff]
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    have ha := Real.exp_pos (1 / 2 * r)
    have hb := Real.exp_pos (-(1 / 2 * r))
    generalize Real.exp (1 / 2 * r) = a at *
    generalize Real.exp (-(1 / 2 * r)) = b at *
    field_simp
    nlinarith [e2]

/-- an entry of a row over the root of the mean of the row's squares, times its gain -/
def rms (a : EReal) (x : Fin 4096 → EReal) (g : EReal) : EReal :=
  a * Ideal.rsqrt (Ideal.div (∑ k : Fin 4096, x k * x k) (Ideal.ofBits .f32 0x45800000#32)
    + Ideal.ofBits .f32 0x358637BD#32) * g

theorem rms_congr {a a' : EReal} {x x' : Fin 4096 → EReal} {g g' : EReal} (ha : a = a') (hx : ∀ k, x k = x' k)
    (hg : g = g') : rms a x g = rms a' x' g' := by
  rw [ha, funext hx, hg]

/-- an entry of a gating row over the root of the mean of the row's squares, times its gain -/
def nrm (a : EReal) (x : Fin 2048 → EReal) (g : EReal) : EReal :=
  a * Ideal.rsqrt (Ideal.div (∑ k : Fin 2048, x k * x k) (Ideal.ofBits .f32 0x45000000#32)
    + Ideal.ofBits .f32 0x358637BD#32) * g

theorem nrm_congr {a a' : EReal} {x x' : Fin 2048 → EReal} {g g' : EReal} (ha : a = a') (hx : ∀ k, x k = x' k)
    (hg : g = g') : nrm a x g = nrm a' x' g' := by
  rw [ha, funext hx, hg]

end Cert.Layer

end
-- ==== Proof.InProjUv.lean ====
module

public import proofs.«01_k».proof.Defs
public import proofs.«01_k».proof.Proof.Gen.KernelIdeal.Frame
public import proofs.«01_k».proof.Proof.Gen.ReferenceIdeal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.KernelIdeal.Value
open Cert.KernelIdeal Cert.KernelIdeal.Gen

variable (m : (ℓ : Loc nD τ sig) → Buf (Elt Ideal) ℓ)

theorem idx : ∀ t : Fin cfg0.N, win0_0.index t = ![t.val % 8, 0] ∧ win0_1.index t = ![0, 0]
    ∧ win0_2.index t = ![5168 + 512 * (t.val / 8), 0] ∧ win0_3.index t = ![t.val % 8, t.val / 8]
    ∧ win0_4.index t = ![0, t.val / 8] :=
  (by decide +kernel : ∀ t : Fin grid0.N, _)

/-- one entry of the projection: row `r` of the inputs against column `5168 + j` of the weights -/
def z (n : ℕ) (X : (⟨2, ![n, 4096]⟩ : Shape).Idx → EReal) (W : S1x4096x17456.Idx → EReal) (r : Fin n) (j : Fin 4096) : EReal :=
  ∑ k : Fin 4096, X (ix2 r k) * W (ix3 0 k ⟨5168 + j.val, by omega⟩)

theorem scratch_A (c : Dev nD) (t : Fin cfg0.N) (h0 : t.val % 8 = 0) (y : S512x4096.Idx) :
    (outsAt0 m c t.val t.isLt).2.2 y = iblk m c 2 t y := by
  rw [outsAt0_A m c t h0 (by omega)]
  frame_out
  clear h0
  canon_tiles x h
  all_goals (open_payloads; pointwise; blk_ext)

theorem scratch_hold (c : Dev nD) (t : Fin cfg0.N) (h0 : ¬t.val % 8 = 0) (y : S512x4096.Idx) :
    (outsAt0 m c t.val t.isLt).2.2 y = (outsAt0 m c (t.val - 1) (Nat.lt_of_le_of_lt (Nat.sub_le _ _) t.isLt)).2.2 y := by
  by_cases h1 : t.val % 8 = 7
  · rw [outsAt0_C m c t h0 h1]; rfl
  · rw [outsAt0_B m c t h0 h1]; rfl

theorem emb_w (t : Fin cfg0.N) (y : S512x4096.Idx) :
    ((((View.whole main_v1).slice (win0_2.rect t)).emb y 0 : ℕ) = 5168 + 512 * (t.val / 8) + y 0)
    ∧ ((((View.whole main_v1).slice (win0_2.rect t)).emb y 1 : ℕ) = y 1) := by
  constructor
  · refine (win0_2.rect_emb_val_off t y 0).trans ?_
    rw [(idx t).2.2.1]; rfl
  · refine (win0_2.rect_emb_val_off t y 1).trans ?_
    rw [(idx t).2.2.1]; exact Nat.zero_add _

theorem wtile (c : Dev nD) (t : Fin cfg0.N) (r : Fin 512) (k : Fin 4096) :
    iblk m c 2 t (ix2 r k) = m ((c : Thread nD τ).loc main_arg2)
      (ix3 0 k ⟨5168 + 512 * (t.val / 8) + r.val, by have := lt_of_lt_of_eq t.isLt (show cfg0.N = 64 from N_0); omega⟩) := by
  blk_simp [iblk, idx t]
  entry_read
  pointwise
  obtain ⟨h0, h1⟩ := emb_w t (ix2 r k)
  refine congrArg _ ((ix3_inj ..).2 ⟨rfl, Fin.ext h1, Fin.ext h0⟩)

theorem iblk_hold (c : Dev nD) (t s : Fin cfg0.N) (h : t.val / 8 = s.val / 8) (y : S512x4096.Idx) :
    iblk m c 2 t y = iblk m c 2 s y := by
  idx_vars y
  rw [wtile, wtile]
  simp only [h]

theorem scratch (c : Dev nD) (t : Fin cfg0.N) :
    (outsAt0 m c t.val t.isLt).2.2 = iblk m c 2 t := by
  funext y
  exact (Pipeline.eq_of_write_hold_apply (fun n h => (outsAt0 m c n h).2.2) 8 (fun t => iblk m c 2 t) (scratch_A m c)
    (scratch_hold m c) t y).trans (iblk_hold m c _ t (by show 8 * (t.val / 8) / 8 = t.val / 8; omega) y)

theorem out_p (c : Dev nD) (t : Fin cfg0.N) :
    (outsAt0 m c t.val t.isLt).1 = k0_pay5 (iblk m c 2 t) (iblk m c 0 t) := by
  by_cases h0 : t.val % 8 = 0
  · rw [outsAt0_A m c t h0 (by omega)]
    have hs := scratch_A m c t h0
    rw [outsAt0_A m c t h0 (by omega)] at hs
    frame_out at hs
    frame_out
    refine congrArg (fun s => k0_pay5 s (iblk m c 0 t)) ?_
    rw [View.readCov_eq_canon']
    funext y
    refine (hs _).trans (congrArg (iblk m c 2 t) ?_)
    funext a
    apply Fin.ext
    show ![0, 0] a + 1 * (y a).val = (y a).val
    fin_cases a <;> simp
  · by_cases h1 : t.val % 8 = 7
    · rw [← scratch m c t, outsAt0_C m c t h0 h1]
      frame_out
      rw [read_unread_whole]; rfl
    · rw [← scratch m c t, outsAt0_B m c t h0 h1]
      frame_out
      rw [read_unread_whole]; rfl

theorem out_s (c : Dev nD) (t : Fin cfg0.N) (h1 : t.val % 8 = 7) :
    (outsAt0 m c t.val t.isLt).2.1 = k0_pay6 (iblk m c 2 t) (iblk m c 1 t) := by
  have h0 : ¬t.val % 8 = 0 := by omega
  rw [← scratch m c t, outsAt0_C m c t h0 h1]
  frame_out
  rw [read_unread_whole]; rfl

theorem pay5_at (s : Vec Ideal S512x4096 .bf16) (x : Vec Ideal S1024x4096 .bf16) (r : Fin 1024) (j : Fin 512) :
    k0_pay5 (F := Ideal) s x (ix2 r j) = gelu (∑ k : Fin 4096, x (ix2 r k) * s (ix2 j k)) := by
  pointwise [k0_pay5, gelu]

theorem pay6_at (s : Vec Ideal S512x4096 .bf16) (x : Vec Ideal S32x4096 .bf16) (r : Fin 32) (j : Fin 512) :
    k0_pay6 (F := Ideal) s x (ix2 r j) = gelu (∑ k : Fin 4096, x (ix2 r k) * s (ix2 j k)) := by
  pointwise [k0_pay6, gelu]

theorem final_p (c : Dev nD) : (dats m 0 c).arrAt 3 (cfgs 0).N
    = fun i => gelu (z 8192 (m ((c : Thread nD τ).loc main_arg0)) (m ((c : Thread nD τ).loc main_arg2)) (i 0) (i 1)) := by
  refine (dats m 0 c).arrAt_eq_of_covers 3 _ (by decide +kernel) fun t _ y => ?_
  blk_simp
  rw [after0_3, out_p]
  idx_vars y
  rw [pay5_at]
  refine congrArg gelu (Finset.sum_congr rfl fun k _ => ?_)
  rw [wtile]
  refine Ideal.mul_congr ?_ ?_
  · blk_ext [iblk, V, idx t]
  · blk_ext [idx t]

theorem final_s (c : Dev nD) : (dats m 0 c).arrAt 4 (cfgs 0).N
    = fun i => gelu (z 32 (m ((c : Thread nD τ).loc main_arg1)) (m ((c : Thread nD τ).loc main_arg2)) (i 0) (i 1)) := by
  refine (dats m 0 c).arrAt_eq_of_covers 4 _ (by decide +kernel) fun t hf y => ?_
  have h7 : t.val % 8 = 7 := (flush0_4 t).mp hf
  blk_simp
  rw [after0_4, out_s m c t h7]
  idx_vars y
  rw [pay6_at]
  refine congrArg gelu (Finset.sum_congr rfl fun k _ => ?_)
  rw [wtile]
  refine Ideal.mul_congr ?_ ?_
  · blk_ext [iblk, V, idx t]
  · blk_ext [idx t]

end Cert.KernelIdeal.Value

namespace Cert.ReferenceIdeal.Value
open Cert.ReferenceIdeal Cert.ReferenceIdeal.Gen

theorem z_p (X : FVec Ideal S8192x4096 .bf16) (W : FVec Ideal S1x4096x17456 .f32) :
    extractStridedSlice S8192x4096 ![0, 5168]
      (Host.dotGeneral dot_S8192x4096_S4096x17456_S8192x17456_1_0_0_1_n_n none (extf .f32 X bitsLt_bf16_f32)
        (shapeCast S4096x17456 W shapeCasts_S1x4096x17456_S4096x17456)) slices_S8192x17456_S8192x4096_0_5168
    = fun i => Cert.KernelIdeal.Value.z 8192 X W (i 0) (i 1) := by
  funext i
  pointwise [Cert.KernelIdeal.Value.z]

theorem gelu_p (Z : FVec Ideal S8192x4096 .f32) :
    mulf Z (mulf (broadcastInDim S8192x4096 ![] bcast_S_S8192x4096 (constant S_ .f32 0x3F000000#32))
      (addf (broadcastInDim S8192x4096 ![] bcast_S_S8192x4096 (constant S_ .f32 0x3F800000#32))
        (Host.tanh (mulf (broadcastInDim S8192x4096 ![] bcast_S_S8192x4096 (constant S_ .f32 0x3F4C422A#32))
          (addf Z (mulf (broadcastInDim S8192x4096 ![] bcast_S_S8192x4096 (constant S_ .f32 0x3D372713#32))
            (mulf (mulf Z Z) Z)))))))
    = fun i => gelu (Z i) := by
  funext i
  pointwise [gelu]

theorem z_s (X : FVec Ideal S32x4096 .bf16) (W : FVec Ideal S1x4096x17456 .f32) :
    extractStridedSlice S32x4096 ![0, 5168]
      (Host.dotGeneral dot_S32x4096_S4096x17456_S32x17456_1_0_0_1_n_n none (extf .f32 X bitsLt_bf16_f32)
        (shapeCast S4096x17456 W shapeCasts_S1x4096x17456_S4096x17456)) slices_S32x17456_S32x4096_0_5168
    = fun i => Cert.KernelIdeal.Value.z 32 X W (i 0) (i 1) := by
  funext i
  pointwise [Cert.KernelIdeal.Value.z]

theorem gelu_s (Z : FVec Ideal S32x4096 .f32) :
    mulf Z (mulf (broadcastInDim S32x4096 ![] bcast_S_S32x4096 (constant S_ .f32 0x3F000000#32))
      (addf (broadcastInDim S32x4096 ![] bcast_S_S32x4096 (constant S_ .f32 0x3F800000#32))
        (Host.tanh (mulf (broadcastInDim S32x4096 ![] bcast_S_S32x4096 (constant S_ .f32 0x3F4C422A#32))
          (addf Z (mulf (broadcastInDim S32x4096 ![] bcast_S_S32x4096 (constant S_ .f32 0x3D372713#32))
            (mulf (mulf Z Z) Z)))))))
    = fun i => gelu (Z i) := by
  funext i
  pointwise [gelu]

end Cert.ReferenceIdeal.Value

namespace Cert.Proof

theorem frame_uv_ref : Cert.quiescent_ReferenceIdeal :=
  fun m g _ => (θ_run Cert.ReferenceIdeal.defs _ _).mono (fun r h => ⟨fun c => (h c).2.2,
    Idealize.ShloMosaic.sem_eq_zero_of_no_sems (by decide) r.2⟩) (Cert.ReferenceIdeal.Value.run m g)

theorem algebraic_uv : Cert.algebraic_KernelIdeal_ReferenceIdeal := by
  pair_intro
  · run_from Cert.KernelIdeal.Gen.run_main m g
  · run_from Cert.ReferenceIdeal.Value.run m' g'
    · refine Eq.trans ?_ (Cert.KernelIdeal.Value.final_p m c).symm
      refine (Cert.ReferenceIdeal.Value.gelu_p _).trans ?_
      rw [Cert.ReferenceIdeal.Value.z_p]
      rfl
    · refine Eq.trans ?_ (Cert.KernelIdeal.Value.final_s m c).symm
      refine (Cert.ReferenceIdeal.Value.gelu_s _).trans ?_
      rw [Cert.ReferenceIdeal.Value.z_s]
      rfl

end Cert.Proof

end
-- ==== Proof.InProjQkv.lean ====
module

public import proofs.«01_k».proof.Defs
public import proofs.«01_k».proof.Proof.Gen.Kernel2Ideal.Frame
public import proofs.«01_k».proof.Proof.Gen.Reference2Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel2Ideal.Value
open Cert.Kernel2Ideal Cert.Kernel2Ideal.Gen

variable (m : (ℓ : Loc nD τ sig) → Buf (Elt Ideal) ℓ)

theorem idx : ∀ t : Fin cfg0.N, win0_0.index t = ![t.val % 8, 0] ∧ win0_1.index t = ![0, 0]
    ∧ win0_2.index t = ![512 * (t.val / 8), 0] ∧ win0_3.index t = ![t.val % 8, t.val / 8]
    ∧ win0_4.index t = ![0, t.val / 8] :=
  (by decide +kernel : ∀ t : Fin grid0.N, _)

/-- one entry of the projection: row `r` of the inputs against column `j` of the weights -/
def z (n : ℕ) (X : (⟨2, ![n, 4096]⟩ : Shape).Idx → EReal) (W : S1x4096x17456.Idx → EReal) (r : Fin n) (j : Fin 5632) : EReal :=
  ∑ k : Fin 4096, X (ix2 r k) * W (ix3 0 k ⟨j.val, by omega⟩)

theorem scratch_A (c : Dev nD) (t : Fin cfg0.N) (h0 : t.val % 8 = 0) (y : S512x4096.Idx) :
    (outsAt0 m c t.val t.isLt).2.2 y = iblk m c 2 t y := by
  rw [outsAt0_A m c t h0 (by omega)]
  frame_out
  clear h0
  canon_tiles x h
  all_goals (open_payloads; pointwise; blk_ext)

theorem scratch_hold (c : Dev nD) (t : Fin cfg0.N) (h0 : ¬t.val % 8 = 0) (y : S512x4096.Idx) :
    (outsAt0 m c t.val t.isLt).2.2 y = (outsAt0 m c (t.val - 1) (Nat.lt_of_le_of_lt (Nat.sub_le _ _) t.isLt)).2.2 y := by
  by_cases h1 : t.val % 8 = 7
  · rw [outsAt0_C m c t h0 h1]; rfl
  · rw [outsAt0_B m c t h0 h1]; rfl

theorem emb_w (t : Fin cfg0.N) (y : S512x4096.Idx) :
    ((((View.whole main_v1).slice (win0_2.rect t)).emb y 0 : ℕ) = 512 * (t.val / 8) + y 0)
    ∧ ((((View.whole main_v1).slice (win0_2.rect t)).emb y 1 : ℕ) = y 1) := by
  constructor
  · refine (win0_2.rect_emb_val_off t y 0).trans ?_
    rw [(idx t).2.2.1]; rfl
  · refine (win0_2.rect_emb_val_off t y 1).trans ?_
    rw [(idx t).2.2.1]; exact Nat.zero_add _

theorem wtile (c : Dev nD) (t : Fin cfg0.N) (r : Fin 512) (k : Fin 4096) :
    iblk m c 2 t (ix2 r k) = m ((c : Thread nD τ).loc main_arg2)
      (ix3 0 k ⟨512 * (t.val / 8) + r.val, by have := lt_of_lt_of_eq t.isLt (show cfg0.N = 88 from N_0); omega⟩) := by
  blk_simp [iblk, idx t]
  entry_read
  pointwise
  obtain ⟨h0, h1⟩ := emb_w t (ix2 r k)
  refine congrArg _ ((ix3_inj ..).2 ⟨rfl, Fin.ext h1, Fin.ext h0⟩)

theorem iblk_hold (c : Dev nD) (t s : Fin cfg0.N) (h : t.val / 8 = s.val / 8) (y : S512x4096.Idx) :
    iblk m c 2 t y = iblk m c 2 s y := by
  idx_vars y
  rw [wtile, wtile]
  simp only [h]

theorem scratch (c : Dev nD) (t : Fin cfg0.N) :
    (outsAt0 m c t.val t.isLt).2.2 = iblk m c 2 t := by
  funext y
  exact (Pipeline.eq_of_write_hold_apply (fun n h => (outsAt0 m c n h).2.2) 8 (fun t => iblk m c 2 t) (scratch_A m c)
    (scratch_hold m c) t y).trans (iblk_hold m c _ t (by show 8 * (t.val / 8) / 8 = t.val / 8; omega) y)

theorem out_p (c : Dev nD) (t : Fin cfg0.N) :
    (outsAt0 m c t.val t.isLt).1 = k0_pay5 (iblk m c 2 t) (iblk m c 0 t) := by
  by_cases h0 : t.val % 8 = 0
  · rw [outsAt0_A m c t h0 (by omega)]
    have hs := scratch_A m c t h0
    rw [outsAt0_A m c t h0 (by omega)] at hs
    frame_out at hs
    frame_out
    refine congrArg (fun s => k0_pay5 s (iblk m c 0 t)) ?_
    rw [View.readCov_eq_canon']
    funext y
    refine (hs _).trans (congrArg (iblk m c 2 t) ?_)
    funext a
    apply Fin.ext
    show ![0, 0] a + 1 * (y a).val = (y a).val
    fin_cases a <;> simp
  · by_cases h1 : t.val % 8 = 7
    · rw [← scratch m c t, outsAt0_C m c t h0 h1]
      frame_out
      rw [read_unread_whole]; rfl
    · rw [← scratch m c t, outsAt0_B m c t h0 h1]
      frame_out
      rw [read_unread_whole]; rfl

theorem out_s (c : Dev nD) (t : Fin cfg0.N) (h1 : t.val % 8 = 7) :
    (outsAt0 m c t.val t.isLt).2.1 = k0_pay6 (iblk m c 2 t) (iblk m c 1 t) := by
  have h0 : ¬t.val % 8 = 0 := by omega
  rw [← scratch m c t, outsAt0_C m c t h0 h1]
  frame_out
  rw [read_unread_whole]; rfl

theorem pay5_at (s : Vec Ideal S512x4096 .bf16) (x : Vec Ideal S1024x4096 .bf16) (r : Fin 1024) (j : Fin 512) :
    k0_pay5 (F := Ideal) s x (ix2 r j) = ∑ k : Fin 4096, x (ix2 r k) * s (ix2 j k) := by
  pointwise [k0_pay5]

theorem pay6_at (s : Vec Ideal S512x4096 .bf16) (x : Vec Ideal S32x4096 .bf16) (r : Fin 32) (j : Fin 512) :
    k0_pay6 (F := Ideal) s x (ix2 r j) = ∑ k : Fin 4096, x (ix2 r k) * s (ix2 j k) := by
  pointwise [k0_pay6]

theorem final_p (c : Dev nD) : (dats m 0 c).arrAt 3 (cfgs 0).N
    = fun i => z 8192 (m ((c : Thread nD τ).loc main_arg0)) (m ((c : Thread nD τ).loc main_arg2)) (i 0) (i 1) := by
  refine (dats m 0 c).arrAt_eq_of_covers 3 _ (by decide +kernel) fun t _ y => ?_
  blk_simp
  rw [after0_3, out_p]
  idx_vars y
  rw [pay5_at]
  refine Finset.sum_congr (M := EReal) (s₁ := (Finset.univ : Finset (Fin 4096))) rfl fun k _ => ?_
  rw [wtile]
  refine Ideal.mul_congr ?_ ?_
  · blk_ext [iblk, V, idx t]
  · blk_ext [idx t]

theorem final_s (c : Dev nD) : (dats m 0 c).arrAt 4 (cfgs 0).N
    = fun i => z 32 (m ((c : Thread nD τ).loc main_arg1)) (m ((c : Thread nD τ).loc main_arg2)) (i 0) (i 1) := by
  refine (dats m 0 c).arrAt_eq_of_covers 4 _ (by decide +kernel) fun t hf y => ?_
  have h7 : t.val % 8 = 7 := (flush0_4 t).mp hf
  blk_simp
  rw [after0_4, out_s m c t h7]
  idx_vars y
  rw [pay6_at]
  refine Finset.sum_congr (M := EReal) (s₁ := (Finset.univ : Finset (Fin 4096))) rfl fun k _ => ?_
  rw [wtile]
  refine Ideal.mul_congr ?_ ?_
  · blk_ext [iblk, V, idx t]
  · blk_ext [idx t]

end Cert.Kernel2Ideal.Value

namespace Cert.Reference2Ideal.Value
open Cert.Reference2Ideal Cert.Reference2Ideal.Gen

theorem z_p (X : FVec Ideal S8192x4096 .bf16) (W : FVec Ideal S1x4096x17456 .f32) :
    extractStridedSlice S8192x5632 ![0, 0]
      (Host.dotGeneral dot_S8192x4096_S4096x17456_S8192x17456_1_0_0_1_n_n none (extf .f32 X bitsLt_bf16_f32)
        (shapeCast S4096x17456 W shapeCasts_S1x4096x17456_S4096x17456)) slices_S8192x17456_S8192x5632_0_0
    = fun i => Cert.Kernel2Ideal.Value.z 8192 X W (i 0) (i 1) := by
  funext i
  pointwise [Cert.Kernel2Ideal.Value.z]

theorem z_s (X : FVec Ideal S32x4096 .bf16) (W : FVec Ideal S1x4096x17456 .f32) :
    extractStridedSlice S32x5632 ![0, 0]
      (Host.dotGeneral dot_S32x4096_S4096x17456_S32x17456_1_0_0_1_n_n none (extf .f32 X bitsLt_bf16_f32)
        (shapeCast S4096x17456 W shapeCasts_S1x4096x17456_S4096x17456)) slices_S32x17456_S32x5632_0_0
    = fun i => Cert.Kernel2Ideal.Value.z 32 X W (i 0) (i 1) := by
  funext i
  pointwise [Cert.Kernel2Ideal.Value.z]

end Cert.Reference2Ideal.Value

namespace Cert.Proof

theorem frame_qkv_ref : Cert.quiescent_Reference2Ideal :=
  fun m g _ => (θ_run Cert.Reference2Ideal.defs _ _).mono (fun r h => ⟨fun c => (h c).2.2,
    Idealize.ShloMosaic.sem_eq_zero_of_no_sems (by decide) r.2⟩) (Cert.Reference2Ideal.Value.run m g)

theorem algebraic_qkv : Cert.algebraic_Kernel2Ideal_Reference2Ideal := by
  pair_intro
  · run_from Cert.Kernel2Ideal.Gen.run_main m g
  · run_from Cert.Reference2Ideal.Value.run m' g'
    · exact (Cert.Reference2Ideal.Value.z_p _ _).trans (Cert.Kernel2Ideal.Value.final_p m c).symm
    · exact (Cert.Reference2Ideal.Value.z_s _ _).trans (Cert.Kernel2Ideal.Value.final_s m c).symm

end Cert.Proof

end
-- ==== Proof.InProjGate.lean ====
module

public import proofs.«01_k».proof.Defs
public import proofs.«01_k».proof.Proof.Gen.Kernel3Ideal.Frame
public import proofs.«01_k».proof.Proof.Gen.Reference3Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel3Ideal.Value
open Cert.Kernel3Ideal Cert.Kernel3Ideal.Gen

variable (m : (ℓ : Loc nD τ sig) → Buf (Elt Ideal) ℓ)

theorem idx : ∀ t : Fin cfg0.N, win0_0.index t = ![t.val % 8, 0] ∧ win0_1.index t = ![0, 0]
    ∧ win0_2.index t = ![9264 + 512 * (t.val / 8), 0] ∧ win0_3.index t = ![t.val % 8, t.val / 8]
    ∧ win0_4.index t = ![0, t.val / 8] :=
  (by decide +kernel : ∀ t : Fin grid0.N, _)

/-- one entry of the projection: row `r` of the inputs against column `9264 + j` of the weights -/
def z (n : ℕ) (X : (⟨2, ![n, 4096]⟩ : Shape).Idx → EReal) (W : S1x4096x17456.Idx → EReal) (r : Fin n) (j : Fin 8192) : EReal :=
  ∑ k : Fin 4096, X (ix2 r k) * W (ix3 0 k ⟨9264 + j.val, by omega⟩)

theorem scratch_A (c : Dev nD) (t : Fin cfg0.N) (h0 : t.val % 8 = 0) (y : S512x4096.Idx) :
    (outsAt0 m c t.val t.isLt).2.2 y = iblk m c 2 t y := by
  rw [outsAt0_A m c t h0 (by omega)]
  frame_out
  clear h0
  canon_tiles x h
  all_goals (open_payloads; pointwise; blk_ext)

theorem scratch_hold (c : Dev nD) (t : Fin cfg0.N) (h0 : ¬t.val % 8 = 0) (y : S512x4096.Idx) :
    (outsAt0 m c t.val t.isLt).2.2 y = (outsAt0 m c (t.val - 1) (Nat.lt_of_le_of_lt (Nat.sub_le _ _) t.isLt)).2.2 y := by
  by_cases h1 : t.val % 8 = 7
  · rw [outsAt0_C m c t h0 h1]; rfl
  · rw [outsAt0_B m c t h0 h1]; rfl

theorem emb_w (t : Fin cfg0.N) (y : S512x4096.Idx) :
    ((((View.whole main_v1).slice (win0_2.rect t)).emb y 0 : ℕ) = 9264 + 512 * (t.val / 8) + y 0)
    ∧ ((((View.whole main_v1).slice (win0_2.rect t)).emb y 1 : ℕ) = y 1) := by
  constructor
  · refine (win0_2.rect_emb_val_off t y 0).trans ?_
    rw [(idx t).2.2.1]; rfl
  · refine (win0_2.rect_emb_val_off t y 1).trans ?_
    rw [(idx t).2.2.1]; exact Nat.zero_add _

theorem wtile (c : Dev nD) (t : Fin cfg0.N) (r : Fin 512) (k : Fin 4096) :
    iblk m c 2 t (ix2 r k) = m ((c : Thread nD τ).loc main_arg2)
      (ix3 0 k ⟨9264 + 512 * (t.val / 8) + r.val, by have := lt_of_lt_of_eq t.isLt (show cfg0.N = 128 from N_0); omega⟩) := by
  blk_simp [iblk, idx t]
  entry_read
  pointwise
  obtain ⟨h0, h1⟩ := emb_w t (ix2 r k)
  refine congrArg _ ((ix3_inj ..).2 ⟨rfl, Fin.ext h1, Fin.ext h0⟩)

theorem iblk_hold (c : Dev nD) (t s : Fin cfg0.N) (h : t.val / 8 = s.val / 8) (y : S512x4096.Idx) :
    iblk m c 2 t y = iblk m c 2 s y := by
  idx_vars y
  rw [wtile, wtile]
  simp only [h]

theorem scratch (c : Dev nD) (t : Fin cfg0.N) :
    (outsAt0 m c t.val t.isLt).2.2 = iblk m c 2 t := by
  funext y
  exact (Pipeline.eq_of_write_hold_apply (fun n h => (outsAt0 m c n h).2.2) 8 (fun t => iblk m c 2 t) (scratch_A m c)
    (scratch_hold m c) t y).trans (iblk_hold m c _ t (by show 8 * (t.val / 8) / 8 = t.val / 8; omega) y)

theorem out_p (c : Dev nD) (t : Fin cfg0.N) :
    (outsAt0 m c t.val t.isLt).1 = k0_pay5 (iblk m c 2 t) (iblk m c 0 t) := by
  by_cases h0 : t.val % 8 = 0
  · rw [outsAt0_A m c t h0 (by omega)]
    have hs := scratch_A m c t h0
    rw [outsAt0_A m c t h0 (by omega)] at hs
    frame_out at hs
    frame_out
    refine congrArg (fun s => k0_pay5 s (iblk m c 0 t)) ?_
    rw [View.readCov_eq_canon']
    funext y
    refine (hs _).trans (congrArg (iblk m c 2 t) ?_)
    funext a
    apply Fin.ext
    show ![0, 0] a + 1 * (y a).val = (y a).val
    fin_cases a <;> simp
  · by_cases h1 : t.val % 8 = 7
    · rw [← scratch m c t, outsAt0_C m c t h0 h1]
      frame_out
      rw [read_unread_whole]; rfl
    · rw [← scratch m c t, outsAt0_B m c t h0 h1]
      frame_out
      rw [read_unread_whole]; rfl

theorem out_s (c : Dev nD) (t : Fin cfg0.N) (h1 : t.val % 8 = 7) :
    (outsAt0 m c t.val t.isLt).2.1 = k0_pay6 (iblk m c 2 t) (iblk m c 1 t) := by
  have h0 : ¬t.val % 8 = 0 := by omega
  rw [← scratch m c t, outsAt0_C m c t h0 h1]
  frame_out
  rw [read_unread_whole]; rfl

theorem pay5_at (s : Vec Ideal S512x4096 .bf16) (x : Vec Ideal S1024x4096 .bf16) (r : Fin 1024) (j : Fin 512) :
    k0_pay5 (F := Ideal) s x (ix2 r j) = logis (∑ k : Fin 4096, x (ix2 r k) * s (ix2 j k)) := by
  pointwise [k0_pay5, half_tanh]

theorem pay6_at (s : Vec Ideal S512x4096 .bf16) (x : Vec Ideal S32x4096 .bf16) (r : Fin 32) (j : Fin 512) :
    k0_pay6 (F := Ideal) s x (ix2 r j) = logis (∑ k : Fin 4096, x (ix2 r k) * s (ix2 j k)) := by
  pointwise [k0_pay6, half_tanh]

theorem final_p (c : Dev nD) : (dats m 0 c).arrAt 3 (cfgs 0).N
    = fun i => logis (z 8192 (m ((c : Thread nD τ).loc main_arg0)) (m ((c : Thread nD τ).loc main_arg2)) (i 0) (i 1)) := by
  refine (dats m 0 c).arrAt_eq_of_covers 3 _ (by decide +kernel) fun t _ y => ?_
  blk_simp
  rw [after0_3, out_p]
  idx_vars y
  rw [pay5_at]
  refine congrArg logis (Finset.sum_congr rfl fun k _ => ?_)
  rw [wtile]
  refine Ideal.mul_congr ?_ ?_
  · blk_ext [iblk, V, idx t]
  · blk_ext [idx t]

theorem final_s (c : Dev nD) : (dats m 0 c).arrAt 4 (cfgs 0).N
    = fun i => logis (z 32 (m ((c : Thread nD τ).loc main_arg1)) (m ((c : Thread nD τ).loc main_arg2)) (i 0) (i 1)) := by
  refine (dats m 0 c).arrAt_eq_of_covers 4 _ (by decide +kernel) fun t hf y => ?_
  have h7 : t.val % 8 = 7 := (flush0_4 t).mp hf
  blk_simp
  rw [after0_4, out_s m c t h7]
  idx_vars y
  rw [pay6_at]
  refine congrArg logis (Finset.sum_congr rfl fun k _ => ?_)
  rw [wtile]
  refine Ideal.mul_congr ?_ ?_
  · blk_ext [iblk, V, idx t]
  · blk_ext [idx t]

end Cert.Kernel3Ideal.Value

namespace Cert.Reference3Ideal.Value
open Cert.Reference3Ideal Cert.Reference3Ideal.Gen

theorem z_p (X : FVec Ideal S8192x4096 .bf16) (W : FVec Ideal S1x4096x17456 .f32) :
    extractStridedSlice S8192x8192 ![0, 9264]
      (Host.dotGeneral dot_S8192x4096_S4096x17456_S8192x17456_1_0_0_1_n_n none (extf .f32 X bitsLt_bf16_f32)
        (shapeCast S4096x17456 W shapeCasts_S1x4096x17456_S4096x17456)) slices_S8192x17456_S8192x8192_0_9264
    = fun i => Cert.Kernel3Ideal.Value.z 8192 X W (i 0) (i 1) := by
  funext i
  pointwise [Cert.Kernel3Ideal.Value.z]

theorem sig_p (Z : FVec Ideal S8192x8192 .f32) :
    truncf .bf16 (Host.divf (broadcastInDim S8192x8192 ![] bcast_S_S8192x8192 (constant S_ .f32 0x3F800000#32))
      (addf (broadcastInDim S8192x8192 ![] bcast_S_S8192x8192 (constant S_ .f32 0x3F800000#32)) (Host.exp (Host.negf Z)))) bitsLt_bf16_f32
    = fun i => logis (Z i) := by
  funext i
  pointwise [logis]

theorem z_s (X : FVec Ideal S32x4096 .bf16) (W : FVec Ideal S1x4096x17456 .f32) :
    extractStridedSlice S32x8192 ![0, 9264]
      (Host.dotGeneral dot_S32x4096_S4096x17456_S32x17456_1_0_0_1_n_n none (extf .f32 X bitsLt_bf16_f32)
        (shapeCast S4096x17456 W shapeCasts_S1x4096x17456_S4096x17456)) slices_S32x17456_S32x8192_0_9264
    = fun i => Cert.Kernel3Ideal.Value.z 32 X W (i 0) (i 1) := by
  funext i
  pointwise [Cert.Kernel3Ideal.Value.z]

theorem sig_s (Z : FVec Ideal S32x8192 .f32) :
    truncf .bf16 (Host.divf (broadcastInDim S32x8192 ![] bcast_S_S32x8192 (constant S_ .f32 0x3F800000#32))
      (addf (broadcastInDim S32x8192 ![] bcast_S_S32x8192 (constant S_ .f32 0x3F800000#32)) (Host.exp (Host.negf Z)))) bitsLt_bf16_f32
    = fun i => logis (Z i) := by
  funext i
  pointwise [logis]

end Cert.Reference3Ideal.Value

namespace Cert.Proof

theorem frame_gate_ref : Cert.quiescent_Reference3Ideal :=
  fun m g _ => (θ_run Cert.Reference3Ideal.defs _ _).mono (fun r h => ⟨fun c => (h c).2.2,
    Idealize.ShloMosaic.sem_eq_zero_of_no_sems (by decide) r.2⟩) (Cert.Reference3Ideal.Value.run m g)

theorem algebraic_gate : Cert.algebraic_Kernel3Ideal_Reference3Ideal := by
  pair_intro
  · run_from Cert.Kernel3Ideal.Gen.run_main m g
  · run_from Cert.Reference3Ideal.Value.run m' g'
    · refine Eq.trans ?_ (Cert.Kernel3Ideal.Value.final_p m c).symm
      refine (Cert.Reference3Ideal.Value.sig_p _).trans ?_
      rw [Cert.Reference3Ideal.Value.z_p]
      rfl
    · refine Eq.trans ?_ (Cert.Kernel3Ideal.Value.final_s m c).symm
      refine (Cert.Reference3Ideal.Value.sig_s _).trans ?_
      rw [Cert.Reference3Ideal.Value.z_s]
      rfl

end Cert.Proof

end
-- ==== Proof.FfnUp.lean ====
module

public import proofs.«01_k».proof.Defs
public import proofs.«01_k».proof.Proof.Gen.Kernel4Ideal.Frame
public import proofs.«01_k».proof.Proof.Gen.Reference4Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel4Ideal.Value
open Cert.Kernel4Ideal Cert.Kernel4Ideal.Gen

variable (m : (ℓ : Loc nD τ sig) → Buf (Elt Ideal) ℓ)

theorem idx : ∀ t : Fin cfg0.N, win0_0.index t = ![t.val % 8, 0] ∧ win0_1.index t = ![0, 0]
    ∧ win0_2.index t = ![0, t.val / 8] ∧ win0_3.index t = ![0, t.val / 8 + 43]
    ∧ win0_4.index t = ![0, t.val / 8] ∧ win0_5.index t = ![0, t.val / 8 + 43]
    ∧ win0_6.index t = ![0, t.val / 8] ∧ win0_7.index t = ![0, t.val / 8 + 43]
    ∧ win0_8.index t = ![0, t.val / 8] ∧ win0_9.index t = ![0, t.val / 8 + 43]
    ∧ win0_10.index t = ![0, t.val / 8] ∧ win0_11.index t = ![0, t.val / 8 + 43]
    ∧ win0_12.index t = ![t.val % 8, t.val / 8] ∧ win0_13.index t = ![t.val % 8 / 2, 0, t.val / 8]
    ∧ win0_14.index t = ![t.val % 8 / 2, 0, t.val / 8] ∧ win0_15.index t = ![0, t.val / 8]
    ∧ win0_16.index t = ![0, t.val / 8] ∧ win0_17.index t = ![0, t.val / 8] :=
  (by decide +kernel : ∀ t : Fin grid0.N, _)

/-- one entry of the up projection -/
def up (n : ℕ) (X : (⟨2, ![n, 4096]⟩ : Shape).Idx → EReal) (W : S1x4096x22016.Idx → EReal) (q : Fin 22016) (r : Fin n) : EReal :=
  ∑ k : Fin 4096, X (ix2 r k) * W (ix3 0 k q)

/-- a column of the first half, and the same column of the second -/
def lo (q : Fin 11008) : Fin 22016 := ⟨q.val, lt_trans q.isLt (by decide)⟩
def hi (q : Fin 11008) : Fin 22016 := ⟨11008 + q.val, Nat.add_lt_add_left q.isLt 11008⟩

/-- the row `d` rows earlier in the same sequence of 2048 rows, zero before its start -/
def back (u : Fin 8192 → EReal) (d : ℕ) (r : Fin 8192) : EReal :=
  if r.val % 2048 < d then 0 else u ⟨r.val - d, lt_of_le_of_lt (Nat.sub_le _ _) r.isLt⟩

/-- the three taps of one column, the oldest row first -/
def taps (cw : S1x3x22016.Idx → EReal) (cb : S1x22016.Idx → EReal) (q : Fin 22016) (a b c : EReal) : EReal :=
  ((cb (ix2 0 q) + a * cw (ix3 0 0 q)) + b * cw (ix3 0 1 q)) + c * cw (ix3 0 2 q)

/-- the first half through silu, times the second -/
def glu (a b : EReal) : EReal := a * logis a * b

def act_p (X : S8192x4096.Idx → EReal) (W : S1x4096x22016.Idx → EReal) (cw : S1x3x22016.Idx → EReal)
    (cb : S1x22016.Idx → EReal) : S8192x11008.Idx → EReal :=
  fun i =>
    let f := fun q => taps cw cb q (back (up 8192 X W q) 2 (i 0)) (back (up 8192 X W q) 1 (i 0)) (up 8192 X W q (i 0))
    glu (f (lo (i 1))) (f (hi (i 1)))

def act_s (X : S32x4096.Idx → EReal) (W : S1x4096x22016.Idx → EReal) (cw : S1x3x22016.Idx → EReal)
    (cb : S1x22016.Idx → EReal) (H : S1x32x2x22016.Idx → EReal) : S32x11008.Idx → EReal :=
  fun i =>
    let f := fun q => taps cw cb q (H (ix4 0 (i 0) 0 q)) (H (ix4 0 (i 0) 1 q)) (up 32 X W q (i 0))
    glu (f (lo (i 1))) (f (hi (i 1)))

/-- the last two rows of each sequence -/
def tail (half : Fin 11008 → Fin 22016) (X : S8192x4096.Idx → EReal) (W : S1x4096x22016.Idx → EReal) : S4x2x11008.Idx → EReal :=
  fun i => up 8192 X W (half (i 2)) ⟨2048 * (i 0).val + 2046 + (i 1).val, by have h0 : (i 0).val < 4 := (i 0).isLt; have h1 : (i 1).val < 2 := (i 1).isLt; omega⟩

def row_s (half : Fin 11008 → Fin 22016) (X : S32x4096.Idx → EReal) (W : S1x4096x22016.Idx → EReal) : S32x11008.Idx → EReal :=
  fun i => up 32 X W (half (i 1)) (i 0)

/-- `d` rows earlier within a tile, the eight rows before the tile given -/
def prev (u : Fin 1024 → EReal) (h : Fin 8 → EReal) (d : ℕ) (r : Fin 1024) : EReal :=
  if hr : r.val < d then h ⟨(8 + r.val - d) % 8, Nat.mod_lt _ (by decide)⟩ else u ⟨r.val - d, lt_of_le_of_lt (Nat.sub_le _ _) r.isLt⟩

theorem at_same {n : ℕ} (f : Fin n → EReal) {a b : ℕ} (ha : a < n) (hb : b < n) (e : a = b) : f ⟨a, ha⟩ = f ⟨b, hb⟩ := by
  subst e; rfl

theorem conv_at (u : FVec Ideal S1024x256 .f32) (w0 w1 w2 cb : FVec Ideal S1x256 .f32) (h : FVec Ideal S8x256 .f32)
    (r : Fin 1024) (j : Fin 256) :
    k0_pay93 u w0 w1 w2 cb h (ix2 r j) = ((cb (ix2 0 j) + prev (fun a => u (ix2 a j)) (fun a => h (ix2 a j)) 2 r * w0 (ix2 0 j))
      + prev (fun a => u (ix2 a j)) (fun a => h (ix2 a j)) 1 r * w1 (ix2 0 j)) + u (ix2 r j) * w2 (ix2 0 j) := by
  have e : ∀ a b c d : EReal, a + b + c + d = a + d + c + b := fun a b c d => by abel
  rw [e]
  pointwise [k0_pay93, prev]
  by_cases hr : r.val < 8
  · rw [dif_pos hr]
    refine congrArg₂ (α := EReal) (β := EReal) (· + ·) (congrArg₂ (α := EReal) (β := EReal) (· + ·) rfl (Ideal.mul_congr ?_ rfl))
      (Ideal.mul_congr ?_ rfl)
    all_goals
      split_ifs
      all_goals first
        | (exfalso; omega)
        | exact at_same (fun a => h (ix2 a j)) _ _ (by omega)
        | exact at_same (fun a => u (ix2 a j)) _ _ (by omega)
        | (rw [dif_neg (by omega)]; exact at_same (fun a => u (ix2 a j)) _ _ (by omega))
  · rw [dif_neg hr, ← add_assoc]
    refine congrArg₂ (α := EReal) (β := EReal) (· + ·) (congrArg₂ (α := EReal) (β := EReal) (· + ·)
      (congrArg₂ (α := EReal) (β := EReal) (· + ·) rfl (Ideal.mul_congr ?_ rfl)) (Ideal.mul_congr ?_ rfl))
      (Ideal.mul_congr ?_ rfl)
    · exact at_same (fun a => u (ix2 a j)) _ r.isLt (by omega)
    all_goals
      rw [dif_neg (by omega)]
      exact at_same (fun a => u (ix2 a j)) _ _ (by omega)

/-- one half of the tile after the convolution -/
def half (x : Vec Ideal S1024x4096 .bf16) (w : Vec Ideal S4096x256 .bf16) (cw : Vec Ideal S3x256 .f32)
    (cb : Vec Ideal S1x256 .f32) (h : Vec Ideal S8x256 .f32) : FVec Ideal S1024x256 .f32 :=
  k0_pay93 (k0_pay89 x w) (k0_pay90 (View.ld cw (Rect.unit ![0, 0] ![1, 256] inb_S3x256_S1x256_0_0)))
    (k0_pay91 (View.ld cw (Rect.unit ![1, 0] ![1, 256] inb_S3x256_S1x256_1_0)))
    (k0_pay92 (View.ld cw (Rect.unit ![2, 0] ![1, 256] inb_S3x256_S1x256_2_0))) cb h

theorem half_first (x : Vec Ideal S1024x4096 .bf16) (w : Vec Ideal S4096x256 .bf16) (cw : Vec Ideal S3x256 .f32)
    (cb : Vec Ideal S1x256 .f32) (h : Vec Ideal S8x256 .f32) :
    k0_pay86 (k0_pay79 x w) (k0_pay80 (View.ld cw (Rect.unit ![0, 0] ![1, 256] inb_S3x256_S1x256_0_0)))
      (k0_pay81 (View.ld cw (Rect.unit ![1, 0] ![1, 256] inb_S3x256_S1x256_1_0)))
      (k0_pay82 (View.ld cw (Rect.unit ![2, 0] ![1, 256] inb_S3x256_S1x256_2_0))) (k0_pay83 cb)
      (k0_pay84 x w (View.ld cw (Rect.unit ![1, 0] ![1, 256] inb_S3x256_S1x256_1_0)))
      (k0_pay85 x w (View.ld cw (Rect.unit ![0, 0] ![1, 256] inb_S3x256_S1x256_0_0))) h = half x w cw cb h := rfl

theorem mm_at (x : Vec Ideal S1024x4096 .bf16) (w : Vec Ideal S4096x256 .bf16) (r : Fin 1024) (j : Fin 256) :
    k0_pay89 (F := Ideal) x w (ix2 r j) = ∑ k : Fin 4096, x (ix2 r k) * w (ix2 k j) := by
  pointwise [k0_pay89]

theorem half_at (x : Vec Ideal S1024x4096 .bf16) (w : Vec Ideal S4096x256 .bf16) (cw : Vec Ideal S3x256 .f32)
    (cb : Vec Ideal S1x256 .f32) (h : Vec Ideal S8x256 .f32) (r : Fin 1024) (j : Fin 256) :
    half x w cw cb h (ix2 r j) = ((cb (ix2 0 j) + prev (fun a => k0_pay89 (F := Ideal) x w (ix2 a j)) (fun a => h (ix2 a j)) 2 r * cw (ix2 0 j))
      + prev (fun a => k0_pay89 (F := Ideal) x w (ix2 a j)) (fun a => h (ix2 a j)) 1 r * cw (ix2 1 j)) + k0_pay89 (F := Ideal) x w (ix2 r j) * cw (ix2 2 j) := by
  rw [half, conv_at]
  refine congrArg₂ (α := EReal) (β := EReal) (· + ·) (congrArg₂ (α := EReal) (β := EReal) (· + ·)
    (congrArg₂ (α := EReal) (β := EReal) (· + ·) rfl (Ideal.mul_congr rfl ?_)) (Ideal.mul_congr rfl ?_))
    (Ideal.mul_congr rfl ?_)
  all_goals pointwise [k0_pay90, k0_pay91, k0_pay92]

/-- the activated tile -/
def actv (x : Vec Ideal S1024x4096 .bf16) (wa wb : Vec Ideal S4096x256 .bf16) (cwa cwb : Vec Ideal S3x256 .f32)
    (cba cbb : Vec Ideal S1x256 .f32) (ha hb : Vec Ideal S8x256 .f32) : FVec Ideal S1024x256 .bf16 :=
  k0_pay1 (half x wa cwa cba ha) (half x wb cwb cbb hb) (k0_pay96 (half x wa cwa cba ha))

theorem glu_at (a b : FVec Ideal S1024x256 .f32) (i : S1024x256.Idx) :
    k0_pay1 (F := Ideal) a b (k0_pay96 a) i = glu (a i) (b i) := by
  rw [glu, ← half_tanh]
  pointwise [k0_pay1, k0_pay96]

theorem scratch_a_A (c : Dev nD) (t : Fin cfg0.N) (h0 : t.val % 8 = 0) (y : S4096x256.Idx) :
    (outsAt0 m c t.val t.isLt).2.2.2.2.2.2.1 y = iblk m c 2 t y := by
  rw [outsAt0_A m c t h0 (by omega) (by omega)]
  frame_out
  clear h0
  canon_tiles x h
  all_goals (open_payloads; pointwise; blk_ext)

theorem scratch_a_hold (c : Dev nD) (t : Fin cfg0.N) (h0 : ¬t.val % 8 = 0) (y : S4096x256.Idx) :
    (outsAt0 m c t.val t.isLt).2.2.2.2.2.2.1 y
      = (outsAt0 m c (t.val - 1) (Nat.lt_of_le_of_lt (Nat.sub_le _ _) t.isLt)).2.2.2.2.2.2.1 y := by
  by_cases h1 : t.val % 8 = 7
  · rw [outsAt0_D m c t h0 (by omega) h1]; rfl
  · by_cases h2 : t.val % 2 = 0
    · rw [outsAt0_C m c t h0 h2 h1]; rfl
    · rw [outsAt0_B m c t h0 h2 h1]; rfl

theorem wtile_a (c : Dev nD) (t : Fin cfg0.N) (k : Fin 4096) (r : Fin 256) :
    iblk m c 2 t (ix2 k r) = m ((c : Thread nD τ).loc main_arg2)
      (ix3 0 k ⟨256 * (t.val / 8) + r.val, by have := lt_of_lt_of_eq t.isLt (show cfg0.N = 344 from N_0); omega⟩) := by
  blk_simp [iblk, idx t]
  entry_read
  pointwise
  blk_ext [idx t]

theorem iblk_a_hold (c : Dev nD) (t s : Fin cfg0.N) (h : t.val / 8 = s.val / 8) (y : S4096x256.Idx) :
    iblk m c 2 t y = iblk m c 2 s y := by
  idx_vars y
  rw [wtile_a, wtile_a]
  simp only [h]

theorem scratch_a (c : Dev nD) (t : Fin cfg0.N) :
    (outsAt0 m c t.val t.isLt).2.2.2.2.2.2.1 = iblk m c 2 t := by
  funext y
  exact (Pipeline.eq_of_write_hold_apply (fun n h => (outsAt0 m c n h).2.2.2.2.2.2.1) 8 (fun t => iblk m c 2 t) (scratch_a_A m c)
    (scratch_a_hold m c) t y).trans (iblk_a_hold m c _ t (by show 8 * (t.val / 8) / 8 = t.val / 8; omega) y)

/-- before a point inside a run of eight the weight tile held is that point's -/
theorem scratch_a_before (c : Dev nD) (t : Fin cfg0.N) (h0 : ¬t.val % 8 = 0) :
    (outsAt0 m c (t.val - 1) (Nat.lt_of_le_of_lt (Nat.sub_le _ _) t.isLt)).2.2.2.2.2.2.1 = iblk m c 2 t := by
  funext y
  rw [← scratch_a_hold m c t h0 y, scratch_a]

theorem scratch_b_A (c : Dev nD) (t : Fin cfg0.N) (h0 : t.val % 8 = 0) (y : S4096x256.Idx) :
    (outsAt0 m c t.val t.isLt).2.2.2.2.2.2.2.1 y = iblk m c 3 t y := by
  rw [outsAt0_A m c t h0 (by omega) (by omega)]
  frame_out
  clear h0
  canon_tiles x h
  all_goals (open_payloads; pointwise; blk_ext)

theorem scratch_b_hold (c : Dev nD) (t : Fin cfg0.N) (h0 : ¬t.val % 8 = 0) (y : S4096x256.Idx) :
    (outsAt0 m c t.val t.isLt).2.2.2.2.2.2.2.1 y
      = (outsAt0 m c (t.val - 1) (Nat.lt_of_le_of_lt (Nat.sub_le _ _) t.isLt)).2.2.2.2.2.2.2.1 y := by
  by_cases h1 : t.val % 8 = 7
  · rw [outsAt0_D m c t h0 (by omega) h1]; rfl
  · by_cases h2 : t.val % 2 = 0
    · rw [outsAt0_C m c t h0 h2 h1]; rfl
    · rw [outsAt0_B m c t h0 h2 h1]; rfl

theorem wtile_b (c : Dev nD) (t : Fin cfg0.N) (k : Fin 4096) (r : Fin 256) :
    iblk m c 3 t (ix2 k r) = m ((c : Thread nD τ).loc main_arg2)
      (ix3 0 k ⟨11008 + (256 * (t.val / 8) + r.val), by have := lt_of_lt_of_eq t.isLt (show cfg0.N = 344 from N_0); omega⟩) := by
  blk_simp [iblk, idx t]
  entry_read
  pointwise
  blk_ext [idx t]

theorem iblk_b_hold (c : Dev nD) (t s : Fin cfg0.N) (h : t.val / 8 = s.val / 8) (y : S4096x256.Idx) :
    iblk m c 3 t y = iblk m c 3 s y := by
  idx_vars y
  rw [wtile_b, wtile_b]
  simp only [h]

theorem scratch_b (c : Dev nD) (t : Fin cfg0.N) :
    (outsAt0 m c t.val t.isLt).2.2.2.2.2.2.2.1 = iblk m c 3 t := by
  funext y
  exact (Pipeline.eq_of_write_hold_apply (fun n h => (outsAt0 m c n h).2.2.2.2.2.2.2.1) 8 (fun t => iblk m c 3 t) (scratch_b_A m c)
    (scratch_b_hold m c) t y).trans (iblk_b_hold m c _ t (by show 8 * (t.val / 8) / 8 = t.val / 8; omega) y)

/-- before a point inside a run of eight the weight tile held is that point's -/
theorem scratch_b_before (c : Dev nD) (t : Fin cfg0.N) (h0 : ¬t.val % 8 = 0) :
    (outsAt0 m c (t.val - 1) (Nat.lt_of_le_of_lt (Nat.sub_le _ _) t.isLt)).2.2.2.2.2.2.2.1 = iblk m c 3 t := by
  funext y
  rw [← scratch_b_hold m c t h0 y, scratch_b]

theorem cwtile_a (c : Dev nD) (t : Fin cfg0.N) (r : Fin 3) (j : Fin 256) :
    iblk m c 4 t (ix2 r j) = m ((c : Thread nD τ).loc main_arg3) (ix3 0 r ⟨256 * (t.val / 8) + j.val, by have := lt_of_lt_of_eq t.isLt (show cfg0.N = 344 from N_0); omega⟩) := by
  blk_simp [iblk, idx t]
  entry_read
  pointwise
  blk_ext [idx t]

theorem cwtile_b (c : Dev nD) (t : Fin cfg0.N) (r : Fin 3) (j : Fin 256) :
    iblk m c 5 t (ix2 r j) = m ((c : Thread nD τ).loc main_arg3) (ix3 0 r ⟨11008 + (256 * (t.val / 8) + j.val), by have := lt_of_lt_of_eq t.isLt (show cfg0.N = 344 from N_0); omega⟩) := by
  blk_simp [iblk, idx t]
  entry_read
  pointwise
  blk_ext [idx t]

theorem cbtile_a (c : Dev nD) (t : Fin cfg0.N) (r : Fin 1) (j : Fin 256) :
    iblk m c 6 t (ix2 r j) = m ((c : Thread nD τ).loc main_arg4) (ix2 r ⟨256 * (t.val / 8) + j.val, by have := lt_of_lt_of_eq t.isLt (show cfg0.N = 344 from N_0); omega⟩) := by
  blk_simp [iblk, idx t]
  entry_read
  pointwise
  blk_ext [idx t]

theorem cbtile_b (c : Dev nD) (t : Fin cfg0.N) (r : Fin 1) (j : Fin 256) :
    iblk m c 7 t (ix2 r j) = m ((c : Thread nD τ).loc main_arg4) (ix2 r ⟨11008 + (256 * (t.val / 8) + j.val), by have := lt_of_lt_of_eq t.isLt (show cfg0.N = 344 from N_0); omega⟩) := by
  blk_simp [iblk, idx t]
  entry_read
  pointwise
  blk_ext [idx t]

theorem h0tile_a (c : Dev nD) (t : Fin cfg0.N) (r : Fin 32) (j : Fin 256) :
    iblk m c 8 t (ix2 r j) = m ((c : Thread nD τ).loc main_arg5) (ix4 0 r 0 ⟨256 * (t.val / 8) + j.val, by have := lt_of_lt_of_eq t.isLt (show cfg0.N = 344 from N_0); omega⟩) := by
  blk_simp [iblk, idx t]
  entry_read
  pointwise
  blk_ext [idx t]

theorem h0tile_b (c : Dev nD) (t : Fin cfg0.N) (r : Fin 32) (j : Fin 256) :
    iblk m c 9 t (ix2 r j) = m ((c : Thread nD τ).loc main_arg5) (ix4 0 r 0 ⟨11008 + (256 * (t.val / 8) + j.val), by have := lt_of_lt_of_eq t.isLt (show cfg0.N = 344 from N_0); omega⟩) := by
  blk_simp [iblk, idx t]
  entry_read
  pointwise
  blk_ext [idx t]

theorem h1tile_a (c : Dev nD) (t : Fin cfg0.N) (r : Fin 32) (j : Fin 256) :
    iblk m c 10 t (ix2 r j) = m ((c : Thread nD τ).loc main_arg5) (ix4 0 r 1 ⟨256 * (t.val / 8) + j.val, by have := lt_of_lt_of_eq t.isLt (show cfg0.N = 344 from N_0); omega⟩) := by
  blk_simp [iblk, idx t]
  entry_read
  pointwise
  blk_ext [idx t]

theorem h1tile_b (c : Dev nD) (t : Fin cfg0.N) (r : Fin 32) (j : Fin 256) :
    iblk m c 11 t (ix2 r j) = m ((c : Thread nD τ).loc main_arg5) (ix4 0 r 1 ⟨11008 + (256 * (t.val / 8) + j.val), by have := lt_of_lt_of_eq t.isLt (show cfg0.N = 344 from N_0); omega⟩) := by
  blk_simp [iblk, idx t]
  entry_read
  pointwise
  blk_ext [idx t]

theorem xtile (c : Dev nD) (t : Fin cfg0.N) (r : Fin 1024) (k : Fin 4096) :
    iblk m c 0 t (ix2 r k) = m ((c : Thread nD τ).loc main_arg0) (ix2 ⟨1024 * (t.val % 8) + r.val, by omega⟩ k) := by
  blk_simp [iblk, V, idx t]
  blk_ext [idx t]

theorem xtile_s (c : Dev nD) (t : Fin cfg0.N) (r : Fin 32) (k : Fin 4096) :
    iblk m c 1 t (ix2 r k) = m ((c : Thread nD τ).loc main_arg1) (ix2 r k) := by
  blk_simp [iblk, V, idx t]
  blk_ext [idx t]

/-- the weight tile read back at the first point of a run is the tile just stored -/
theorem act_first (c : Dev nD) (t : Fin cfg0.N) (h0 : t.val % 8 = 0) :
    (outsAt0 m c t.val t.isLt).1 = actv (iblk m c 0 t) (iblk m c 2 t) (iblk m c 3 t) (iblk m c 4 t) (iblk m c 5 t)
      (iblk m c 6 t) (iblk m c 7 t) (k0_pay77 (F := Ideal)) (k0_pay78 (F := Ideal)) := by
  have ha := scratch_a_A m c t h0
  have hb := scratch_b_A m c t h0
  rw [outsAt0_A m c t h0 (by omega) (by omega)] at ha hb ⊢
  frame_out at ha
  frame_out at hb
  frame_out
  rw [half_first]
  change actv (iblk m c 0 t) _ _ (iblk m c 4 t) (iblk m c 5 t) (iblk m c 6 t) (iblk m c 7 t) (k0_pay77 (F := Ideal)) (k0_pay78 (F := Ideal)) = _
  refine congrArg₂ (fun s u => actv (iblk m c 0 t) s u (iblk m c 4 t) (iblk m c 5 t) (iblk m c 6 t) (iblk m c 7 t)
    (k0_pay77 (F := Ideal)) (k0_pay78 (F := Ideal))) ?_ ?_
  · rw [View.readCov_eq_canon']
    funext y
    refine (ha _).trans (congrArg (iblk m c 2 t) ?_)
    funext a
    apply Fin.ext
    show ![0, 0] a + 1 * (y a).val = (y a).val
    fin_cases a <;> simp
  · rw [View.readCov_eq_canon']
    funext y
    refine (hb _).trans (congrArg (iblk m c 3 t) ?_)
    funext a
    apply Fin.ext
    show ![0, 0] a + 1 * (y a).val = (y a).val
    fin_cases a <;> simp

theorem act_next (c : Dev nD) (t : Fin cfg0.N) (h0 : ¬t.val % 8 = 0) (h1 : ¬t.val % 2 = 0) :
    (outsAt0 m c t.val t.isLt).1 = actv (iblk m c 0 t) (iblk m c 2 t) (iblk m c 3 t) (iblk m c 4 t) (iblk m c 5 t)
      (iblk m c 6 t) (iblk m c 7 t)
      (outsAt0 m c (t.val - 1) (Nat.lt_of_le_of_lt (Nat.sub_le _ _) t.isLt)).2.2.2.2.2.2.2.2.1
      (outsAt0 m c (t.val - 1) (Nat.lt_of_le_of_lt (Nat.sub_le _ _) t.isLt)).2.2.2.2.2.2.2.2.2 := by
  rw [← scratch_a_before m c t h0, ← scratch_b_before m c t h0]
  by_cases h2 : t.val % 8 = 7
  · rw [outsAt0_D m c t h0 h1 h2]
    frame_out
    simp only [read_unread_whole]
    rw [half_first]
    rfl
  · rw [outsAt0_B m c t h0 h1 h2]
    frame_out
    simp only [read_unread_whole]
    rw [half_first]
    rfl

/-- at the start of a sequence the rows before the tile are zeros -/
theorem act_zero (c : Dev nD) (t : Fin cfg0.N) (h1 : t.val % 2 = 0) :
    (outsAt0 m c t.val t.isLt).1 = actv (iblk m c 0 t) (iblk m c 2 t) (iblk m c 3 t) (iblk m c 4 t) (iblk m c 5 t)
      (iblk m c 6 t) (iblk m c 7 t) (k0_pay77 (F := Ideal)) (k0_pay78 (F := Ideal)) := by
  by_cases h0 : t.val % 8 = 0
  · exact act_first m c t h0
  · rw [← scratch_a_before m c t h0, ← scratch_b_before m c t h0, outsAt0_C m c t h0 h1 (by omega)]
    frame_out
    simp only [read_unread_whole]
    rw [half_first]
    rfl

/-- the last eight rows of the tile, kept for the next one -/
theorem held_a (c : Dev nD) (t : Fin cfg0.N) (h : t.val % 2 = 0) :
    (outsAt0 m c t.val t.isLt).2.2.2.2.2.2.2.2.1 = k0_pay88 (k0_pay79 (iblk m c 0 t) (iblk m c 2 t)) := by
  by_cases h0 : t.val % 8 = 0
  · have ha := scratch_a_A m c t h0
    rw [outsAt0_A m c t h0 (by omega) (by omega)] at ha ⊢
    frame_out at ha
    frame_out
    refine congrArg (fun s => k0_pay88 (k0_pay79 (F := Ideal) (iblk m c 0 t) s)) ?_
    rw [View.readCov_eq_canon']
    funext y
    refine (ha _).trans (congrArg (iblk m c 2 t) ?_)
    funext a
    apply Fin.ext
    show ![0, 0] a + 1 * (y a).val = (y a).val
    fin_cases a <;> simp
  · rw [← scratch_a_before m c t h0, outsAt0_C m c t h0 h (by omega)]
    frame_out
    simp only [read_unread_whole]

theorem held_b (c : Dev nD) (t : Fin cfg0.N) (h : t.val % 2 = 0) :
    (outsAt0 m c t.val t.isLt).2.2.2.2.2.2.2.2.2 = k0_pay95 (k0_pay89 (iblk m c 0 t) (iblk m c 3 t)) := by
  by_cases h0 : t.val % 8 = 0
  · have ha := scratch_b_A m c t h0
    rw [outsAt0_A m c t h0 (by omega) (by omega)] at ha ⊢
    frame_out at ha
    frame_out
    refine congrArg (fun s => k0_pay95 (k0_pay89 (F := Ideal) (iblk m c 0 t) s)) ?_
    rw [View.readCov_eq_canon']
    funext y
    refine (ha _).trans (congrArg (iblk m c 3 t) ?_)
    funext a
    apply Fin.ext
    show ![0, 0] a + 1 * (y a).val = (y a).val
    fin_cases a <;> simp
  · rw [← scratch_b_before m c t h0, outsAt0_C m c t h0 h (by omega)]
    frame_out
    simp only [read_unread_whole]

theorem tail_a_tile (c : Dev nD) (t : Fin cfg0.N) (h : t.val % 2 = 1) :
    (outsAt0 m c t.val t.isLt).2.1 = k0_pay87 (k0_pay79 (iblk m c 0 t) (iblk m c 2 t)) := by
  have h0 : ¬t.val % 8 = 0 := by omega
  rw [← scratch_a_before m c t h0]
  by_cases h2 : t.val % 8 = 7
  · rw [outsAt0_D m c t h0 (by omega) h2]
    frame_out
    simp only [read_unread_whole]
  · rw [outsAt0_B m c t h0 (by omega) h2]
    frame_out
    simp only [read_unread_whole]

theorem tail_b_tile (c : Dev nD) (t : Fin cfg0.N) (h : t.val % 2 = 1) :
    (outsAt0 m c t.val t.isLt).2.2.1 = k0_pay94 (k0_pay89 (iblk m c 0 t) (iblk m c 3 t)) := by
  have h0 : ¬t.val % 8 = 0 := by omega
  rw [← scratch_b_before m c t h0]
  by_cases h2 : t.val % 8 = 7
  · rw [outsAt0_D m c t h0 (by omega) h2]
    frame_out
    simp only [read_unread_whole]
  · rw [outsAt0_B m c t h0 (by omega) h2]
    frame_out
    simp only [read_unread_whole]

theorem act_s_tile (c : Dev nD) (t : Fin cfg0.N) (h : t.val % 8 = 7) :
    (outsAt0 m c t.val t.isLt).2.2.2.1 = k0_pay2
      (k0_pay70 (iblk m c 1 t) (iblk m c 2 t) (iblk m c 6 t) (iblk m c 8 t)
        (View.ld (iblk m c 4 t) (Rect.unit ![0, 0] ![1, 256] inb_S3x256_S1x256_0_0)) (iblk m c 10 t)
        (View.ld (iblk m c 4 t) (Rect.unit ![1, 0] ![1, 256] inb_S3x256_S1x256_1_0))
        (View.ld (iblk m c 4 t) (Rect.unit ![2, 0] ![1, 256] inb_S3x256_S1x256_2_0)))
      (k0_pay71 (iblk m c 1 t) (iblk m c 3 t)) (k0_pay72 (iblk m c 7 t)) (iblk m c 9 t)
      (View.ld (iblk m c 5 t) (Rect.unit ![0, 0] ![1, 256] inb_S3x256_S1x256_0_0)) (iblk m c 11 t)
      (View.ld (iblk m c 5 t) (Rect.unit ![1, 0] ![1, 256] inb_S3x256_S1x256_1_0))
      (View.ld (iblk m c 5 t) (Rect.unit ![2, 0] ![1, 256] inb_S3x256_S1x256_2_0)) := by
  have h0 : ¬t.val % 8 = 0 := by omega
  rw [← scratch_a_before m c t h0, ← scratch_b_before m c t h0, outsAt0_D m c t h0 (by omega) h]
  frame_out
  simp only [read_unread_whole]
  rfl

theorem up_a_tile (c : Dev nD) (t : Fin cfg0.N) (h : t.val % 8 = 7) :
    (outsAt0 m c t.val t.isLt).2.2.2.2.1 = k0_pay69 (iblk m c 1 t) (iblk m c 2 t) := by
  have h0 : ¬t.val % 8 = 0 := by omega
  rw [← scratch_a_before m c t h0, outsAt0_D m c t h0 (by omega) h]
  frame_out
  simp only [read_unread_whole]

theorem up_b_tile (c : Dev nD) (t : Fin cfg0.N) (h : t.val % 8 = 7) :
    (outsAt0 m c t.val t.isLt).2.2.2.2.2.1 = k0_pay71 (iblk m c 1 t) (iblk m c 3 t) := by
  have h0 : ¬t.val % 8 = 0 := by omega
  rw [← scratch_b_before m c t h0, outsAt0_D m c t h0 (by omega) h]
  frame_out
  simp only [read_unread_whole]

/-- the rows the taps reach for, within the whole array: zeros before the start of a sequence -/
theorem prev_zero (u : Fin 8192 → EReal) (s : Fin 8) (hs : s.val % 2 = 0) (h : Fin 8 → EReal) (hh : ∀ a, h a = 0) (d : ℕ)
    (hd : d < 8) (r : Fin 1024) :
    prev (fun a => u ⟨1024 * s.val + a.val, by omega⟩) h d r = back u d ⟨1024 * s.val + r.val, by omega⟩ := by
  unfold prev back
  by_cases hr : r.val < d
  · rw [dif_pos hr, if_pos (by show (1024 * s.val + r.val) % 2048 < d; omega), hh]
  · rw [dif_neg hr, if_neg (by show ¬(1024 * s.val + r.val) % 2048 < d; omega)]
    exact at_same u _ _ (by show 1024 * s.val + (r.val - d) = 1024 * s.val + r.val - d; omega)

/-- and the rows of the tile before in the middle of one -/
theorem prev_next (u : Fin 8192 → EReal) (s : Fin 8) (hs : s.val % 2 = 1) (h : Fin 8 → EReal)
    (hh : ∀ a : Fin 8, h a = u ⟨1024 * (s.val - 1) + (1016 + a.val), by omega⟩) (d : ℕ) (hd : d < 8) (r : Fin 1024) :
    prev (fun a => u ⟨1024 * s.val + a.val, by omega⟩) h d r = back u d ⟨1024 * s.val + r.val, by omega⟩ := by
  unfold prev back
  by_cases hr : r.val < d
  · rw [dif_pos hr, if_neg (by show ¬(1024 * s.val + r.val) % 2048 < d; omega), hh]
    exact at_same u _ _ (by show 1024 * (s.val - 1) + (1016 + (8 + r.val - d) % 8) = 1024 * s.val + r.val - d; omega)
  · rw [dif_neg hr, if_neg (by show ¬(1024 * s.val + r.val) % 2048 < d; omega)]
    exact at_same u _ _ (by show 1024 * s.val + (r.val - d) = 1024 * s.val + r.val - d; omega)

/-- the column of the first half that entry `j` of a tile stands for -/
def qcol (t : Fin cfg0.N) (j : Fin 256) : Fin 11008 :=
  ⟨256 * (t.val / 8) + j.val, by have := lt_of_lt_of_eq t.isLt (show cfg0.N = 344 from N_0); omega⟩

def srow (t : Fin cfg0.N) : Fin 8 := ⟨t.val % 8, Nat.mod_lt _ (by decide)⟩

theorem mm_a (c : Dev nD) (t : Fin cfg0.N) (r : Fin 1024) (j : Fin 256) :
    k0_pay89 (F := Ideal) (iblk m c 0 t) (iblk m c 2 t) (ix2 r j)
      = up 8192 (m ((c : Thread nD τ).loc main_arg0)) (m ((c : Thread nD τ).loc main_arg2)) (lo (qcol t j))
          ⟨1024 * (srow t).val + r.val, by omega⟩ := by
  rw [mm_at]
  refine Finset.sum_congr rfl fun k _ => ?_
  rw [xtile, wtile_a]
  rfl

theorem mm_s_at (x : Vec Ideal S32x4096 .bf16) (w : Vec Ideal S4096x256 .bf16) (r : Fin 32) (j : Fin 256) :
    k0_pay71 (F := Ideal) x w (ix2 r j) = ∑ k : Fin 4096, x (ix2 r k) * w (ix2 k j) := by
  pointwise [k0_pay71]

theorem last_a (x : Vec Ideal S1024x4096 .bf16) (w : Vec Ideal S4096x256 .bf16) (r : Fin 8) (j : Fin 256) :
    k0_pay88 (F := Ideal) (k0_pay79 x w) (ix2 r j) = k0_pay89 (F := Ideal) x w (ix2 ⟨1016 + r.val, by omega⟩ j) := by
  show k0_pay88 (F := Ideal) (k0_pay89 x w) (ix2 r j) = _
  generalize k0_pay89 (F := Ideal) x w = u
  pointwise [k0_pay88]

theorem last_b (x : Vec Ideal S1024x4096 .bf16) (w : Vec Ideal S4096x256 .bf16) (r : Fin 8) (j : Fin 256) :
    k0_pay95 (F := Ideal) (k0_pay89 x w) (ix2 r j) = k0_pay89 (F := Ideal) x w (ix2 ⟨1016 + r.val, by omega⟩ j) := by
  generalize k0_pay89 (F := Ideal) x w = u
  pointwise [k0_pay95]

theorem tail_a_at (x : Vec Ideal S1024x4096 .bf16) (w : Vec Ideal S4096x256 .bf16) (r : Fin 2) (j : Fin 256) :
    k0_pay87 (F := Ideal) (k0_pay79 x w) (ix3 0 r j) = k0_pay89 (F := Ideal) x w (ix2 ⟨1022 + r.val, by omega⟩ j) := by
  show k0_pay87 (F := Ideal) (k0_pay89 x w) (ix3 0 r j) = _
  generalize k0_pay89 (F := Ideal) x w = u
  pointwise [k0_pay87]

theorem tail_b_at (x : Vec Ideal S1024x4096 .bf16) (w : Vec Ideal S4096x256 .bf16) (r : Fin 2) (j : Fin 256) :
    k0_pay94 (F := Ideal) (k0_pay89 x w) (ix3 0 r j) = k0_pay89 (F := Ideal) x w (ix2 ⟨1022 + r.val, by omega⟩ j) := by
  generalize k0_pay89 (F := Ideal) x w = u
  pointwise [k0_pay94]

theorem zero_a (i : S8x256.Idx) : k0_pay77 (F := Ideal) i = 0 := by
  idx_vars i
  pointwise [k0_pay77]

theorem zero_b (i : S8x256.Idx) : k0_pay78 (F := Ideal) i = 0 := by
  idx_vars i
  pointwise [k0_pay78]

theorem mm_s_a (c : Dev nD) (t : Fin cfg0.N) (r : Fin 32) (j : Fin 256) :
    k0_pay71 (F := Ideal) (iblk m c 1 t) (iblk m c 2 t) (ix2 r j)
      = up 32 (m ((c : Thread nD τ).loc main_arg1)) (m ((c : Thread nD τ).loc main_arg2)) (lo (qcol t j)) r := by
  rw [mm_s_at]
  refine Finset.sum_congr rfl fun k _ => ?_
  rw [xtile_s, wtile_a]
  rfl

theorem half_a (c : Dev nD) (t : Fin cfg0.N) (h : Vec Ideal S8x256 .f32) (r : Fin 1024) (j : Fin 256)
    (hh : ∀ d < 8, prev (fun a => k0_pay89 (F := Ideal) (iblk m c 0 t) (iblk m c 2 t) (ix2 a j)) (fun a => h (ix2 a j)) d r
      = back (up 8192 (m ((c : Thread nD τ).loc main_arg0)) (m ((c : Thread nD τ).loc main_arg2)) (lo (qcol t j))) d
          ⟨1024 * (srow t).val + r.val, by omega⟩) :
    half (iblk m c 0 t) (iblk m c 2 t) (iblk m c 4 t) (iblk m c 6 t) h (ix2 r j)
      = taps (m ((c : Thread nD τ).loc main_arg3)) (m ((c : Thread nD τ).loc main_arg4)) (lo (qcol t j))
          (back (up 8192 (m ((c : Thread nD τ).loc main_arg0)) (m ((c : Thread nD τ).loc main_arg2)) (lo (qcol t j))) 2
            ⟨1024 * (srow t).val + r.val, by omega⟩)
          (back (up 8192 (m ((c : Thread nD τ).loc main_arg0)) (m ((c : Thread nD τ).loc main_arg2)) (lo (qcol t j))) 1
            ⟨1024 * (srow t).val + r.val, by omega⟩)
          (up 8192 (m ((c : Thread nD τ).loc main_arg0)) (m ((c : Thread nD τ).loc main_arg2)) (lo (qcol t j))
            ⟨1024 * (srow t).val + r.val, by omega⟩) := by
  rw [half_at, hh 2 (by decide), hh 1 (by decide), mm_a, cbtile_a, cwtile_a, cwtile_a, cwtile_a]
  rfl

theorem prev_zero_a (c : Dev nD) (t : Fin cfg0.N) (ht : t.val % 2 = 0) (h : Vec Ideal S8x256 .f32) (hh : ∀ a, h a = 0) (r : Fin 1024) (j : Fin 256)
    (d : ℕ) (hd : d < 8) :
    prev (fun a => k0_pay89 (F := Ideal) (iblk m c 0 t) (iblk m c 2 t) (ix2 a j)) (fun a => h (ix2 a j)) d r
      = back (up 8192 (m ((c : Thread nD τ).loc main_arg0)) (m ((c : Thread nD τ).loc main_arg2)) (lo (qcol t j))) d
          ⟨1024 * (srow t).val + r.val, by omega⟩ := by
  simp only [mm_a]
  exact prev_zero _ (srow t) (by show t.val % 8 % 2 = 0; omega) _ (fun a => hh _) d hd r

theorem prev_next_a (c : Dev nD) (t : Fin cfg0.N) (ht : t.val % 2 = 1) (r : Fin 1024) (j : Fin 256)
    (d : ℕ) (hd : d < 8) :
    prev (fun a => k0_pay89 (F := Ideal) (iblk m c 0 t) (iblk m c 2 t) (ix2 a j))
        (fun a => (outsAt0 m c (t.val - 1) (Nat.lt_of_le_of_lt (Nat.sub_le _ _) t.isLt)).2.2.2.2.2.2.2.2.1 (ix2 a j)) d r
      = back (up 8192 (m ((c : Thread nD τ).loc main_arg0)) (m ((c : Thread nD τ).loc main_arg2)) (lo (qcol t j))) d
          ⟨1024 * (srow t).val + r.val, by omega⟩ := by
  simp only [mm_a]
  refine prev_next _ (srow t) (by show t.val % 8 % 2 = 1; omega) _ (fun a => ?_) d hd r
  have hq : qcol ⟨t.val - 1, Nat.lt_of_le_of_lt (Nat.sub_le _ _) t.isLt⟩ j = qcol t j :=
    Fin.ext (by show 256 * ((t.val - 1) / 8) + j.val = 256 * (t.val / 8) + j.val; omega)
  have hs : (srow ⟨t.val - 1, Nat.lt_of_le_of_lt (Nat.sub_le _ _) t.isLt⟩).val = (srow t).val - 1 := by
    show (t.val - 1) % 8 = t.val % 8 - 1; omega
  rw [held_a m c ⟨t.val - 1, Nat.lt_of_le_of_lt (Nat.sub_le _ _) t.isLt⟩ (by show (t.val - 1) % 2 = 0; omega), last_a,
    mm_a, hq]
  simp only [hs]

theorem mm_b (c : Dev nD) (t : Fin cfg0.N) (r : Fin 1024) (j : Fin 256) :
    k0_pay89 (F := Ideal) (iblk m c 0 t) (iblk m c 3 t) (ix2 r j)
      = up 8192 (m ((c : Thread nD τ).loc main_arg0)) (m ((c : Thread nD τ).loc main_arg2)) (hi (qcol t j))
          ⟨1024 * (srow t).val + r.val, by omega⟩ := by
  rw [mm_at]
  refine Finset.sum_congr rfl fun k _ => ?_
  rw [xtile, wtile_b]
  rfl

theorem mm_s_b (c : Dev nD) (t : Fin cfg0.N) (r : Fin 32) (j : Fin 256) :
    k0_pay71 (F := Ideal) (iblk m c 1 t) (iblk m c 3 t) (ix2 r j)
      = up 32 (m ((c : Thread nD τ).loc main_arg1)) (m ((c : Thread nD τ).loc main_arg2)) (hi (qcol t j)) r := by
  rw [mm_s_at]
  refine Finset.sum_congr rfl fun k _ => ?_
  rw [xtile_s, wtile_b]
  rfl

theorem half_b (c : Dev nD) (t : Fin cfg0.N) (h : Vec Ideal S8x256 .f32) (r : Fin 1024) (j : Fin 256)
    (hh : ∀ d < 8, prev (fun a => k0_pay89 (F := Ideal) (iblk m c 0 t) (iblk m c 3 t) (ix2 a j)) (fun a => h (ix2 a j)) d r
      = back (up 8192 (m ((c : Thread nD τ).loc main_arg0)) (m ((c : Thread nD τ).loc main_arg2)) (hi (qcol t j))) d
          ⟨1024 * (srow t).val + r.val, by omega⟩) :
    half (iblk m c 0 t) (iblk m c 3 t) (iblk m c 5 t) (iblk m c 7 t) h (ix2 r j)
      = taps (m ((c : Thread nD τ).loc main_arg3)) (m ((c : Thread nD τ).loc main_arg4)) (hi (qcol t j))
          (back (up 8192 (m ((c : Thread nD τ).loc main_arg0)) (m ((c : Thread nD τ).loc main_arg2)) (hi (qcol t j))) 2
            ⟨1024 * (srow t).val + r.val, by omega⟩)
          (back (up 8192 (m ((c : Thread nD τ).loc main_arg0)) (m ((c : Thread nD τ).loc main_arg2)) (hi (qcol t j))) 1
            ⟨1024 * (srow t).val + r.val, by omega⟩)
          (up 8192 (m ((c : Thread nD τ).loc main_arg0)) (m ((c : Thread nD τ).loc main_arg2)) (hi (qcol t j))
            ⟨1024 * (srow t).val + r.val, by omega⟩) := by
  rw [half_at, hh 2 (by decide), hh 1 (by decide), mm_b, cbtile_b, cwtile_b, cwtile_b, cwtile_b]
  rfl

theorem prev_zero_b (c : Dev nD) (t : Fin cfg0.N) (ht : t.val % 2 = 0) (h : Vec Ideal S8x256 .f32) (hh : ∀ a, h a = 0) (r : Fin 1024) (j : Fin 256)
    (d : ℕ) (hd : d < 8) :
    prev (fun a => k0_pay89 (F := Ideal) (iblk m c 0 t) (iblk m c 3 t) (ix2 a j)) (fun a => h (ix2 a j)) d r
      = back (up 8192 (m ((c : Thread nD τ).loc main_arg0)) (m ((c : Thread nD τ).loc main_arg2)) (hi (qcol t j))) d
          ⟨1024 * (srow t).val + r.val, by omega⟩ := by
  simp only [mm_b]
  exact prev_zero _ (srow t) (by show t.val % 8 % 2 = 0; omega) _ (fun a => hh _) d hd r

theorem prev_next_b (c : Dev nD) (t : Fin cfg0.N) (ht : t.val % 2 = 1) (r : Fin 1024) (j : Fin 256)
    (d : ℕ) (hd : d < 8) :
    prev (fun a => k0_pay89 (F := Ideal) (iblk m c 0 t) (iblk m c 3 t) (ix2 a j))
        (fun a => (outsAt0 m c (t.val - 1) (Nat.lt_of_le_of_lt (Nat.sub_le _ _) t.isLt)).2.2.2.2.2.2.2.2.2 (ix2 a j)) d r
      = back (up 8192 (m ((c : Thread nD τ).loc main_arg0)) (m ((c : Thread nD τ).loc main_arg2)) (hi (qcol t j))) d
          ⟨1024 * (srow t).val + r.val, by omega⟩ := by
  simp only [mm_b]
  refine prev_next _ (srow t) (by show t.val % 8 % 2 = 1; omega) _ (fun a => ?_) d hd r
  have hq : qcol ⟨t.val - 1, Nat.lt_of_le_of_lt (Nat.sub_le _ _) t.isLt⟩ j = qcol t j :=
    Fin.ext (by show 256 * ((t.val - 1) / 8) + j.val = 256 * (t.val / 8) + j.val; omega)
  have hs : (srow ⟨t.val - 1, Nat.lt_of_le_of_lt (Nat.sub_le _ _) t.isLt⟩).val = (srow t).val - 1 := by
    show (t.val - 1) % 8 = t.val % 8 - 1; omega
  rw [held_b m c ⟨t.val - 1, Nat.lt_of_le_of_lt (Nat.sub_le _ _) t.isLt⟩ (by show (t.val - 1) % 2 = 0; omega), last_b,
    mm_b, hq]
  simp only [hs]

theorem act_tile (c : Dev nD) (t : Fin cfg0.N) (r : Fin 1024) (j : Fin 256) :
    (outsAt0 m c t.val t.isLt).1 (ix2 r j) = act_p (m ((c : Thread nD τ).loc main_arg0)) (m ((c : Thread nD τ).loc main_arg2))
      (m ((c : Thread nD τ).loc main_arg3)) (m ((c : Thread nD τ).loc main_arg4)) (ix2 ⟨1024 * (srow t).val + r.val, by omega⟩ (qcol t j)) := by
  by_cases h : t.val % 2 = 0
  · rw [act_zero m c t h, actv, glu_at, half_a m c t _ r j (prev_zero_a m c t h _ zero_a r j),
      half_b m c t _ r j (prev_zero_b m c t h _ zero_b r j)]
    rfl
  · rw [act_next m c t (by omega) h, actv, glu_at, half_a m c t _ r j (prev_next_a m c t (by omega) r j),
      half_b m c t _ r j (prev_next_b m c t (by omega) r j)]
    rfl

/-- the new rows: two rows of history and the row itself -/
theorem new_at (x : Vec Ideal S32x4096 .bf16) (wa wb : Vec Ideal S4096x256 .bf16) (cwa cwb : Vec Ideal S3x256 .f32)
    (cba cbb : Vec Ideal S1x256 .f32) (h0a h0b h1a h1b : Vec Ideal S32x256 .f32) (r : Fin 32) (j : Fin 256) :
    k0_pay2 (k0_pay70 x wa cba h0a (View.ld cwa (Rect.unit ![0, 0] ![1, 256] inb_S3x256_S1x256_0_0)) h1a
        (View.ld cwa (Rect.unit ![1, 0] ![1, 256] inb_S3x256_S1x256_1_0))
        (View.ld cwa (Rect.unit ![2, 0] ![1, 256] inb_S3x256_S1x256_2_0)))
      (k0_pay71 x wb) (k0_pay72 cbb) h0b
      (View.ld cwb (Rect.unit ![0, 0] ![1, 256] inb_S3x256_S1x256_0_0)) h1b
      (View.ld cwb (Rect.unit ![1, 0] ![1, 256] inb_S3x256_S1x256_1_0))
      (View.ld cwb (Rect.unit ![2, 0] ![1, 256] inb_S3x256_S1x256_2_0)) (ix2 r j)
    = glu (((cba (ix2 0 j) + h0a (ix2 r j) * cwa (ix2 0 j)) + h1a (ix2 r j) * cwa (ix2 1 j)) + k0_pay71 (F := Ideal) x wa (ix2 r j) * cwa (ix2 2 j))
        (((cbb (ix2 0 j) + h0b (ix2 r j) * cwb (ix2 0 j)) + h1b (ix2 r j) * cwb (ix2 1 j)) + k0_pay71 (F := Ideal) x wb (ix2 r j) * cwb (ix2 2 j)) := by
  rw [glu, ← half_tanh, mm_s_at, mm_s_at]
  pointwise [k0_pay2, k0_pay69, k0_pay70, k0_pay71, k0_pay72]

theorem act_s_at (c : Dev nD) (t : Fin cfg0.N) (h : t.val % 8 = 7) (r : Fin 32) (j : Fin 256) :
    (outsAt0 m c t.val t.isLt).2.2.2.1 (ix2 r j) = act_s (m ((c : Thread nD τ).loc main_arg1)) (m ((c : Thread nD τ).loc main_arg2))
      (m ((c : Thread nD τ).loc main_arg3)) (m ((c : Thread nD τ).loc main_arg4)) (m ((c : Thread nD τ).loc main_arg5)) (ix2 r (qcol t j)) := by
  rw [act_s_tile m c t h]
  refine (new_at _ _ _ _ _ _ _ _ _ _ _ r j).trans ?_
  rw [mm_s_a, mm_s_b, cbtile_a, cbtile_b, cwtile_a, cwtile_a, cwtile_a, cwtile_b, cwtile_b, cwtile_b,
    h0tile_a, h0tile_b, h1tile_a, h1tile_b]
  rfl

theorem tail_a_out (c : Dev nD) (t : Fin cfg0.N) (h : t.val % 2 = 1) (r : Fin 2) (j : Fin 256) :
    (outsAt0 m c t.val t.isLt).2.1 (ix3 0 r j) = tail lo (m ((c : Thread nD τ).loc main_arg0)) (m ((c : Thread nD τ).loc main_arg2))
      (ix3 ⟨t.val % 8 / 2, by omega⟩ r (qcol t j)) := by
  rw [tail_a_tile m c t h, tail_a_at, mm_a]
  exact at_same (up 8192 _ _ _) _ _ (by show 1024 * (t.val % 8) + (1022 + r.val) = 2048 * (t.val % 8 / 2) + 2046 + r.val; omega)

theorem up_a_out (c : Dev nD) (t : Fin cfg0.N) (h : t.val % 8 = 7) (r : Fin 32) (j : Fin 256) :
    (outsAt0 m c t.val t.isLt).2.2.2.2.1 (ix2 r j) = row_s lo (m ((c : Thread nD τ).loc main_arg1)) (m ((c : Thread nD τ).loc main_arg2))
      (ix2 r (qcol t j)) := by
  rw [up_a_tile m c t h]
  exact mm_s_a m c t r j

theorem tail_b_out (c : Dev nD) (t : Fin cfg0.N) (h : t.val % 2 = 1) (r : Fin 2) (j : Fin 256) :
    (outsAt0 m c t.val t.isLt).2.2.1 (ix3 0 r j) = tail hi (m ((c : Thread nD τ).loc main_arg0)) (m ((c : Thread nD τ).loc main_arg2))
      (ix3 ⟨t.val % 8 / 2, by omega⟩ r (qcol t j)) := by
  rw [tail_b_tile m c t h, tail_b_at, mm_b]
  exact at_same (up 8192 _ _ _) _ _ (by show 1024 * (t.val % 8) + (1022 + r.val) = 2048 * (t.val % 8 / 2) + 2046 + r.val; omega)

theorem up_b_out (c : Dev nD) (t : Fin cfg0.N) (h : t.val % 8 = 7) (r : Fin 32) (j : Fin 256) :
    (outsAt0 m c t.val t.isLt).2.2.2.2.2.1 (ix2 r j) = row_s hi (m ((c : Thread nD τ).loc main_arg1)) (m ((c : Thread nD τ).loc main_arg2))
      (ix2 r (qcol t j)) := by
  rw [up_b_tile m c t h]
  exact mm_s_b m c t r j

theorem final_act_p (c : Dev nD) :
    (dats m 0 c).arrAt 12 (cfgs 0).N = act_p (m ((c : Thread nD τ).loc main_arg0)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12]
  idx_vars y
  refine (act_tile m c t _ _).trans ?_
  blk_ext [idx t, srow, qcol]

theorem final_tail_a (c : Dev nD) :
    (dats m 0 c).arrAt 13 (cfgs 0).N = tail lo (m ((c : Thread nD τ).loc main_arg0)) (m ((c : Thread nD τ).loc main_arg2)) := by
  refine (dats m 0 c).arrAt_eq_of_covers 13 _ (by decide +kernel) fun t hf y => ?_
  blk_simp
  rw [after0_13]
  idx_vars y
  obtain rfl : y0 = 0 := Subsingleton.elim _ _
  refine (tail_a_out m c t ((flush0_13 t).mp hf) _ _).trans ?_
  blk_ext [idx t, srow, qcol]

theorem final_tail_b (c : Dev nD) :
    (dats m 0 c).arrAt 14 (cfgs 0).N = tail hi (m ((c : Thread nD τ).loc main_arg0)) (m ((c : Thread nD τ).loc main_arg2)) := by
  refine (dats m 0 c).arrAt_eq_of_covers 14 _ (by decide +kernel) fun t hf y => ?_
  blk_simp
  rw [after0_14]
  idx_vars y
  obtain rfl : y0 = 0 := Subsingleton.elim _ _
  refine (tail_b_out m c t ((flush0_14 t).mp hf) _ _).trans ?_
  blk_ext [idx t, srow, qcol]

theorem final_act_s (c : Dev nD) :
    (dats m 0 c).arrAt 15 (cfgs 0).N = act_s (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 15 _ (by decide +kernel) fun t hf y => ?_
  blk_simp
  rw [after0_15]
  idx_vars y
  refine (act_s_at m c t ((flush0_15 t).mp hf) _ _).trans ?_
  blk_ext [idx t, srow, qcol]

theorem final_up_a (c : Dev nD) :
    (dats m 0 c).arrAt 16 (cfgs 0).N = row_s lo (m ((c : Thread nD τ).loc main_arg1)) (m ((c : Thread nD τ).loc main_arg2)) := by
  refine (dats m 0 c).arrAt_eq_of_covers 16 _ (by decide +kernel) fun t hf y => ?_
  blk_simp
  rw [after0_16]
  idx_vars y
  refine (up_a_out m c t ((flush0_16 t).mp hf) _ _).trans ?_
  blk_ext [idx t, srow, qcol]

theorem final_up_b (c : Dev nD) :
    (dats m 0 c).arrAt 17 (cfgs 0).N = row_s hi (m ((c : Thread nD τ).loc main_arg1)) (m ((c : Thread nD τ).loc main_arg2)) := by
  refine (dats m 0 c).arrAt_eq_of_covers 17 _ (by decide +kernel) fun t hf y => ?_
  blk_simp
  rw [after0_17]
  idx_vars y
  refine (up_b_out m c t ((flush0_17 t).mp hf) _ _).trans ?_
  blk_ext [idx t, srow, qcol]

end Cert.Kernel4Ideal.Value

namespace Cert.Reference4Ideal.Value
open Cert.Reference4Ideal Cert.Reference4Ideal.Gen
open Cert.Kernel4Ideal.Value (up lo hi back taps glu act_p act_s tail row_s at_same)

/-- each sequence with two rows of zeros in front -/
def padded (X : FVec Ideal S8192x4096 .bf16) (W : FVec Ideal S1x4096x22016 .f32) : FVec Ideal S4x2050x22016 .f32 :=
  concatenate S4x2050x22016 1 [⟨S4x2x22016, (broadcastInDim S4x2x22016 ![] bcast_S_S4x2x22016 (constant S_ .f32 0x00000000#32))⟩, ⟨S4x2048x22016, (shapeCast S4x2048x22016 (Host.dotGeneral dot_S8192x4096_S4096x22016_S8192x22016_1_0_0_1_n_n none (extf .f32 X bitsLt_bf16_f32) (shapeCast S4096x22016 W shapeCasts_S1x4096x22016_S4096x22016)) shapeCasts_S8192x22016_S4x2048x22016)⟩] concatenates_S4x2x22016_S4x2048x22016_S4x2050x22016_d1

/-- the new rows behind their history -/
def joined (X : FVec Ideal S32x4096 .bf16) (W : FVec Ideal S1x4096x22016 .f32) (H : FVec Ideal S1x32x2x22016 .f32) : FVec Ideal S32x3x22016 .f32 :=
  concatenate S32x3x22016 1 [⟨S32x2x22016, (shapeCast S32x2x22016 H shapeCasts_S1x32x2x22016_S32x2x22016)⟩, ⟨S32x1x22016, (shapeCast S32x1x22016 (Host.dotGeneral dot_S32x4096_S4096x22016_S32x22016_1_0_0_1_n_n none (extf .f32 X bitsLt_bf16_f32) (shapeCast S4096x22016 W shapeCasts_S1x4096x22016_S4096x22016)) shapeCasts_S32x22016_S32x1x22016)⟩] concatenates_S32x2x22016_S32x1x22016_S32x3x22016_d1

theorem padded_at (X : FVec Ideal S8192x4096 .bf16) (W : FVec Ideal S1x4096x22016 .f32) (s : Fin 4) (r : Fin 2048) (d : ℕ) (hd : d ≤ 2) (q : Fin 22016) :
    padded X W (ix3 s ⟨d + r.val, by omega⟩ q) = back (up 8192 X W q) (2 - d) ⟨2048 * s.val + r.val, by omega⟩ := by
  pointwise [padded, back, up]
  by_cases h : d + r.val < 2
  · rw [dif_pos h]
    exact (if_pos (by omega)).symm
  · rw [dif_neg h]
    exact (at_same (up 8192 X W q) _ _ (by omega)).trans (if_neg (by omega)).symm

theorem joined_at (X : FVec Ideal S32x4096 .bf16) (W : FVec Ideal S1x4096x22016 .f32) (H : FVec Ideal S1x32x2x22016 .f32)
    (b : Fin 32) (r : Fin 3) (q : Fin 22016) :
    joined X W H (ix3 b r q) = if h : r.val < 2 then H (ix4 0 b ⟨r.val, h⟩ q) else up 32 X W q b := by
  pointwise [joined, up]

/-- the taps -/
def taps_p (full : FVec Ideal S4x2050x22016 .f32) (cw : FVec Ideal S1x3x22016 .f32) (cb : FVec Ideal S1x22016 .f32) : FVec Ideal S4x2048x22016 .f32 :=
  addf (addf (addf (broadcastInDim S4x2048x22016 ![0, 1, 2] bcast_S1x1x22016_S4x2048x22016_0_1_2 (broadcastInDim S1x1x22016 ![2] bcast_S22016_S1x1x22016_2 (shapeCast S22016 cb shapeCasts_S1x22016_S22016))) (mulf (extractStridedSlice S4x2048x22016 ![0, 0, 0] full slices_S4x2050x22016_S4x2048x22016_0_0_0) (broadcastInDim S4x2048x22016 ![0, 1, 2] bcast_S1x1x22016_S4x2048x22016_0_1_2 (broadcastInDim S1x1x22016 ![2] bcast_S22016_S1x1x22016_2 (shapeCast S22016 (extractStridedSlice S1x1x22016 ![0, 0, 0] cw slices_S1x3x22016_S1x1x22016_0_0_0) shapeCasts_S1x1x22016_S22016))))) (mulf (extractStridedSlice S4x2048x22016 ![0, 1, 0] full slices_S4x2050x22016_S4x2048x22016_0_1_0) (broadcastInDim S4x2048x22016 ![0, 1, 2] bcast_S1x1x22016_S4x2048x22016_0_1_2 (broadcastInDim S1x1x22016 ![2] bcast_S22016_S1x1x22016_2 (shapeCast S22016 (extractStridedSlice S1x1x22016 ![0, 1, 0] cw slices_S1x3x22016_S1x1x22016_0_1_0) shapeCasts_S1x1x22016_S22016))))) (mulf (extractStridedSlice S4x2048x22016 ![0, 2, 0] full slices_S4x2050x22016_S4x2048x22016_0_2_0) (broadcastInDim S4x2048x22016 ![0, 1, 2] bcast_S1x1x22016_S4x2048x22016_0_1_2 (broadcastInDim S1x1x22016 ![2] bcast_S22016_S1x1x22016_2 (shapeCast S22016 (extractStridedSlice S1x1x22016 ![0, 2, 0] cw slices_S1x3x22016_S1x1x22016_0_2_0) shapeCasts_S1x1x22016_S22016))))

def taps_s (full : FVec Ideal S32x3x22016 .f32) (cw : FVec Ideal S1x3x22016 .f32) (cb : FVec Ideal S1x22016 .f32) : FVec Ideal S32x1x22016 .f32 :=
  addf (addf (addf (broadcastInDim S32x1x22016 ![0, 1, 2] bcast_S1x1x22016_S32x1x22016_0_1_2 (broadcastInDim S1x1x22016 ![2] bcast_S22016_S1x1x22016_2 (shapeCast S22016 cb shapeCasts_S1x22016_S22016))) (mulf (extractStridedSlice S32x1x22016 ![0, 0, 0] full slices_S32x3x22016_S32x1x22016_0_0_0) (broadcastInDim S32x1x22016 ![0, 1, 2] bcast_S1x1x22016_S32x1x22016_0_1_2 (broadcastInDim S1x1x22016 ![2] bcast_S22016_S1x1x22016_2 (shapeCast S22016 (extractStridedSlice S1x1x22016 ![0, 0, 0] cw slices_S1x3x22016_S1x1x22016_0_0_0) shapeCasts_S1x1x22016_S22016))))) (mulf (extractStridedSlice S32x1x22016 ![0, 1, 0] full slices_S32x3x22016_S32x1x22016_0_1_0) (broadcastInDim S32x1x22016 ![0, 1, 2] bcast_S1x1x22016_S32x1x22016_0_1_2 (broadcastInDim S1x1x22016 ![2] bcast_S22016_S1x1x22016_2 (shapeCast S22016 (extractStridedSlice S1x1x22016 ![0, 1, 0] cw slices_S1x3x22016_S1x1x22016_0_1_0) shapeCasts_S1x1x22016_S22016))))) (mulf (extractStridedSlice S32x1x22016 ![0, 2, 0] full slices_S32x3x22016_S32x1x22016_0_2_0) (broadcastInDim S32x1x22016 ![0, 1, 2] bcast_S1x1x22016_S32x1x22016_0_1_2 (broadcastInDim S1x1x22016 ![2] bcast_S22016_S1x1x22016_2 (shapeCast S22016 (extractStridedSlice S1x1x22016 ![0, 2, 0] cw slices_S1x3x22016_S1x1x22016_0_2_0) shapeCasts_S1x1x22016_S22016))))

/-- the activation -/
def glu_p (z : FVec Ideal S4x2048x22016 .f32) : FVec Ideal S8192x11008 .bf16 :=
  truncf .bf16 (shapeCast S8192x11008 (mulf (mulf (extractStridedSlice S4x2048x11008 ![0, 0, 0] z slices_S4x2048x22016_S4x2048x11008_0_0_0) (Host.divf (broadcastInDim S4x2048x11008 ![] bcast_S_S4x2048x11008 (constant S_ .f32 0x3F800000#32)) (addf (broadcastInDim S4x2048x11008 ![] bcast_S_S4x2048x11008 (constant S_ .f32 0x3F800000#32)) (Host.exp (Host.negf (extractStridedSlice S4x2048x11008 ![0, 0, 0] z slices_S4x2048x22016_S4x2048x11008_0_0_0)))))) (extractStridedSlice S4x2048x11008 ![0, 0, 11008] z slices_S4x2048x22016_S4x2048x11008_0_0_11008)) shapeCasts_S4x2048x11008_S8192x11008) bitsLt_bf16_f32

def glu_s (z : FVec Ideal S32x1x22016 .f32) : FVec Ideal S32x11008 .bf16 :=
  truncf .bf16 (shapeCast S32x11008 (mulf (mulf (extractStridedSlice S32x1x11008 ![0, 0, 0] z slices_S32x1x22016_S32x1x11008_0_0_0) (Host.divf (broadcastInDim S32x1x11008 ![] bcast_S_S32x1x11008 (constant S_ .f32 0x3F800000#32)) (addf (broadcastInDim S32x1x11008 ![] bcast_S_S32x1x11008 (constant S_ .f32 0x3F800000#32)) (Host.exp (Host.negf (extractStridedSlice S32x1x11008 ![0, 0, 0] z slices_S32x1x22016_S32x1x11008_0_0_0)))))) (extractStridedSlice S32x1x11008 ![0, 0, 11008] z slices_S32x1x22016_S32x1x11008_0_0_11008)) shapeCasts_S32x1x11008_S32x11008) bitsLt_bf16_f32

theorem taps_p_at (full : FVec Ideal S4x2050x22016 .f32) (cw : FVec Ideal S1x3x22016 .f32) (cb : FVec Ideal S1x22016 .f32)
    (s : Fin 4) (r : Fin 2048) (q : Fin 22016) :
    taps_p full cw cb (ix3 s r q) = taps cw cb q (full (ix3 s ⟨0 + r.val, by omega⟩ q)) (full (ix3 s ⟨1 + r.val, by omega⟩ q))
      (full (ix3 s ⟨2 + r.val, by omega⟩ q)) := by
  pointwise [taps_p, taps]

theorem taps_s_at (full : FVec Ideal S32x3x22016 .f32) (cw : FVec Ideal S1x3x22016 .f32) (cb : FVec Ideal S1x22016 .f32)
    (b : Fin 32) (q : Fin 22016) :
    taps_s full cw cb (ix3 b 0 q) = taps cw cb q (full (ix3 b 0 q)) (full (ix3 b 1 q)) (full (ix3 b 2 q)) := by
  pointwise [taps_s, taps]

theorem glu_p_at (z : FVec Ideal S4x2048x22016 .f32) (r : Fin 8192) (q : Fin 11008) :
    glu_p z (ix2 r q) = glu (z (ix3 ⟨r.val / 2048, by omega⟩ ⟨r.val % 2048, by omega⟩ (lo q))) (z (ix3 ⟨r.val / 2048, by omega⟩ ⟨r.val % 2048, by omega⟩ (hi q))) := by
  pointwise [glu_p, glu, logis, lo, hi]

theorem glu_s_at (z : FVec Ideal S32x1x22016 .f32) (r : Fin 32) (q : Fin 11008) :
    glu_s z (ix2 r q) = glu (z (ix3 r 0 (lo q))) (z (ix3 r 0 (hi q))) := by
  pointwise [glu_s, glu, logis, lo, hi]

theorem conv_p (X : FVec Ideal S8192x4096 .bf16) (W : FVec Ideal S1x4096x22016 .f32) (cw : FVec Ideal S1x3x22016 .f32)
    (cb : FVec Ideal S1x22016 .f32) (s : Fin 4) (r : Fin 2048) (q : Fin 22016) :
    taps_p (padded X W) cw cb (ix3 s r q) = taps cw cb q (back (up 8192 X W q) 2 ⟨2048 * s.val + r.val, by omega⟩)
      (back (up 8192 X W q) 1 ⟨2048 * s.val + r.val, by omega⟩) (up 8192 X W q ⟨2048 * s.val + r.val, by omega⟩) := by
  refine (taps_p_at _ cw cb s r q).trans ?_
  refine congr (congr (congrArg (taps cw cb q) (padded_at X W s r 0 (by decide) q)) (padded_at X W s r 1 (by decide) q)) ?_
  exact (padded_at X W s r 2 (by decide) q).trans (if_neg (by omega))

theorem ref_act_p (X : FVec Ideal S8192x4096 .bf16) (W : FVec Ideal S1x4096x22016 .f32) (cw : FVec Ideal S1x3x22016 .f32)
    (cb : FVec Ideal S1x22016 .f32) : glu_p (taps_p (padded X W) cw cb) = act_p X W cw cb := by
  funext i
  idx_vars i
  rw [glu_p_at, conv_p, conv_p]
  have e : ∀ h, (⟨2048 * (i0.val / 2048) + i0.val % 2048, h⟩ : Fin 8192) = i0 := fun h => Fin.ext (by show 2048 * (i0.val / 2048) + i0.val % 2048 = i0.val; omega)
  simp only [e]
  rfl

theorem ref_act_s (X : FVec Ideal S32x4096 .bf16) (W : FVec Ideal S1x4096x22016 .f32) (cw : FVec Ideal S1x3x22016 .f32)
    (cb : FVec Ideal S1x22016 .f32) (H : FVec Ideal S1x32x2x22016 .f32) : glu_s (taps_s (joined X W H) cw cb) = act_s X W cw cb H := by
  funext i
  idx_vars i
  rw [glu_s_at, taps_s_at, taps_s_at]
  simp only [joined_at]
  rfl

theorem ref_tail_a (X : FVec Ideal S8192x4096 .bf16) (W : FVec Ideal S1x4096x22016 .f32) :
    extractStridedSlice S4x2x11008 ![0, 0, 0] (extractStridedSlice S4x2x22016 ![0, 2048, 0] (padded X W) slices_S4x2050x22016_S4x2x22016_0_2048_0) slices_S4x2x22016_S4x2x11008_0_0_0
    = tail lo X W := by
  funext i
  idx_vars i
  have e := padded_at X W i0 ⟨2046 + i1.val, by omega⟩ 2 (by decide) (lo i2)
  generalize padded X W = full at e ⊢
  pointwise [tail]
  refine Eq.trans ?_ (e.trans ?_)
  · exact congrArg₂ (fun a b => full (ix3 i0 a b)) (Fin.ext (by show 2048 + i1.val = 2 + (2046 + i1.val); omega)) rfl
  · exact (if_neg (Nat.not_lt_zero _)).trans (at_same (up 8192 X W (lo i2)) _ _
      (by show 2048 * i0.val + (2046 + i1.val) - 0 = 2048 * i0.val + 2046 + i1.val; omega))

theorem ref_up_a (X : FVec Ideal S32x4096 .bf16) (W : FVec Ideal S1x4096x22016 .f32) (H : FVec Ideal S1x32x2x22016 .f32) :
    shapeCast S32x11008 (extractStridedSlice S32x1x11008 ![0, 1, 0] (extractStridedSlice S32x2x22016 ![0, 1, 0] (joined X W H) slices_S32x3x22016_S32x2x22016_0_1_0) slices_S32x2x22016_S32x1x11008_0_1_0) shapeCasts_S32x1x11008_S32x11008
    = row_s lo X W := by
  funext i
  idx_vars i
  have e := joined_at X W H i0 2 (lo i1)
  generalize joined X W H = full at e ⊢
  pointwise [row_s]
  refine Eq.trans ?_ (e.trans ?_)
  · rfl
  · exact dif_neg (by decide)

theorem ref_tail_b (X : FVec Ideal S8192x4096 .bf16) (W : FVec Ideal S1x4096x22016 .f32) :
    extractStridedSlice S4x2x11008 ![0, 0, 11008] (extractStridedSlice S4x2x22016 ![0, 2048, 0] (padded X W) slices_S4x2050x22016_S4x2x22016_0_2048_0) slices_S4x2x22016_S4x2x11008_0_0_11008
    = tail hi X W := by
  funext i
  idx_vars i
  have e := padded_at X W i0 ⟨2046 + i1.val, by omega⟩ 2 (by decide) (hi i2)
  generalize padded X W = full at e ⊢
  pointwise [tail]
  refine Eq.trans ?_ (e.trans ?_)
  · exact congrArg₂ (fun a b => full (ix3 i0 a b)) (Fin.ext (by show 2048 + i1.val = 2 + (2046 + i1.val); omega)) rfl
  · exact (if_neg (Nat.not_lt_zero _)).trans (at_same (up 8192 X W (hi i2)) _ _
      (by show 2048 * i0.val + (2046 + i1.val) - 0 = 2048 * i0.val + 2046 + i1.val; omega))

theorem ref_up_b (X : FVec Ideal S32x4096 .bf16) (W : FVec Ideal S1x4096x22016 .f32) (H : FVec Ideal S1x32x2x22016 .f32) :
    shapeCast S32x11008 (extractStridedSlice S32x1x11008 ![0, 1, 11008] (extractStridedSlice S32x2x22016 ![0, 1, 0] (joined X W H) slices_S32x3x22016_S32x2x22016_0_1_0) slices_S32x2x22016_S32x1x11008_0_1_11008) shapeCasts_S32x1x11008_S32x11008
    = row_s hi X W := by
  funext i
  idx_vars i
  have e := joined_at X W H i0 2 (hi i1)
  generalize joined X W H = full at e ⊢
  pointwise [row_s]
  refine Eq.trans ?_ (e.trans ?_)
  · rfl
  · exact dif_neg (by decide)

end Cert.Reference4Ideal.Value

namespace Cert.Proof

theorem frame_up_ref : Cert.quiescent_Reference4Ideal :=
  fun m g _ => (θ_run Cert.Reference4Ideal.defs _ _).mono (fun r h => ⟨fun c => (h c).2.2.2.2.2.2,
    Idealize.ShloMosaic.sem_eq_zero_of_no_sems (by decide) r.2⟩) (Cert.Reference4Ideal.Value.run m g)

set_option maxHeartbeats 2000000 in
open Cert.Reference4Ideal.Value Cert.Kernel4Ideal.Value in
theorem algebraic_up : Cert.algebraic_Kernel4Ideal_Reference4Ideal := by
  pair_intro
  · run_from Cert.Kernel4Ideal.Gen.run_main m g
    · exact hc.1 16
    · exact hc.1 17
  · run_from Cert.Reference4Ideal.Value.run m' g'
    · exact (ref_act_p _ _ _ _).trans (by simp only [hagree c]; exact (final_act_p m c).symm)
    · exact (ref_tail_a _ _).trans (by simp only [hagree c]; exact (final_tail_a m c).symm)
    · exact (ref_tail_b _ _).trans (by simp only [hagree c]; exact (final_tail_b m c).symm)
    · exact (ref_act_s _ _ _ _ _).trans (by simp only [hagree c]; exact (final_act_s m c).symm)
    · exact (ref_up_a _ _ _).trans (by simp only [hagree c]; exact (final_up_a m c).symm)
    · exact (ref_up_b _ _ _).trans (by simp only [hagree c]; exact (final_up_b m c).symm)

end Cert.Proof

end
-- ==== Proof.FfnDownPrompt.lean ====
module

public import proofs.«01_k».proof.Defs
public import proofs.«01_k».proof.Proof.Gen.Kernel5Ideal.Frame
public import proofs.«01_k».proof.Proof.Gen.Reference5Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel5Ideal.Value
open Cert.Kernel5Ideal Cert.Kernel5Ideal.Gen

variable (m : (ℓ : Loc nD τ sig) → Buf (Elt Ideal) ℓ)

theorem idx : ∀ t : Fin cfg0.N, win0_0.index t = ![t.val / 16, 0] ∧ win0_1.index t = ![0, t.val % 16]
    ∧ win0_2.index t = ![t.val / 16, t.val % 16] ∧ win0_3.index t = ![t.val / 16, t.val % 16] :=
  (by decide +kernel : ∀ t : Fin grid0.N, _)

/-- the residual plus one entry of the product -/
def out (a : FVec Ideal S8192x11008 .bf16) (w : FVec Ideal S1x11008x4096 .f32) (h : FVec Ideal S8192x4096 .f32) :
    S8192x4096.Idx → EReal :=
  fun i => h i + ∑ k : Fin 11008, a (ix2 (i 0) k) * w (ix3 0 k (i 1))

theorem final (c : Dev nD) : (dats m 0 c).arrAt 3 (cfgs 0).N
    = out (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  idx_vars y
  pointwise [k0_pay1, out]
  refine congrArg₂ (· + ·) ?_ (Finset.sum_congr rfl fun k _ => Ideal.mul_congr ?_ ?_)
  · blk_ext [iblk, V, idx t]
  · blk_ext [iblk, V, idx t]
  · blk_simp [iblk, idx t]
    entry_read
    pointwise
    blk_ext [idx t]

end Cert.Kernel5Ideal.Value

namespace Cert.Proof
open Cert.Reference5Ideal Cert.Reference5Ideal.Gen

theorem frame_down_p_ref : Cert.quiescent_Reference5Ideal :=
  fun m g _ => (θ_run Cert.Reference5Ideal.defs _ _).mono (fun r h => ⟨fun c => (h c).2,
    Idealize.ShloMosaic.sem_eq_zero_of_no_sems (by decide) r.2⟩) (Cert.Reference5Ideal.Value.run m g)

theorem ref_down_p (a : FVec Ideal S8192x11008 .bf16) (w : FVec Ideal S1x11008x4096 .f32) (h : FVec Ideal S8192x4096 .f32) :
    addf h (Host.dotGeneral dot_S8192x11008_S11008x4096_S8192x4096_1_0_0_1_n_n none (extf .f32 a bitsLt_bf16_f32)
      (shapeCast S11008x4096 w shapeCasts_S1x11008x4096_S11008x4096)) = Cert.Kernel5Ideal.Value.out a w h := by
  funext i
  pointwise [Cert.Kernel5Ideal.Value.out]

theorem algebraic_down_p : Cert.algebraic_Kernel5Ideal_Reference5Ideal := by
  pair_intro
  · run_from Cert.Kernel5Ideal.Gen.run_main m g
  · run_from Cert.Reference5Ideal.Value.run m' g'
    refine Eq.trans ?_ (Cert.Kernel5Ideal.Value.final m c).symm
    exact ref_down_p _ _ _

end Cert.Proof

end
-- ==== Proof.FfnDownSample.lean ====
module

public import proofs.«01_k».proof.Defs
public import proofs.«01_k».proof.Proof.Gen.Kernel6Ideal.Frame
public import proofs.«01_k».proof.Proof.Gen.Reference6Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel6Ideal.Value
open Cert.Kernel6Ideal Cert.Kernel6Ideal.Gen

variable (m : (ℓ : Loc nD τ sig) → Buf (Elt Ideal) ℓ)

theorem idx : ∀ t : Fin cfg0.N, win0_0.index t = ![t.val / 16, 0] ∧ win0_1.index t = ![0, t.val % 16]
    ∧ win0_2.index t = ![t.val / 16, t.val % 16] ∧ win0_3.index t = ![t.val / 16, t.val % 16] :=
  (by decide +kernel : ∀ t : Fin grid0.N, _)

/-- the residual plus one entry of the product -/
def out (a : FVec Ideal S32x11008 .bf16) (w : FVec Ideal S1x11008x4096 .f32) (h : FVec Ideal S32x4096 .f32) :
    S32x4096.Idx → EReal :=
  fun i => h i + ∑ k : Fin 11008, a (ix2 (i 0) k) * w (ix3 0 k (i 1))

theorem final (c : Dev nD) : (dats m 0 c).arrAt 3 (cfgs 0).N
    = out (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  idx_vars y
  pointwise [k0_pay1, out]
  refine congrArg₂ (· + ·) ?_ (Finset.sum_congr rfl fun k _ => Ideal.mul_congr ?_ ?_)
  · blk_ext [iblk, V, idx t]
  · blk_ext [iblk, V, idx t]
  · blk_simp [iblk, idx t]
    entry_read
    pointwise
    blk_ext [idx t]

end Cert.Kernel6Ideal.Value

namespace Cert.Proof
open Cert.Reference6Ideal Cert.Reference6Ideal.Gen

theorem frame_down_s_ref : Cert.quiescent_Reference6Ideal :=
  fun m g _ => (θ_run Cert.Reference6Ideal.defs _ _).mono (fun r h => ⟨fun c => (h c).2,
    Idealize.ShloMosaic.sem_eq_zero_of_no_sems (by decide) r.2⟩) (Cert.Reference6Ideal.Value.run m g)

theorem ref_down_s (a : FVec Ideal S32x11008 .bf16) (w : FVec Ideal S1x11008x4096 .f32) (h : FVec Ideal S32x4096 .f32) :
    addf h (Host.dotGeneral dot_S32x11008_S11008x4096_S32x4096_1_0_0_1_n_n none (extf .f32 a bitsLt_bf16_f32)
      (shapeCast S11008x4096 w shapeCasts_S1x11008x4096_S11008x4096)) = Cert.Kernel6Ideal.Value.out a w h := by
  funext i
  pointwise [Cert.Kernel6Ideal.Value.out]

theorem algebraic_down_s : Cert.algebraic_Kernel6Ideal_Reference6Ideal := by
  pair_intro
  · run_from Cert.Kernel6Ideal.Gen.run_main m g
  · run_from Cert.Reference6Ideal.Value.run m' g'
    refine Eq.trans ?_ (Cert.Kernel6Ideal.Value.final m c).symm
    exact ref_down_s _ _ _

end Cert.Proof

end
-- ==== Proof.OutProj.lean ====
module

public import proofs.«01_k».proof.Defs
public import proofs.«01_k».proof.Proof.Gen.Kernel7Ideal.Frame
public import proofs.«01_k».proof.Proof.Gen.Reference7Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel7Ideal.Value
open Cert.Kernel7Ideal Cert.Kernel7Ideal.Gen

variable (m : (ℓ : Loc nD τ sig) → Buf (Elt Ideal) ℓ)

theorem idx : ∀ t : Fin cfg0.N, win0_0.index t = ![t.val % 8, 0] ∧ win0_1.index t = ![0, 0]
    ∧ win0_2.index t = ![0, t.val / 8] ∧ win0_3.index t = ![t.val % 8, t.val / 8]
    ∧ win0_4.index t = ![0, t.val / 8] ∧ win0_5.index t = ![t.val % 8, t.val / 8]
    ∧ win0_6.index t = ![0, t.val / 8] :=
  (by decide +kernel : ∀ t : Fin grid0.N, _)

/-- one entry of the product -/
def z (n : ℕ) (X : (⟨2, ![n, 4096]⟩ : Shape).Idx → EReal) (W : S1x4096x4096.Idx → EReal) (r : Fin n) (j : Fin 4096) : EReal :=
  ∑ k : Fin 4096, X (ix2 r k) * W (ix3 0 k j)

/-- the residual plus one entry of the product -/
def out (n : ℕ) (h : (⟨2, ![n, 4096]⟩ : Shape).Idx → EReal) (X : (⟨2, ![n, 4096]⟩ : Shape).Idx → EReal)
    (W : S1x4096x4096.Idx → EReal) : (⟨2, ![n, 4096]⟩ : Shape).Idx → EReal :=
  fun i => h i + z n X W (i 0) (i 1)

theorem scratch_A (c : Dev nD) (t : Fin cfg0.N) (h0 : t.val % 8 = 0) (y : S4096x512.Idx) :
    (outsAt0 m c t.val t.isLt).2.2 y = iblk m c 2 t y := by
  rw [outsAt0_A m c t h0 (by omega)]
  frame_out
  clear h0
  canon_tiles x h
  all_goals (open_payloads; pointwise; blk_ext)

theorem scratch_hold (c : Dev nD) (t : Fin cfg0.N) (h0 : ¬t.val % 8 = 0) (y : S4096x512.Idx) :
    (outsAt0 m c t.val t.isLt).2.2 y = (outsAt0 m c (t.val - 1) (Nat.lt_of_le_of_lt (Nat.sub_le _ _) t.isLt)).2.2 y := by
  by_cases h1 : t.val % 8 = 7
  · rw [outsAt0_C m c t h0 h1]; rfl
  · rw [outsAt0_B m c t h0 h1]; rfl

theorem wtile (c : Dev nD) (t : Fin cfg0.N) (k : Fin 4096) (r : Fin 512) :
    iblk m c 2 t (ix2 k r) = m ((c : Thread nD τ).loc main_arg2)
      (ix3 0 k ⟨512 * (t.val / 8) + r.val, by have := lt_of_lt_of_eq t.isLt (show cfg0.N = 64 from N_0); omega⟩) := by
  blk_simp [iblk, idx t]
  entry_read
  pointwise
  blk_ext [idx t]

theorem iblk_hold (c : Dev nD) (t s : Fin cfg0.N) (h : t.val / 8 = s.val / 8) (y : S4096x512.Idx) :
    iblk m c 2 t y = iblk m c 2 s y := by
  idx_vars y
  rw [wtile, wtile]
  simp only [h]

theorem scratch (c : Dev nD) (t : Fin cfg0.N) :
    (outsAt0 m c t.val t.isLt).2.2 = iblk m c 2 t := by
  funext y
  exact (Pipeline.eq_of_write_hold_apply (fun n h => (outsAt0 m c n h).2.2) 8 (fun t => iblk m c 2 t) (scratch_A m c)
    (scratch_hold m c) t y).trans (iblk_hold m c _ t (by show 8 * (t.val / 8) / 8 = t.val / 8; omega) y)

theorem out_p (c : Dev nD) (t : Fin cfg0.N) :
    (outsAt0 m c t.val t.isLt).1 = k0_pay6 (iblk m c 2 t) (iblk m c 0 t) (iblk m c 3 t) := by
  by_cases h0 : t.val % 8 = 0
  · rw [outsAt0_A m c t h0 (by omega)]
    have hs := scratch_A m c t h0
    rw [outsAt0_A m c t h0 (by omega)] at hs
    frame_out at hs
    frame_out
    refine congrArg (fun s => k0_pay6 s (iblk m c 0 t) (iblk m c 3 t)) ?_
    rw [View.readCov_eq_canon']
    funext y
    refine (hs _).trans (congrArg (iblk m c 2 t) ?_)
    funext a
    apply Fin.ext
    show ![0, 0] a + 1 * (y a).val = (y a).val
    fin_cases a <;> simp
  · by_cases h1 : t.val % 8 = 7
    · rw [← scratch m c t, outsAt0_C m c t h0 h1]
      frame_out
      rw [read_unread_whole]; rfl
    · rw [← scratch m c t, outsAt0_B m c t h0 h1]
      frame_out
      rw [read_unread_whole]; rfl

theorem out_s (c : Dev nD) (t : Fin cfg0.N) (h1 : t.val % 8 = 7) :
    (outsAt0 m c t.val t.isLt).2.1 = k0_pay7 (iblk m c 2 t) (iblk m c 1 t) (iblk m c 4 t) := by
  have h0 : ¬t.val % 8 = 0 := by omega
  rw [← scratch m c t, outsAt0_C m c t h0 h1]
  frame_out
  rw [read_unread_whole]; rfl

theorem pay6_at (s : Vec Ideal S4096x512 .bf16) (x : Vec Ideal S1024x4096 .bf16) (h : Vec Ideal S1024x512 .f32)
    (r : Fin 1024) (j : Fin 512) :
    k0_pay6 (F := Ideal) s x h (ix2 r j) = h (ix2 r j) + ∑ k : Fin 4096, x (ix2 r k) * s (ix2 k j) := by
  pointwise [k0_pay6]

theorem pay7_at (s : Vec Ideal S4096x512 .bf16) (x : Vec Ideal S32x4096 .bf16) (h : Vec Ideal S32x512 .f32)
    (r : Fin 32) (j : Fin 512) :
    k0_pay7 (F := Ideal) s x h (ix2 r j) = h (ix2 r j) + ∑ k : Fin 4096, x (ix2 r k) * s (ix2 k j) := by
  pointwise [k0_pay7]

theorem hp_eq (c : Dev nD) : V m c main_v0
    = shapeCast S8192x4096 (m ((c : Thread nD τ).loc main_arg3)) shapeCasts_S4x2048x4096_S8192x4096 := by
  show StableHlo.after hostOps0 (fun b => m (c, b)) main_v0 = _
  after_results <;> rfl

theorem hs_eq (c : Dev nD) : V m c main_v1
    = shapeCast S32x4096 (m ((c : Thread nD τ).loc main_arg4)) shapeCasts_S32x1x4096_S32x4096 := by
  show StableHlo.after hostOps0 (fun b => m (c, b)) main_v1 = _
  after_results <;> rfl

theorem final_p (c : Dev nD) : (dats m 0 c).arrAt 5 (cfgs 0).N
    = out 8192 (shapeCast S8192x4096 (m ((c : Thread nD τ).loc main_arg3)) shapeCasts_S4x2048x4096_S8192x4096)
        (m ((c : Thread nD τ).loc main_arg0)) (m ((c : Thread nD τ).loc main_arg2)) := by
  refine (dats m 0 c).arrAt_eq_of_covers 5 _ (by decide +kernel) fun t _ y => ?_
  rw [← hp_eq m c]
  blk_simp
  rw [after0_5, out_p]
  idx_vars y
  rw [pay6_at]
  refine congrArg₂ (α := EReal) (β := EReal) (· + ·) ?_ (Finset.sum_congr rfl fun k _ => ?_)
  · blk_ext [iblk, idx t]
  · rw [wtile]
    refine Ideal.mul_congr ?_ ?_
    · blk_ext [iblk, V, idx t]
    · blk_ext [idx t]

theorem final_s (c : Dev nD) : (dats m 0 c).arrAt 6 (cfgs 0).N
    = out 32 (shapeCast S32x4096 (m ((c : Thread nD τ).loc main_arg4)) shapeCasts_S32x1x4096_S32x4096)
        (m ((c : Thread nD τ).loc main_arg1)) (m ((c : Thread nD τ).loc main_arg2)) := by
  refine (dats m 0 c).arrAt_eq_of_covers 6 _ (by decide +kernel) fun t hf y => ?_
  have h7 : t.val % 8 = 7 := (flush0_6 t).mp hf
  rw [← hs_eq m c]
  blk_simp
  rw [after0_6, out_s m c t h7]
  idx_vars y
  rw [pay7_at]
  refine congrArg₂ (α := EReal) (β := EReal) (· + ·) ?_ (Finset.sum_congr rfl fun k _ => ?_)
  · blk_ext [iblk, idx t]
  · rw [wtile]
    refine Ideal.mul_congr ?_ ?_
    · blk_ext [iblk, V, idx t]
    · blk_ext [idx t]

end Cert.Kernel7Ideal.Value

namespace Cert.Reference7Ideal.Value
open Cert.Reference7Ideal Cert.Reference7Ideal.Gen

theorem z_p (X : FVec Ideal S8192x4096 .bf16) (W : FVec Ideal S1x4096x4096 .f32) :
    Host.dotGeneral dot_S8192x4096_S4096x4096_S8192x4096_1_0_0_1_n_n none (extf .f32 X bitsLt_bf16_f32)
        (shapeCast S4096x4096 W shapeCasts_S1x4096x4096_S4096x4096)
    = fun i => Cert.Kernel7Ideal.Value.z 8192 X W (i 0) (i 1) := by
  funext i
  pointwise [Cert.Kernel7Ideal.Value.z]

theorem z_s (X : FVec Ideal S32x4096 .bf16) (W : FVec Ideal S1x4096x4096 .f32) :
    Host.dotGeneral dot_S32x4096_S4096x4096_S32x4096_1_0_0_1_n_n none (extf .f32 X bitsLt_bf16_f32)
        (shapeCast S4096x4096 W shapeCasts_S1x4096x4096_S4096x4096)
    = fun i => Cert.Kernel7Ideal.Value.z 32 X W (i 0) (i 1) := by
  funext i
  pointwise [Cert.Kernel7Ideal.Value.z]

end Cert.Reference7Ideal.Value

namespace Cert.Proof

theorem frame_out_ref : Cert.quiescent_Reference7Ideal :=
  fun m g _ => (θ_run Cert.Reference7Ideal.defs _ _).mono (fun r h => ⟨fun c => (h c).2.2,
    Idealize.ShloMosaic.sem_eq_zero_of_no_sems (by decide) r.2⟩) (Cert.Reference7Ideal.Value.run m g)

theorem algebraic_out : Cert.algebraic_Kernel7Ideal_Reference7Ideal := by
  pair_intro
  · run_from Cert.Kernel7Ideal.Gen.run_main m g
  · run_from Cert.Reference7Ideal.Value.run m' g'
    · refine Eq.trans ?_ (Cert.Kernel7Ideal.Value.final_p m c).symm
      rw [Cert.Reference7Ideal.Value.z_p]
      rfl
    · refine Eq.trans ?_ (Cert.Kernel7Ideal.Value.final_s m c).symm
      rw [Cert.Reference7Ideal.Value.z_s]
      rfl

end Cert.Proof

end
-- ==== Proof.Merge.lean ====
module

public import proofs.«01_k».proof.Defs
public import proofs.«01_k».proof.Proof.Gen.Kernel8Ideal.Frame
public import proofs.«01_k».proof.Proof.Gen.Reference8Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel8Ideal.Value
open Cert.Kernel8Ideal Cert.Kernel8Ideal.Gen

variable (m : (ℓ : Loc nD τ sig) → Buf (Elt Ideal) ℓ)

theorem idx : ∀ t : Fin cfg0.N, win0_0.index t = ![t.val % 8, 0] ∧ win0_1.index t = ![0, 0]
    ∧ win0_2.index t = ![t.val % 8, 0] ∧ win0_3.index t = ![0, 0]
    ∧ win0_4.index t = ![0, t.val / 8] ∧ win0_5.index t = ![0, t.val / 8]
    ∧ win0_6.index t = ![t.val % 8, t.val / 8] ∧ win0_7.index t = ![t.val % 8, t.val / 8 + 8]
    ∧ win0_8.index t = ![0, t.val / 8] ∧ win0_9.index t = ![0, t.val / 8 + 8]
    ∧ win0_10.index t = ![t.val % 8, t.val / 8] ∧ win0_11.index t = ![0, t.val / 8] :=
  (by decide +kernel : ∀ t : Fin grid0.N, _)

/-- one entry of a product -/
def z (n : ℕ) (X : (⟨2, ![n, 2048]⟩ : Shape).Idx → EReal) (W : S1x2048x4096.Idx → EReal) (r : Fin n) (j : Fin 4096) : EReal :=
  ∑ k : Fin 2048, X (ix2 r k) * W (ix3 0 k j)

/-- the two products, each times its gate -/
def mix (n : ℕ) (A B : (⟨2, ![n, 2048]⟩ : Shape).Idx → EReal) (Wa Wb : S1x2048x4096.Idx → EReal)
    (g : (⟨2, ![n, 8192]⟩ : Shape).Idx → EReal) : (⟨2, ![n, 4096]⟩ : Shape).Idx → EReal :=
  fun i => g (ix2 (i 0) ⟨(i 1).val, lt_trans (i 1).isLt (show 4096 < 8192 by decide)⟩) * z n A Wa (i 0) (i 1)
    + g (ix2 (i 0) ⟨4096 + (i 1).val, Nat.add_lt_add_left (i 1).isLt 4096⟩) * z n B Wb (i 0) (i 1)

theorem scratch_a_A (c : Dev nD) (t : Fin cfg0.N) (h0 : t.val % 8 = 0) (y : S2048x512.Idx) :
    (outsAt0 m c t.val t.isLt).2.2.1 y = iblk m c 4 t y := by
  rw [outsAt0_A m c t h0 (by omega)]
  frame_out
  clear h0
  canon_tiles x h
  all_goals (open_payloads; pointwise; blk_ext)

theorem scratch_a_hold (c : Dev nD) (t : Fin cfg0.N) (h0 : ¬t.val % 8 = 0) (y : S2048x512.Idx) :
    (outsAt0 m c t.val t.isLt).2.2.1 y = (outsAt0 m c (t.val - 1) (Nat.lt_of_le_of_lt (Nat.sub_le _ _) t.isLt)).2.2.1 y := by
  by_cases h1 : t.val % 8 = 7
  · rw [outsAt0_C m c t h0 h1]; rfl
  · rw [outsAt0_B m c t h0 h1]; rfl

theorem wtile_a (c : Dev nD) (t : Fin cfg0.N) (k : Fin 2048) (r : Fin 512) :
    iblk m c 4 t (ix2 k r) = m ((c : Thread nD τ).loc main_arg4)
      (ix3 0 k ⟨512 * (t.val / 8) + r.val, by have := lt_of_lt_of_eq t.isLt (show cfg0.N = 64 from N_0); omega⟩) := by
  blk_simp [iblk, idx t]
  entry_read
  pointwise
  blk_ext [idx t]

theorem iblk_a_hold (c : Dev nD) (t s : Fin cfg0.N) (h : t.val / 8 = s.val / 8) (y : S2048x512.Idx) :
    iblk m c 4 t y = iblk m c 4 s y := by
  idx_vars y
  rw [wtile_a, wtile_a]
  simp only [h]

theorem scratch_a (c : Dev nD) (t : Fin cfg0.N) :
    (outsAt0 m c t.val t.isLt).2.2.1 = iblk m c 4 t := by
  funext y
  exact (Pipeline.eq_of_write_hold_apply (fun n h => (outsAt0 m c n h).2.2.1) 8 (fun t => iblk m c 4 t) (scratch_a_A m c)
    (scratch_a_hold m c) t y).trans (iblk_a_hold m c _ t (by show 8 * (t.val / 8) / 8 = t.val / 8; omega) y)

theorem scratch_b_A (c : Dev nD) (t : Fin cfg0.N) (h0 : t.val % 8 = 0) (y : S2048x512.Idx) :
    (outsAt0 m c t.val t.isLt).2.2.2 y = iblk m c 5 t y := by
  rw [outsAt0_A m c t h0 (by omega)]
  frame_out
  clear h0
  canon_tiles x h
  all_goals (open_payloads; pointwise; blk_ext)

theorem scratch_b_hold (c : Dev nD) (t : Fin cfg0.N) (h0 : ¬t.val % 8 = 0) (y : S2048x512.Idx) :
    (outsAt0 m c t.val t.isLt).2.2.2 y = (outsAt0 m c (t.val - 1) (Nat.lt_of_le_of_lt (Nat.sub_le _ _) t.isLt)).2.2.2 y := by
  by_cases h1 : t.val % 8 = 7
  · rw [outsAt0_C m c t h0 h1]; rfl
  · rw [outsAt0_B m c t h0 h1]; rfl

theorem wtile_b (c : Dev nD) (t : Fin cfg0.N) (k : Fin 2048) (r : Fin 512) :
    iblk m c 5 t (ix2 k r) = m ((c : Thread nD τ).loc main_arg5)
      (ix3 0 k ⟨512 * (t.val / 8) + r.val, by have := lt_of_lt_of_eq t.isLt (show cfg0.N = 64 from N_0); omega⟩) := by
  blk_simp [iblk, idx t]
  entry_read
  pointwise
  blk_ext [idx t]

theorem iblk_b_hold (c : Dev nD) (t s : Fin cfg0.N) (h : t.val / 8 = s.val / 8) (y : S2048x512.Idx) :
    iblk m c 5 t y = iblk m c 5 s y := by
  idx_vars y
  rw [wtile_b, wtile_b]
  simp only [h]

theorem scratch_b (c : Dev nD) (t : Fin cfg0.N) :
    (outsAt0 m c t.val t.isLt).2.2.2 = iblk m c 5 t := by
  funext y
  exact (Pipeline.eq_of_write_hold_apply (fun n h => (outsAt0 m c n h).2.2.2) 8 (fun t => iblk m c 5 t) (scratch_b_A m c)
    (scratch_b_hold m c) t y).trans (iblk_b_hold m c _ t (by show 8 * (t.val / 8) / 8 = t.val / 8; omega) y)

theorem out_p (c : Dev nD) (t : Fin cfg0.N) :
    (outsAt0 m c t.val t.isLt).1 = k0_pay6 (iblk m c 0 t) (iblk m c 4 t) (iblk m c 2 t) (iblk m c 5 t) (iblk m c 6 t)
      (iblk m c 7 t) := by
  by_cases h0 : t.val % 8 = 0
  · rw [outsAt0_A m c t h0 (by omega)]
    have ha := scratch_a_A m c t h0
    have hb := scratch_b_A m c t h0
    rw [outsAt0_A m c t h0 (by omega)] at ha hb
    frame_out at ha
    frame_out at hb
    frame_out
    refine congrArg₂ (fun s u => k0_pay6 (iblk m c 0 t) s (iblk m c 2 t) u (iblk m c 6 t) (iblk m c 7 t)) ?_ ?_
    · rw [View.readCov_eq_canon']
      funext y
      refine (ha _).trans (congrArg (iblk m c 4 t) ?_)
      funext a
      apply Fin.ext
      show ![0, 0] a + 1 * (y a).val = (y a).val
      fin_cases a <;> simp
    · rw [View.readCov_eq_canon']
      funext y
      refine (hb _).trans (congrArg (iblk m c 5 t) ?_)
      funext a
      apply Fin.ext
      show ![0, 0] a + 1 * (y a).val = (y a).val
      fin_cases a <;> simp
  · by_cases h1 : t.val % 8 = 7
    · rw [← scratch_a m c t, ← scratch_b m c t, outsAt0_C m c t h0 h1]
      frame_out
      rw [read_unread_whole, read_unread_whole]; rfl
    · rw [← scratch_a m c t, ← scratch_b m c t, outsAt0_B m c t h0 h1]
      frame_out
      rw [read_unread_whole, read_unread_whole]; rfl

theorem out_s (c : Dev nD) (t : Fin cfg0.N) (h1 : t.val % 8 = 7) :
    (outsAt0 m c t.val t.isLt).2.1 = k0_pay7 (iblk m c 1 t) (iblk m c 4 t) (iblk m c 3 t) (iblk m c 5 t) (iblk m c 8 t)
      (iblk m c 9 t) := by
  have h0 : ¬t.val % 8 = 0 := by omega
  rw [← scratch_a m c t, ← scratch_b m c t, outsAt0_C m c t h0 h1]
  frame_out
  rw [read_unread_whole, read_unread_whole]; rfl

theorem pay6_at (x1 : Vec Ideal S1024x2048 .bf16) (s1 : Vec Ideal S2048x512 .bf16) (x2 : Vec Ideal S1024x2048 .bf16)
    (s2 : Vec Ideal S2048x512 .bf16) (g1 g2 : Vec Ideal S1024x512 .bf16) (r : Fin 1024) (j : Fin 512) :
    k0_pay6 (F := Ideal) x1 s1 x2 s2 g1 g2 (ix2 r j) = g1 (ix2 r j) * (∑ k : Fin 2048, x1 (ix2 r k) * s1 (ix2 k j))
      + g2 (ix2 r j) * (∑ k : Fin 2048, x2 (ix2 r k) * s2 (ix2 k j)) := by
  pointwise [k0_pay6]

theorem pay7_at (x1 : Vec Ideal S32x2048 .bf16) (s1 : Vec Ideal S2048x512 .bf16) (x2 : Vec Ideal S32x2048 .bf16)
    (s2 : Vec Ideal S2048x512 .bf16) (g1 g2 : Vec Ideal S32x512 .bf16) (r : Fin 32) (j : Fin 512) :
    k0_pay7 (F := Ideal) x1 s1 x2 s2 g1 g2 (ix2 r j) = g1 (ix2 r j) * (∑ k : Fin 2048, x1 (ix2 r k) * s1 (ix2 k j))
      + g2 (ix2 r j) * (∑ k : Fin 2048, x2 (ix2 r k) * s2 (ix2 k j)) := by
  pointwise [k0_pay7]

theorem final_p (c : Dev nD) : (dats m 0 c).arrAt 10 (cfgs 0).N
    = mix 8192 (m ((c : Thread nD τ).loc main_arg0)) (m ((c : Thread nD τ).loc main_arg2))
        (m ((c : Thread nD τ).loc main_arg4)) (m ((c : Thread nD τ).loc main_arg5))
        (m ((c : Thread nD τ).loc main_arg6)) := by
  refine (dats m 0 c).arrAt_eq_of_covers 10 _ (by decide +kernel) fun t hf y => ?_
  blk_simp
  rw [after0_10, out_p]
  idx_vars y
  rw [pay6_at]
  refine congrArg₂ (α := EReal) (β := EReal) (· + ·) (Ideal.mul_congr ?_ (Finset.sum_congr rfl fun k _ => ?_))
    (Ideal.mul_congr ?_ (Finset.sum_congr rfl fun k _ => ?_))
  · blk_ext [iblk, V, idx t]
  · rw [wtile_a]
    refine Ideal.mul_congr ?_ ?_
    · blk_ext [iblk, V, idx t]
    · blk_ext [idx t]
  · blk_ext [iblk, V, idx t]
  · rw [wtile_b]
    refine Ideal.mul_congr ?_ ?_
    · blk_ext [iblk, V, idx t]
    · blk_ext [idx t]

theorem final_s (c : Dev nD) : (dats m 0 c).arrAt 11 (cfgs 0).N
    = mix 32 (m ((c : Thread nD τ).loc main_arg1)) (m ((c : Thread nD τ).loc main_arg3))
        (m ((c : Thread nD τ).loc main_arg4)) (m ((c : Thread nD τ).loc main_arg5))
        (m ((c : Thread nD τ).loc main_arg7)) := by
  refine (dats m 0 c).arrAt_eq_of_covers 11 _ (by decide +kernel) fun t hf y => ?_
  have h7 : t.val % 8 = 7 := (flush0_11 t).mp hf
  blk_simp
  rw [after0_11, out_s m c t h7]
  idx_vars y
  rw [pay7_at]
  refine congrArg₂ (α := EReal) (β := EReal) (· + ·) (Ideal.mul_congr ?_ (Finset.sum_congr rfl fun k _ => ?_))
    (Ideal.mul_congr ?_ (Finset.sum_congr rfl fun k _ => ?_))
  · blk_ext [iblk, V, idx t]
  · rw [wtile_a]
    refine Ideal.mul_congr ?_ ?_
    · blk_ext [iblk, V, idx t]
    · blk_ext [idx t]
  · blk_ext [iblk, V, idx t]
  · rw [wtile_b]
    refine Ideal.mul_congr ?_ ?_
    · blk_ext [iblk, V, idx t]
    · blk_ext [idx t]

end Cert.Kernel8Ideal.Value

namespace Cert.Reference8Ideal.Value
open Cert.Reference8Ideal Cert.Reference8Ideal.Gen

theorem mix_p (A B : FVec Ideal S8192x2048 .bf16) (Wa Wb : FVec Ideal S1x2048x4096 .f32) (g : FVec Ideal S8192x8192 .bf16) :
    truncf .bf16 (addf (mulf (extractStridedSlice S8192x4096 ![0, 0] (extf .f32 g bitsLt_bf16_f32) slices_S8192x8192_S8192x4096_0_0)
        (Host.dotGeneral dot_S8192x2048_S2048x4096_S8192x4096_1_0_0_1_n_n none (extf .f32 A bitsLt_bf16_f32)
          (shapeCast S2048x4096 Wa shapeCasts_S1x2048x4096_S2048x4096)))
      (mulf (extractStridedSlice S8192x4096 ![0, 4096] (extf .f32 g bitsLt_bf16_f32) slices_S8192x8192_S8192x4096_0_4096)
        (Host.dotGeneral dot_S8192x2048_S2048x4096_S8192x4096_1_0_0_1_n_n none (extf .f32 B bitsLt_bf16_f32)
          (shapeCast S2048x4096 Wb shapeCasts_S1x2048x4096_S2048x4096)))) bitsLt_bf16_f32
    = Cert.Kernel8Ideal.Value.mix 8192 A B Wa Wb g := by
  funext i
  pointwise [Cert.Kernel8Ideal.Value.mix, Cert.Kernel8Ideal.Value.z]

theorem mix_s (A B : FVec Ideal S32x2048 .bf16) (Wa Wb : FVec Ideal S1x2048x4096 .f32) (g : FVec Ideal S32x8192 .bf16) :
    truncf .bf16 (addf (mulf (extractStridedSlice S32x4096 ![0, 0] (extf .f32 g bitsLt_bf16_f32) slices_S32x8192_S32x4096_0_0)
        (Host.dotGeneral dot_S32x2048_S2048x4096_S32x4096_1_0_0_1_n_n none (extf .f32 A bitsLt_bf16_f32)
          (shapeCast S2048x4096 Wa shapeCasts_S1x2048x4096_S2048x4096)))
      (mulf (extractStridedSlice S32x4096 ![0, 4096] (extf .f32 g bitsLt_bf16_f32) slices_S32x8192_S32x4096_0_4096)
        (Host.dotGeneral dot_S32x2048_S2048x4096_S32x4096_1_0_0_1_n_n none (extf .f32 B bitsLt_bf16_f32)
          (shapeCast S2048x4096 Wb shapeCasts_S1x2048x4096_S2048x4096)))) bitsLt_bf16_f32
    = Cert.Kernel8Ideal.Value.mix 32 A B Wa Wb g := by
  funext i
  pointwise [Cert.Kernel8Ideal.Value.mix, Cert.Kernel8Ideal.Value.z]

end Cert.Reference8Ideal.Value

namespace Cert.Proof

theorem frame_merge_ref : Cert.quiescent_Reference8Ideal :=
  fun m g _ => (θ_run Cert.Reference8Ideal.defs _ _).mono (fun r h => ⟨fun c => (h c).2.2,
    Idealize.ShloMosaic.sem_eq_zero_of_no_sems (by decide) r.2⟩) (Cert.Reference8Ideal.Value.run m g)

theorem algebraic_merge : Cert.algebraic_Kernel8Ideal_Reference8Ideal := by
  pair_intro
  · run_from Cert.Kernel8Ideal.Gen.run_main m g
  · run_from Cert.Reference8Ideal.Value.run m' g'
    · exact (Cert.Reference8Ideal.Value.mix_p _ _ _ _ _).trans (Cert.Kernel8Ideal.Value.final_p m c).symm
    · exact (Cert.Reference8Ideal.Value.mix_s _ _ _ _ _).trans (Cert.Kernel8Ideal.Value.final_s m c).symm

end Cert.Proof

end
-- ==== Proof.PrepPromptRunIdeal.lean ====
module

public import proofs.«01_k».proof.Proof.Gen.Kernel9Ideal.Frame
public import Idealize.ShloMosaic.Lib.Claim

/-! The call that splits the projected rows into keys and values, prompt rows at exact arithmetic: what its body leaves in each output block, and
the run of the whole program. The body stores every fourth row of a block at a time, one head after the other. -/

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole block. -/
abbrev whole : Rect S256x512 := Rect.unit (s := S256x512) ![0, 0] S256x512.size inb_S256x512_S256x512_0_0

/-- The rows 0, 4, 8, … of an output block: head 0 of every token. -/
abbrev head0 : Rect S1024x128 := ⟨(⟨![0, 0], S256x128.size, ![4, 1], inb_S1024x128_S256x128_0_0_s_4_1⟩ : LoadRect S1024x128), spos_4_1⟩

/-- The rows 1, 5, 9, … of an output block: head 1 of every token. -/
abbrev head1 : Rect S1024x128 := ⟨(⟨![1, 0], S256x128.size, ![4, 1], inb_S1024x128_S256x128_1_0_s_4_1⟩ : LoadRect S1024x128), spos_4_1⟩

/-- The rows 2, 6, 10, … of an output block: head 2 of every token. -/
abbrev head2 : Rect S1024x128 := ⟨(⟨![2, 0], S256x128.size, ![4, 1], inb_S1024x128_S256x128_2_0_s_4_1⟩ : LoadRect S1024x128), spos_4_1⟩

/-- The rows 3, 7, 11, … of an output block: head 3 of every token. -/
abbrev head3 : Rect S1024x128 := ⟨(⟨![3, 0], S256x128.size, ![4, 1], inb_S1024x128_S256x128_3_0_s_4_1⟩ : LoadRect S1024x128), spos_4_1⟩

/-- The rows `x` with their leading thirty-two features of each head rotated, by the tables `c`, `sa` and `sb`. -/
def rotated (c sa sb x : FVec F S256x512 .f32) : FVec F S256x512 .f32 :=
  addf (addf (mulf x (shapeCast S256x512 c shapeCasts_S256x512_S256x512))
    (mulf (dynamicRotate 1 496#32 none x rotates_S256x512_d1) (shapeCast S256x512 sa shapeCasts_S256x512_S256x512)))
    (mulf (dynamicRotate 1 16#32 none x rotates_S256x512_d1) (shapeCast S256x512 sb shapeCasts_S256x512_S256x512))

/-- The four stores of a block of rows, the last first. -/
def stores (x : FVec F S256x512 .f32) : List (View.Piece (Elt F) S1024x128 .f32) :=
  [⟨head3, extractStridedSlice S256x128 ![0, 384] x slices_S256x512_o0_384_S256x128⟩,
   ⟨head2, extractStridedSlice S256x128 ![0, 256] x slices_S256x512_o0_256_S256x128⟩,
   ⟨head1, extractStridedSlice S256x128 ![0, 128] x slices_S256x512_o0_128_S256x128⟩,
   ⟨head0, extractStridedSlice S256x128 ![0, 0] x slices_S256x512_o0_0_S256x128⟩]

/-- The four stores cover the block: a row is one of the four residues. -/
theorem stores_cover (x : FVec F S256x512 .f32) (y : S1024x128.Idx) : ∃ p ∈ stores x, y ∈ p.1.set := by
  have h0 : (y 0).val < 1024 := (y 0).isLt
  have h1 : (y 1).val < 128 := (y 1).isLt
  have h : (y 0).val % 4 = 0 ∨ (y 0).val % 4 = 1 ∨ (y 0).val % 4 = 2 ∨ (y 0).val % 4 = 3 := by omega
  rcases h with h | h | h | h
  · refine ⟨_, (List.Mem.tail _ (List.Mem.tail _ (List.Mem.tail _ (List.Mem.head _)))), (LoadRect.mem_set head0.toLoadRect).mpr fun a => ?_⟩
    fin_cases a
    · exact ⟨(y 0).val / 4, by show _ < 256; omega, by show (y 0).val = 0 + 4 * ((y 0).val / 4); omega⟩
    · exact ⟨(y 1).val, h1, by show (y 1).val = 0 + 1 * (y 1).val; omega⟩
  · refine ⟨_, (List.Mem.tail _ (List.Mem.tail _ (List.Mem.head _))), (LoadRect.mem_set head1.toLoadRect).mpr fun a => ?_⟩
    fin_cases a
    · exact ⟨(y 0).val / 4, by show _ < 256; omega, by show (y 0).val = 1 + 4 * ((y 0).val / 4); omega⟩
    · exact ⟨(y 1).val, h1, by show (y 1).val = 0 + 1 * (y 1).val; omega⟩
  · refine ⟨_, (List.Mem.tail _ (List.Mem.head _)), (LoadRect.mem_set head2.toLoadRect).mpr fun a => ?_⟩
    fin_cases a
    · exact ⟨(y 0).val / 4, by show _ < 256; omega, by show (y 0).val = 2 + 4 * ((y 0).val / 4); omega⟩
    · exact ⟨(y 1).val, h1, by show (y 1).val = 0 + 1 * (y 1).val; omega⟩
  · refine ⟨_, (List.Mem.head _), (LoadRect.mem_set head3.toLoadRect).mpr fun a => ?_⟩
    fin_cases a
    · exact ⟨(y 0).val / 4, by show _ < 256; omega, by show (y 0).val = 3 + 4 * ((y 0).val / 4); omega⟩
    · exact ⟨(y 1).val, h1, by show (y 1).val = 0 + 1 * (y 1).val; omega⟩

/-- A block stored head by head. -/
def heads (x : FVec F S256x512 .f32) : Vec F S1024x128 .f32 := View.canon (stores x)

/-- A block stored whole. -/
theorem whole_cover (x : Vec F S256x512 .bf16) (y : S256x512.Idx) :
    ∃ p ∈ ([⟨whole, x⟩] : List (View.Piece (Elt F) S256x512 .bf16)), y ∈ p.1.set :=
  View.cover_of_tiled [⟨whole, x⟩] S256x512.size (by rfl) y

/-- A block stored whole at half precision. -/
def half (x : FVec F S256x512 .f32) : Vec F S256x512 .bf16 := View.canon [⟨whole, truncf .bf16 x bitsLt_bf16_f32⟩]

set_option maxHeartbeats 8000000 in
/-- The body on whole blocks: the inputs stay as they were, each output holds what its stores leave. -/
theorem sound_kernel (c : Dev nD) (E : Set ℕ) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S256x512 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole)
    (x0 x1 x2 x3 x4 x5 x6 x7 x8 : Vec F S256x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (heads (View.ld x0 whole)) ∗ owns (c : Thread nD τ) arg11 fullShare (heads (View.ld x1 whole)) ∗ owns (c : Thread nD τ) arg12 fullShare (heads (rotated (View.ld x6 whole) (View.ld x7 whole) (View.ld x8 whole) (View.ld x2 whole))) ∗ owns (c : Thread nD τ) arg13 fullShare (heads (View.ld x3 whole)) ∗ owns (c : Thread nD τ) arg14 fullShare (heads (rotated (View.ld x6 whole) (View.ld x7 whole) (View.ld x8 whole) (View.ld x4 whole))) ∗ owns (c : Thread nD τ) arg15 fullShare (heads (View.ld x5 whole)) ∗ owns (c : Thread nD τ) arg16 fullShare (half (rotated (View.ld x6 whole) (View.ld x7 whole) (View.ld x8 whole) (View.ld x2 whole))) ∗ owns (c : Thread nD τ) arg17 fullShare (half (View.ld x3 whole)) ∗ owns (c : Thread nD τ) arg18 fullShare (half (rotated (View.ld x6 whole) (View.ld x7 whole) (View.ld x8 whole) (View.ld x4 whole))) ∗ owns (c : Thread nD τ) arg19 fullShare (half (View.ld x5 whole))) -∗ K ⟨⟩))
      ⊢ wp frame (wpE (defs₀ (F := F)) Variants.none c none) E (cc0_prep_p i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold cc0_prep_p k0_part1 k0_part2 k0_part3
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (stores_cover _)
  isplitl [H10]
  · iexists _; isplitr
    swap; · iexact H10
    ipureintro
    exact View.read_writes_eq_canon _ _ _ (stores_cover _)
  isplitl [H11]
  · iexists _; isplitr
    swap; · iexact H11
    ipureintro
    exact View.read_writes_eq_canon _ _ _ (stores_cover _)
  isplitl [H12]
  · iexists _; isplitr
    swap; · iexact H12
    ipureintro
    exact View.read_writes_eq_canon _ _ _ (stores_cover _)
  isplitl [H13]
  · iexists _; isplitr
    swap; · iexact H13
    ipureintro
    exact View.read_writes_eq_canon _ _ _ (stores_cover _)
  isplitl [H14]
  · iexists _; isplitr
    swap; · iexact H14
    ipureintro
    exact View.read_writes_eq_canon _ _ _ (stores_cover _)
  isplitl [H15]
  · iexists _; isplitr
    swap; · iexact H15
    ipureintro
    exact View.read_writes_eq_canon _ _ _ (whole_cover _)
  isplitl [H16]
  · iexists _; isplitr
    swap; · iexact H16
    ipureintro
    exact View.read_writes_eq_canon _ _ _ (whole_cover _)
  isplitl [H17]
  · iexists _; isplitr
    swap; · iexact H17
    ipureintro
    exact View.read_writes_eq_canon _ _ _ (whole_cover _)
  iexists _; isplitr
  swap; · iexact H18
  ipureintro
  exact View.read_writes_eq_canon _ _ _ (whole_cover _)

/-- What every block holds after a step of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => heads (View.ld (iblk m c 0 t) whole)
    | ⟨10, _⟩ => heads (View.ld (iblk m c 1 t) whole)
    | ⟨11, _⟩ => heads (rotated (View.ld (iblk m c 6 t) whole) (View.ld (iblk m c 7 t) whole) (View.ld (iblk m c 8 t) whole) (View.ld (iblk m c 2 t) whole))
    | ⟨12, _⟩ => heads (View.ld (iblk m c 3 t) whole)
    | ⟨13, _⟩ => heads (rotated (View.ld (iblk m c 6 t) whole) (View.ld (iblk m c 7 t) whole) (View.ld (iblk m c 8 t) whole) (View.ld (iblk m c 4 t) whole))
    | ⟨14, _⟩ => heads (View.ld (iblk m c 5 t) whole)
    | ⟨15, _⟩ => half (rotated (View.ld (iblk m c 6 t) whole) (View.ld (iblk m c 7 t) whole) (View.ld (iblk m c 8 t) whole) (View.ld (iblk m c 2 t) whole))
    | ⟨16, _⟩ => half (View.ld (iblk m c 3 t) whole)
    | ⟨17, _⟩ => half (rotated (View.ld (iblk m c 6 t) whole) (View.ld (iblk m c 7 t) whole) (View.ld (iblk m c 8 t) whole) (View.ld (iblk m c 4 t) whole))
    | ⟨18, _⟩ => half (View.ld (iblk m c 5 t) whole)
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = heads (View.ld (iblk m c 0 t) whole) := by dsimp only [dats]
theorem after0_10 (c : Dev nD) (t : Fin cfg0.N) : (dats m 0 c).after 10 t = heads (View.ld (iblk m c 1 t) whole) := by dsimp only [dats]
theorem after0_11 (c : Dev nD) (t : Fin cfg0.N) : (dats m 0 c).after 11 t = heads (rotated (View.ld (iblk m c 6 t) whole) (View.ld (iblk m c 7 t) whole) (View.ld (iblk m c 8 t) whole) (View.ld (iblk m c 2 t) whole)) := by dsimp only [dats]
theorem after0_12 (c : Dev nD) (t : Fin cfg0.N) : (dats m 0 c).after 12 t = heads (View.ld (iblk m c 3 t) whole) := by dsimp only [dats]
theorem after0_13 (c : Dev nD) (t : Fin cfg0.N) : (dats m 0 c).after 13 t = heads (rotated (View.ld (iblk m c 6 t) whole) (View.ld (iblk m c 7 t) whole) (View.ld (iblk m c 8 t) whole) (View.ld (iblk m c 4 t) whole)) := by dsimp only [dats]
theorem after0_14 (c : Dev nD) (t : Fin cfg0.N) : (dats m 0 c).after 14 t = heads (View.ld (iblk m c 5 t) whole) := by dsimp only [dats]
theorem after0_15 (c : Dev nD) (t : Fin cfg0.N) : (dats m 0 c).after 15 t = half (rotated (View.ld (iblk m c 6 t) whole) (View.ld (iblk m c 7 t) whole) (View.ld (iblk m c 8 t) whole) (View.ld (iblk m c 2 t) whole)) := by dsimp only [dats]
theorem after0_16 (c : Dev nD) (t : Fin cfg0.N) : (dats m 0 c).after 16 t = half (View.ld (iblk m c 3 t) whole) := by dsimp only [dats]
theorem after0_17 (c : Dev nD) (t : Fin cfg0.N) : (dats m 0 c).after 17 t = half (rotated (View.ld (iblk m c 6 t) whole) (View.ld (iblk m c 7 t) whole) (View.ld (iblk m c 8 t) whole) (View.ld (iblk m c 4 t) whole)) := by dsimp only [dats]
theorem after0_18 (c : Dev nD) (t : Fin cfg0.N) : (dats m 0 c).after 18 t = half (View.ld (iblk m c 5 t) whole) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a step of the grid, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any step: its input blocks are the arrays' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 4000000 in
/-- The run: every array ends at what the steps leave, and no semaphore is up. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument ends unchanged and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.Kernel9Ideal.Hand

end
-- ==== Proof.Rotary.lean ====
module

public import proofs.«01_k».proof.Defs
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The rotary embedding of one row of four heads of 128 lanes: the first 32 lanes of a head are turned, the others stay.
    Lane `d < 16` and lane `d + 16` form a pair, turned by the angle `q · base ^ (-d / 16)` at position `q`. -/

namespace Cert.Layer

theorem ix2_congr {a b : Nat} {i i' : Fin a} {j j' : Fin b} (hi : i = i') (hj : j = j') : ix2 i j = ix2 i' j' := by
  subst hi hj; rfl

/-- The angle of pair `d` at position `q`. -/
def angle (q : EReal) (d : Nat) : EReal :=
  q * Ideal.pow (Ideal.ofBits FTy.f32 1223959552#32)
    (Ideal.div (-FloatOps.sitofp (F := Ideal) FTy.f32 (BitVec.ofNat 32 d)) (Ideal.ofBits FTy.f32 1098907648#32))

/-- Lane `l` of a turned row `x` at position `q`. -/
def turned (q : EReal) (x : Fin 512 → EReal) (l : Fin 512) : EReal :=
  if h : l.val % 128 < 32 then
    if h' : l.val % 128 < 16 then
      x l * Ideal.cos (angle q (l.val % 128)) - x ⟨l.val + 16, by omega⟩ * Ideal.sin (angle q (l.val % 128))
    else
      x l * Ideal.cos (angle q (l.val % 128 - 16)) + x ⟨l.val - 16, by omega⟩ * Ideal.sin (angle q (l.val % 128 - 16))
  else x l

/-- The factor of the lane itself. -/
def cosLane (q : EReal) (d : Nat) : EReal :=
  if d < 16 then Ideal.cos (angle q d) else if d < 32 then Ideal.cos (angle q (d - 16)) else 1

/-- The factor of the lane sixteen further on. -/
def nextLane (q : EReal) (d : Nat) : EReal := if d < 16 then -Ideal.sin (angle q d) else 0

/-- The factor of the lane sixteen back. -/
def prevLane (q : EReal) (d : Nat) : EReal :=
  if d < 16 then 0 else if d < 32 then Ideal.sin (angle q (d - 16)) else 0

/-- A turned row as a sum of three products with the lane factors, taking the neighbours around the whole row. -/
theorem turned_eq (q : EReal) (x : Fin 512 → EReal) (l : Fin 512) :
    x l * cosLane q (l.val % 128)
      + x ⟨(l.val + 16) % 512, Nat.mod_lt _ (by decide)⟩ * nextLane q (l.val % 128)
      + x ⟨(l.val + 496) % 512, Nat.mod_lt _ (by decide)⟩ * prevLane q (l.val % 128) = turned q x l := by
  have hl := l.isLt
  unfold turned cosLane nextLane prevLane
  by_cases h16 : l.val % 128 < 16
  · have e : (⟨(l.val + 16) % 512, Nat.mod_lt _ (by decide)⟩ : Fin 512) = ⟨l.val + 16, by omega⟩ :=
      Fin.ext (by show (l.val + 16) % 512 = l.val + 16; omega)
    rw [dif_pos (show l.val % 128 < 32 by omega), dif_pos h16, if_pos h16, if_pos h16, if_pos h16, mul_zero, add_zero,
      e, mul_neg, sub_eq_add_neg]
  · by_cases h32 : l.val % 128 < 32
    · have e : (⟨(l.val + 496) % 512, Nat.mod_lt _ (by decide)⟩ : Fin 512) = ⟨l.val - 16, by omega⟩ :=
        Fin.ext (by show (l.val + 496) % 512 = l.val - 16; omega)
      rw [dif_pos h32, dif_neg h16, if_neg h16, if_neg h16, if_neg h16, if_pos h32, if_pos h32, mul_zero, add_zero, e]
    · rw [dif_neg h32, if_neg h16, if_neg h16, if_neg h16, if_neg h32, if_neg h32, mul_zero, mul_zero, add_zero, add_zero,
        mul_one]

theorem turned_congr {q q' : EReal} {x x' : Fin 512 → EReal} {l l' : Fin 512} (hq : q = q') (hx : x = x') (hl : l = l') :
    turned q x l = turned q' x' l' := by subst hq hx hl; rfl

/-- Lane `l` of the `k`-th array of keys or values in row `r` of a projection of `n` tokens: the six arrays of 512 lanes follow the
    2048 columns of the queries. -/
def lane {n : Nat} (X : (⟨2, ![n, 5632]⟩ : Shape).Idx → EReal) (k : Fin 6) (r : Fin n) (l : Fin 512) : EReal :=
  X (ix2 r ⟨2048 + 512 * k.val + l.val, by omega⟩)

end Cert.Layer

end
-- ==== Proof.PrepPromptParts.lean ====
module

public import proofs.«01_k».proof.Defs
public import proofs.«01_k».proof.Proof.PrepPromptRunIdeal
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! One pass of the call, read entry by entry: what the body leaves in each of its output blocks. -/

namespace Cert.Kernel9Ideal.Value
open Cert.Kernel9Ideal Cert.Kernel9Ideal.Gen Cert.Kernel9Ideal.Hand

theorem heads_at (x : FVec Ideal S256x512 .f32) (r : Fin 1024) (j : Fin 128) :
    heads x (ix2 r j) = x (ix2 ⟨r.val / 4, by omega⟩ ⟨128 * (r.val % 4) + j.val, by omega⟩) := by
  unfold heads
  have hc := stores_cover x (ix2 r j)
  unfold stores at hc ⊢
  canon_tiles z h using hc
  · idx_vars z
    have h0 : 3 + 4 * z0.val = r.val := congrArg (fun i : S1024x128.Idx => (i 0).val) h
    have h1 : 0 + 1 * z1.val = j.val := congrArg (fun i : S1024x128.Idx => (i 1).val) h
    clear hc h
    pointwise
    exact congrArg x (ix2_congr (Fin.ext (by dsimp only; omega)) (Fin.ext (by dsimp only; omega)))
  · idx_vars z
    have h0 : 2 + 4 * z0.val = r.val := congrArg (fun i : S1024x128.Idx => (i 0).val) h
    have h1 : 0 + 1 * z1.val = j.val := congrArg (fun i : S1024x128.Idx => (i 1).val) h
    clear hc h
    pointwise
    exact congrArg x (ix2_congr (Fin.ext (by dsimp only; omega)) (Fin.ext (by dsimp only; omega)))
  · idx_vars z
    have h0 : 1 + 4 * z0.val = r.val := congrArg (fun i : S1024x128.Idx => (i 0).val) h
    have h1 : 0 + 1 * z1.val = j.val := congrArg (fun i : S1024x128.Idx => (i 1).val) h
    clear hc h
    pointwise
    exact congrArg x (ix2_congr (Fin.ext (by dsimp only; omega)) (Fin.ext (by dsimp only; omega)))
  · idx_vars z
    have h0 : 0 + 4 * z0.val = r.val := congrArg (fun i : S1024x128.Idx => (i 0).val) h
    have h1 : 0 + 1 * z1.val = j.val := congrArg (fun i : S1024x128.Idx => (i 1).val) h
    clear hc h
    pointwise
    exact congrArg x (ix2_congr (Fin.ext (by dsimp only; omega)) (Fin.ext (by dsimp only; omega)))

theorem half_eq (x : FVec Ideal S256x512 .f32) : half x = x := by
  unfold half
  frame_out
  rfl

theorem ld_eq (x : (⟨S256x512, .f32⟩ : BufTy).Contents (Elt Ideal)) : View.ld (Val := Elt Ideal) (e' := .f32) x whole = x := by
  funext i
  idx_vars i
  unfold whole
  pointwise

end Cert.Kernel9Ideal.Value

end
-- ==== Proof.PrepPromptRot.lean ====
module

public import proofs.«01_k».proof.Defs
public import proofs.«01_k».proof.Proof.PrepPromptRunIdeal
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The turn of one block: each lane is the lane itself times the cosine table plus its two neighbours at distance 16,
    each times its sine table. -/

namespace Cert.Kernel9Ideal.Value
open Cert.Kernel9Ideal Cert.Kernel9Ideal.Gen Cert.Kernel9Ideal.Hand

theorem rotated_at (c sa sb x : FVec Ideal S256x512 .f32) (r : Fin 256) (l : Fin 512) :
    rotated c sa sb x (ix2 r l) = x (ix2 r l) * c (ix2 r l)
      + x (ix2 r ⟨(l.val + 16) % 512, Nat.mod_lt _ (by decide)⟩) * sa (ix2 r l)
      + x (ix2 r ⟨(l.val + 496) % 512, Nat.mod_lt _ (by decide)⟩) * sb (ix2 r l) := by
  unfold rotated
  pointwise
  have e : (⟨(l.val + 512 - 496) % 512, Nat.mod_lt _ (by decide)⟩ : Fin 512) = ⟨(l.val + 16) % 512, Nat.mod_lt _ (by decide)⟩ :=
    Fin.ext (by show (l.val + 512 - 496) % 512 = (l.val + 16) % 512; omega)
  have e' : (⟨(l.val + 512 - 16) % 512, Nat.mod_lt _ (by decide)⟩ : Fin 512) = ⟨(l.val + 496) % 512, Nat.mod_lt _ (by decide)⟩ :=
    Fin.ext (by show (l.val + 512 - 16) % 512 = (l.val + 496) % 512; omega)
  exact congrArg₂ (α := EReal) (β := EReal) (· + ·)
    (congrArg (fun k => x (ix2 r l) * c (ix2 r l) + x (ix2 r k) * sa (ix2 r l)) e)
    (congrArg (fun k => x (ix2 r k) * sb (ix2 r l)) e')

end Cert.Kernel9Ideal.Value

end
-- ==== Proof.PrepPromptTab.lean ====
module

public import proofs.«01_k».proof.Defs
public import proofs.«01_k».proof.Proof.PrepPromptRunIdeal
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The tables of cosines and sines the call reads, entry by entry: zero and one outside the turned lanes. -/

namespace Cert.Kernel9Ideal.Value
open Cert.Kernel9Ideal Cert.Kernel9Ideal.Gen Cert.Kernel9Ideal.Hand

variable (m : (ℓ : Loc nD τ sig) → Buf (Elt Ideal) ℓ)

def tiled (u : FVec Ideal S2048x128 .f32) : FVec Ideal S2048x512 .f32 :=
  shapeCast S2048x512 (broadcastInDim S1x2048x4x128 ![0, 1, 2, 3] bcast_S1x2048x1x128_S1x2048x4x128_0_1_2_3
    (shapeCast S1x2048x1x128 u shapeCasts_S2048x128_S1x2048x1x128)) shapeCasts_S1x2048x4x128_S2048x512

theorem tiled_at (u : FVec Ideal S2048x128 .f32) (p : Fin 2048) (l : Fin 512) :
    tiled u (ix2 p l) = u (ix2 p ⟨l.val % 128, Nat.mod_lt _ (by decide)⟩) := by
  unfold tiled
  pointwise

def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_at (p : Fin 2048) (d : Fin 16) :
    angles (ix2 p d) = angle (FloatOps.sitofp (F := Ideal) .f32 (BitVec.ofNat 32 p.val)) d.val := by
  unfold angles angle
  pointwise

theorem v25_eq (c : Dev nD) : V m c main_v25 = tiled (concatenate S2048x128 1 [⟨S2048x16, Host.cos angles⟩, ⟨S2048x16, Host.cos angles⟩,
    ⟨S2048x96, broadcastInDim S2048x96 ![] bcast_S_S2048x96 (constant S_ .f32 0x3F800000#32)⟩] concatenates_S2048x16_S2048x16_S2048x96_S2048x128_d1) := by
  show StableHlo.after hostOps0 (fun b => m (c, b)) main_v25 = _
  after_results <;> rfl

theorem v28_eq (c : Dev nD) : V m c main_v28 = tiled (concatenate S2048x128 1 [⟨S2048x16, Host.negf (Host.sin angles)⟩,
    ⟨S2048x112, broadcastInDim S2048x112 ![] bcast_S_S2048x112 (constant S_ .f32 0x00000000#32)⟩] concatenates_S2048x16_S2048x112_S2048x128_d1) := by
  show StableHlo.after hostOps0 (fun b => m (c, b)) main_v28 = _
  after_results <;> rfl

theorem v31_eq (c : Dev nD) : V m c main_v31 = tiled (concatenate S2048x128 1 [
    ⟨S2048x16, broadcastInDim S2048x16 ![] bcast_S_S2048x16 (constant S_ .f32 0x00000000#32)⟩, ⟨S2048x16, Host.sin angles⟩,
    ⟨S2048x96, broadcastInDim S2048x96 ![] bcast_S_S2048x96 (constant S_ .f32 0x00000000#32)⟩] concatenates_S2048x16_S2048x16_S2048x96_S2048x128_d1) := by
  show StableHlo.after hostOps0 (fun b => m (c, b)) main_v31 = _
  after_results <;> rfl

/-- The table of cosines: twice the cosines of the pairs, then ones. -/
theorem cos_at (p : Fin 2048) (d : Fin 128) :
    concatenate S2048x128 1 [⟨S2048x16, Host.cos angles⟩, ⟨S2048x16, Host.cos angles⟩,
    ⟨S2048x96, broadcastInDim S2048x96 ![] bcast_S_S2048x96 (constant S_ .f32 0x3F800000#32)⟩] concatenates_S2048x16_S2048x16_S2048x96_S2048x128_d1 (ix2 p d)
    = cosLane (FloatOps.sitofp (F := Ideal) .f32 (BitVec.ofNat 32 p.val)) d.val := by
  generalize ha : angles = a
  pointwise
  subst ha
  unfold cosLane
  by_cases h16 : d.val < 16
  · rw [dif_pos h16, if_pos h16]
    exact congrArg Ideal.cos (angles_at p _)
  · rw [dif_neg h16, if_neg h16]
    by_cases h32 : d.val < 32
    · rw [dif_pos (show d.val - 16 < 16 by omega), if_pos h32]
      exact congrArg Ideal.cos (angles_at p _)
    · rw [dif_neg (show ¬ d.val - 16 < 16 by omega), if_neg h32]

/-- The table for the lane sixteen further on: the negated sines, then zeros. -/
theorem next_at (p : Fin 2048) (d : Fin 128) :
    concatenate S2048x128 1 [⟨S2048x16, Host.negf (Host.sin angles)⟩,
    ⟨S2048x112, broadcastInDim S2048x112 ![] bcast_S_S2048x112 (constant S_ .f32 0x00000000#32)⟩] concatenates_S2048x16_S2048x112_S2048x128_d1 (ix2 p d)
    = nextLane (FloatOps.sitofp (F := Ideal) .f32 (BitVec.ofNat 32 p.val)) d.val := by
  generalize ha : angles = a
  pointwise
  subst ha
  unfold nextLane
  by_cases h16 : d.val < 16
  · rw [dif_pos h16, if_pos h16]
    exact congrArg (fun u => -Ideal.sin u) (angles_at p _)
  · rw [dif_neg h16, if_neg h16]

/-- The table for the lane sixteen back: zeros, the sines, zeros. -/
theorem prev_at (p : Fin 2048) (d : Fin 128) :
    concatenate S2048x128 1 [
    ⟨S2048x16, broadcastInDim S2048x16 ![] bcast_S_S2048x16 (constant S_ .f32 0x00000000#32)⟩, ⟨S2048x16, Host.sin angles⟩,
    ⟨S2048x96, broadcastInDim S2048x96 ![] bcast_S_S2048x96 (constant S_ .f32 0x00000000#32)⟩] concatenates_S2048x16_S2048x16_S2048x96_S2048x128_d1 (ix2 p d)
    = prevLane (FloatOps.sitofp (F := Ideal) .f32 (BitVec.ofNat 32 p.val)) d.val := by
  generalize ha : angles = a
  pointwise
  subst ha
  unfold prevLane
  by_cases h16 : d.val < 16
  · first | rw [dif_pos h16, if_pos h16] | rw [if_pos h16, if_pos h16]
  · first | rw [dif_neg h16, if_neg h16] | rw [if_neg h16, if_neg h16]
    by_cases h32 : d.val < 32
    · rw [dif_pos (show d.val - 16 < 16 by omega), if_pos h32]
      exact congrArg Ideal.sin (angles_at p _)
    · rw [dif_neg (show ¬ d.val - 16 < 16 by omega), if_neg h32]

end Cert.Kernel9Ideal.Value

end
-- ==== Proof.PrepPromptRef.lean ====
module

public import proofs.«01_k».proof.Defs
public import proofs.«01_k».proof.Proof.Gen.Reference9Ideal.Run
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The reference's keys and values, entry by entry: its turned heads are the rotary embedding of their rows. -/

namespace Cert.Reference9Ideal.Value
open Cert.Reference9Ideal Cert.Reference9Ideal.Gen
variable (m : (ℓ : Loc nD τ sig) → Buf (Elt Ideal) ℓ)

def turnedHeads (x : FVec Ideal S4x2048x4x128 .f32) (a : FVec Ideal S2048x16 .f32) : FVec Ideal S4x2048x4x128 .f32 :=
  concatenate S4x2048x4x128 3 [⟨S4x2048x4x32, (concatenate S4x2048x4x32 3 [
    ⟨S4x2048x4x16, (subf
      (mulf (extractStridedSlice S4x2048x4x16 ![0, 0, 0, 0] x slices_S4x2048x4x128_S4x2048x4x16_0_0_0_0)
        (broadcastInDim S4x2048x4x16 ![0, 1, 2, 3] bcast_S1x2048x1x16_S4x2048x4x16_0_1_2_3 (broadcastInDim S1x2048x1x16 ![1, 3] bcast_S2048x16_S1x2048x1x16_1_3 (Host.cos a))))
      (mulf (extractStridedSlice S4x2048x4x16 ![0, 0, 0, 16] x slices_S4x2048x4x128_S4x2048x4x16_0_0_0_16)
        (broadcastInDim S4x2048x4x16 ![0, 1, 2, 3] bcast_S1x2048x1x16_S4x2048x4x16_0_1_2_3 (broadcastInDim S1x2048x1x16 ![1, 3] bcast_S2048x16_S1x2048x1x16_1_3 (Host.sin a)))))⟩,
    ⟨S4x2048x4x16, (addf
      (mulf (extractStridedSlice S4x2048x4x16 ![0, 0, 0, 16] x slices_S4x2048x4x128_S4x2048x4x16_0_0_0_16)
        (broadcastInDim S4x2048x4x16 ![0, 1, 2, 3] bcast_S1x2048x1x16_S4x2048x4x16_0_1_2_3 (broadcastInDim S1x2048x1x16 ![1, 3] bcast_S2048x16_S1x2048x1x16_1_3 (Host.cos a))))
      (mulf (extractStridedSlice S4x2048x4x16 ![0, 0, 0, 0] x slices_S4x2048x4x128_S4x2048x4x16_0_0_0_0)
        (broadcastInDim S4x2048x4x16 ![0, 1, 2, 3] bcast_S1x2048x1x16_S4x2048x4x16_0_1_2_3 (broadcastInDim S1x2048x1x16 ![1, 3] bcast_S2048x16_S1x2048x1x16_1_3 (Host.sin a)))))⟩] concatenates_S4x2048x4x16_S4x2048x4x16_S4x2048x4x32_d3)⟩,
    ⟨S4x2048x4x96, extractStridedSlice S4x2048x4x96 ![0, 0, 0, 32] x slices_S4x2048x4x128_S4x2048x4x96_0_0_0_32⟩] concatenates_S4x2048x4x32_S4x2048x4x96_S4x2048x4x128_d3

def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

def columns (X : FVec Ideal S8192x5632 .f32) (o : Fin 3 → Nat) (h : S4x2048x3072.Slices o S4x2048x512) : FVec Ideal S4x2048x4x128 .f32 :=
  shapeCast _ (extractStridedSlice S4x2048x512 o (shapeCast _ (extractStridedSlice S8192x3072 ![0, 2048] X slices_S8192x5632_S8192x3072_0_2048) shapeCasts_S8192x3072_S4x2048x3072) h) shapeCasts_S4x2048x512_S4x2048x4x128

theorem angles_at (p : Fin 2048) (d : Fin 16) :
    angles (ix2 p d) = angle (FloatOps.sitofp (F := Ideal) .f32 (BitVec.ofNat 32 p.val)) d.val := by
  unfold angles angle
  pointwise

theorem rows_at (x : FVec Ideal S4x2048x4x128 .f32) (r : Fin 32768) (j : Fin 128) :
    shapeCast S32768x128 x shapeCasts_S4x2048x4x128_S32768x128 (ix2 r j)
    = x (ix4 ⟨r.val / 8192, by omega⟩ ⟨r.val / 4 % 2048, Nat.mod_lt _ (by decide)⟩ ⟨r.val % 4, Nat.mod_lt _ (by decide)⟩ j) := by
  pointwise

theorem lanes_at (x : FVec Ideal S4x2048x4x128 .f32) (r : Fin 8192) (l : Fin 512) :
    shapeCast S8192x512 x shapeCasts_S4x2048x4x128_S8192x512 (ix2 r l)
    = x (ix4 ⟨r.val / 2048, by omega⟩ ⟨r.val % 2048, Nat.mod_lt _ (by decide)⟩ ⟨l.val / 128, by omega⟩ ⟨l.val % 128, Nat.mod_lt _ (by decide)⟩) := by
  pointwise

theorem columns_at (X : FVec Ideal S8192x5632 .f32) (k : Fin 6) (h : S4x2048x3072.Slices ![0, 0, 512 * k.val] S4x2048x512)
    (b : Fin 4) (p : Fin 2048) (g : Fin 4) (d : Fin 128) :
    columns X ![0, 0, 512 * k.val] h (ix4 b p g d) = lane X k ⟨b.val * 2048 + p.val, by omega⟩ ⟨128 * g.val + d.val, by omega⟩ := by
  unfold columns lane
  pointwise
  exact congrArg X (ix2_congr rfl (Fin.ext (by show 2048 + (512 * k.val + (g.val * 128 + d.val)) = 2048 + 512 * k.val + (128 * g.val + d.val); omega)))

/-- The reference's embedding at head `g`, lane `d` of that head. -/
theorem turnedHeads_at (x : FVec Ideal S4x2048x4x128 .f32) (b : Fin 4) (p : Fin 2048) (g : Fin 4) (d : Fin 128) :
    turnedHeads x angles (ix4 b p g d)
    = turned (FloatOps.sitofp (F := Ideal) .f32 (BitVec.ofNat 32 p.val))
        (fun l => x (ix4 b p ⟨l.val / 128, by omega⟩ ⟨l.val % 128, Nat.mod_lt _ (by decide)⟩)) ⟨128 * g.val + d.val, by omega⟩ := by
  generalize ha : angles = a
  unfold turnedHeads
  pointwise
  subst ha
  unfold turned
  have hd : (128 * g.val + d.val) % 128 = d.val := by omega
  have same : ∀ (g' : Fin 4) (d' d'' : Fin 128), g'.val = g.val → d'.val = d''.val → x (ix4 b p g d'') = x (ix4 b p g' d') := by
    intro g' d' d'' h h'
    obtain rfl : g' = g := Fin.ext h
    obtain rfl : d' = d'' := Fin.ext h'
    rfl
  simp only [hd]
  by_cases h32 : d.val < 32
  · rw [dif_pos h32, dif_pos h32]
    by_cases h16 : d.val < 16
    · rw [dif_pos h16, dif_pos h16]
      refine congrArg₂ (α := EReal) (β := EReal) (· - ·) (Ideal.mul_congr (same _ _ _ ?_ ?_) (congrArg Ideal.cos (angles_at p _)))
        (Ideal.mul_congr (same _ _ _ ?_ ?_) (congrArg Ideal.sin (angles_at p _))) <;> dsimp only <;> omega
    · rw [dif_neg h16, dif_neg h16]
      refine congrArg₂ (α := EReal) (β := EReal) (· + ·) (Ideal.mul_congr (same _ _ _ ?_ ?_) (congrArg Ideal.cos (angles_at p _)))
        (Ideal.mul_congr (same _ _ _ ?_ ?_) (congrArg Ideal.sin (angles_at p _))) <;> dsimp only <;> omega
  · rw [dif_neg h32, dif_neg h32]
    refine same _ _ _ ?_ ?_ <;> dsimp only <;> omega

/-- An array of keys or values, one head per row. -/
theorem rows_plain (X : FVec Ideal S8192x5632 .f32) (k : Fin 6) (h : S4x2048x3072.Slices ![0, 0, 512 * k.val] S4x2048x512)
    (r : Fin 32768) (j : Fin 128) :
    shapeCast S32768x128 (columns X ![0, 0, 512 * k.val] h) shapeCasts_S4x2048x4x128_S32768x128 (ix2 r j)
    = lane X k ⟨r.val / 4, by omega⟩ ⟨128 * (r.val % 4) + j.val, by omega⟩ := by
  refine (rows_at _ _ _).trans ((columns_at X k h _ _ _ _).trans ?_)
  exact congrArg₂ (lane X k) (Fin.ext (by dsimp only; omega)) rfl

/-- The same with the four heads side by side. -/
theorem lanes_plain (X : FVec Ideal S8192x5632 .f32) (k : Fin 6) (h : S4x2048x3072.Slices ![0, 0, 512 * k.val] S4x2048x512)
    (r : Fin 8192) (l : Fin 512) :
    shapeCast S8192x512 (columns X ![0, 0, 512 * k.val] h) shapeCasts_S4x2048x4x128_S8192x512 (ix2 r l) = lane X k r l := by
  refine (lanes_at _ _ _).trans ((columns_at X k h _ _ _ _).trans ?_)
  exact congrArg₂ (lane X k) (Fin.ext (by dsimp only; omega)) (Fin.ext (by dsimp only; omega))

theorem row_of_columns (X : FVec Ideal S8192x5632 .f32) (k : Fin 6) (h : S4x2048x3072.Slices ![0, 0, 512 * k.val] S4x2048x512)
    (b : Fin 4) (p : Fin 2048) (r : Fin 8192) (e : b.val * 2048 + p.val = r.val) :
    (fun l : Fin 512 => columns X ![0, 0, 512 * k.val] h (ix4 b p ⟨l.val / 128, by omega⟩ ⟨l.val % 128, Nat.mod_lt _ (by decide)⟩))
    = lane X k r := by
  funext l
  refine (columns_at X k h _ _ _ _).trans ?_
  exact congrArg₂ (lane X k) (Fin.ext e) (Fin.ext (by dsimp only; omega))

/-- A turned array of keys, one head per row. -/
theorem rows_turned (X : FVec Ideal S8192x5632 .f32) (k : Fin 6) (h : S4x2048x3072.Slices ![0, 0, 512 * k.val] S4x2048x512)
    (r : Fin 32768) (j : Fin 128) :
    shapeCast S32768x128 (turnedHeads (columns X ![0, 0, 512 * k.val] h) angles) shapeCasts_S4x2048x4x128_S32768x128 (ix2 r j)
    = turned (FloatOps.sitofp (F := Ideal) .f32 (BitVec.ofNat 32 (r.val / 4 % 2048))) (lane X k ⟨r.val / 4, by omega⟩)
        ⟨128 * (r.val % 4) + j.val, by omega⟩ := by
  refine (rows_at _ _ _).trans ((turnedHeads_at _ _ _ _ _).trans ?_)
  exact turned_congr rfl (row_of_columns X k h _ _ _ (by dsimp only; omega)) rfl

/-- The same with the four heads side by side. -/
theorem lanes_turned (X : FVec Ideal S8192x5632 .f32) (k : Fin 6) (h : S4x2048x3072.Slices ![0, 0, 512 * k.val] S4x2048x512)
    (r : Fin 8192) (l : Fin 512) :
    shapeCast S8192x512 (turnedHeads (columns X ![0, 0, 512 * k.val] h) angles) shapeCasts_S4x2048x4x128_S8192x512 (ix2 r l)
    = turned (FloatOps.sitofp (F := Ideal) .f32 (BitVec.ofNat 32 (r.val % 2048))) (lane X k r) l := by
  refine (lanes_at _ _ _).trans ((turnedHeads_at _ _ _ _ _).trans ?_)
  exact turned_congr rfl (row_of_columns X k h _ _ _ (by dsimp only; omega)) (Fin.ext (by dsimp only; omega))

end Cert.Reference9Ideal.Value

end
-- ==== Proof.PrepPrompt.lean ====
module

public import proofs.«01_k».proof.Defs
public import proofs.«01_k».proof.Proof.PrepPromptRunIdeal
public import proofs.«01_k».proof.Proof.Gen.Reference9Ideal.Run
public import proofs.«01_k».proof.Proof.PrepPromptParts
public import proofs.«01_k».proof.Proof.PrepPromptRot
public import proofs.«01_k».proof.Proof.PrepPromptTab
public import proofs.«01_k».proof.Proof.PrepPromptRef
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The keys and values of the prompt: six arrays of four heads each, the keys of the selected blocks and of the window turned by their
    token's position, laid out one head per row, and four of them also with the four heads side by side. -/

namespace Cert.Layer

/-- Lane `l` of the `k`-th array at token `r` of the prompt, turned by the token's position in its sequence of 2048. -/
def turnedLane (X : (⟨2, ![8192, 5632]⟩ : Shape).Idx → EReal) (k : Fin 6) (r : Fin 8192) (l : Fin 512) : EReal :=
  turned (FloatOps.sitofp (F := Ideal) .f32 (BitVec.ofNat 32 (r.val % 2048))) (lane X k r) l

end Cert.Layer

namespace Cert.Kernel9Ideal.Value
open Cert.Kernel9Ideal Cert.Kernel9Ideal.Gen Cert.Kernel9Ideal.Hand

variable (m : (ℓ : Loc nD τ sig) → Buf (Elt Ideal) ℓ)

theorem idx : ∀ t : Fin cfg0.N, win0_0.index t = ![t.val, 4] ∧ win0_1.index t = ![t.val, 5] ∧ win0_2.index t = ![t.val, 6]
    ∧ win0_3.index t = ![t.val, 7] ∧ win0_4.index t = ![t.val, 8] ∧ win0_5.index t = ![t.val, 9]
    ∧ win0_6.index t = ![t.val % 8, 0] ∧ win0_7.index t = ![t.val % 8, 0] ∧ win0_8.index t = ![t.val % 8, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] :=
  (by decide +kernel : ∀ t : Fin grid0.N, _)

/-- One head per row. -/
def rowsOf (f : Fin 8192 → Fin 512 → EReal) : S32768x128.Idx → EReal := fun i =>
  f ⟨(i 0).val / 4, by have := (i 0).isLt; change (i 0).val < 32768 at this; omega⟩
    ⟨128 * ((i 0).val % 4) + (i 1).val, by have := (i 1).isLt; change (i 1).val < 128 at this; omega⟩

/-- The four heads side by side. -/
def lanesOf (f : Fin 8192 → Fin 512 → EReal) : S8192x512.Idx → EReal := fun i => f (i 0) (i 1)

theorem row_lt (t : Fin cfg0.N) (r : Fin 256) : 256 * t.val + r.val < 8192 := by
  have ht : t.val < 32 := t.isLt
  omega

theorem block0 (c : Dev nD) (t : Fin cfg0.N) (r : Fin 256) (l : Fin 512) :
    iblk m c 0 t (ix2 r l) = lane (m (c.tc.loc main_arg0)) 0 ⟨256 * t.val + r.val, row_lt t r⟩ l := by
  unfold lane
  blk_simp [iblk, idx t]
  blk_ext [V, idx t]

theorem block1 (c : Dev nD) (t : Fin cfg0.N) (r : Fin 256) (l : Fin 512) :
    iblk m c 1 t (ix2 r l) = lane (m (c.tc.loc main_arg0)) 1 ⟨256 * t.val + r.val, row_lt t r⟩ l := by
  unfold lane
  blk_simp [iblk, idx t]
  blk_ext [V, idx t]

theorem block2 (c : Dev nD) (t : Fin cfg0.N) (r : Fin 256) (l : Fin 512) :
    iblk m c 2 t (ix2 r l) = lane (m (c.tc.loc main_arg0)) 2 ⟨256 * t.val + r.val, row_lt t r⟩ l := by
  unfold lane
  blk_simp [iblk, idx t]
  blk_ext [V, idx t]

theorem block3 (c : Dev nD) (t : Fin cfg0.N) (r : Fin 256) (l : Fin 512) :
    iblk m c 3 t (ix2 r l) = lane (m (c.tc.loc main_arg0)) 3 ⟨256 * t.val + r.val, row_lt t r⟩ l := by
  unfold lane
  blk_simp [iblk, idx t]
  blk_ext [V, idx t]

theorem block4 (c : Dev nD) (t : Fin cfg0.N) (r : Fin 256) (l : Fin 512) :
    iblk m c 4 t (ix2 r l) = lane (m (c.tc.loc main_arg0)) 4 ⟨256 * t.val + r.val, row_lt t r⟩ l := by
  unfold lane
  blk_simp [iblk, idx t]
  blk_ext [V, idx t]

theorem block5 (c : Dev nD) (t : Fin cfg0.N) (r : Fin 256) (l : Fin 512) :
    iblk m c 5 t (ix2 r l) = lane (m (c.tc.loc main_arg0)) 5 ⟨256 * t.val + r.val, row_lt t r⟩ l := by
  unfold lane
  blk_simp [iblk, idx t]
  blk_ext [V, idx t]

theorem table6 (c : Dev nD) (t : Fin cfg0.N) (r : Fin 256) (l : Fin 512) :
    iblk m c 6 t (ix2 r l) = cosLane (FloatOps.sitofp (F := Ideal) .f32 (BitVec.ofNat 32 ((256 * t.val + r.val) % 2048))) (l.val % 128) := by
  have ht : t.val < 32 := t.isLt
  have e : iblk m c 6 t (ix2 r l) = V m c main_v25 (ix2 ⟨256 * (t.val % 8) + r.val, by omega⟩ l) := by
    blk_simp [iblk, idx t]
    generalize V m c main_v25 = x
    blk_ext [idx t]
  rw [e, v25_eq]
  refine (tiled_at _ _ _).trans ((cos_at _ _).trans ?_)
  dsimp only
  rw [show 256 * (t.val % 8) + r.val = (256 * t.val + r.val) % 2048 by omega]

theorem table7 (c : Dev nD) (t : Fin cfg0.N) (r : Fin 256) (l : Fin 512) :
    iblk m c 7 t (ix2 r l) = nextLane (FloatOps.sitofp (F := Ideal) .f32 (BitVec.ofNat 32 ((256 * t.val + r.val) % 2048))) (l.val % 128) := by
  have ht : t.val < 32 := t.isLt
  have e : iblk m c 7 t (ix2 r l) = V m c main_v28 (ix2 ⟨256 * (t.val % 8) + r.val, by omega⟩ l) := by
    blk_simp [iblk, idx t]
    generalize V m c main_v28 = x
    blk_ext [idx t]
  rw [e, v28_eq]
  refine (tiled_at _ _ _).trans ((next_at _ _).trans ?_)
  dsimp only
  rw [show 256 * (t.val % 8) + r.val = (256 * t.val + r.val) % 2048 by omega]

theorem table8 (c : Dev nD) (t : Fin cfg0.N) (r : Fin 256) (l : Fin 512) :
    iblk m c 8 t (ix2 r l) = prevLane (FloatOps.sitofp (F := Ideal) .f32 (BitVec.ofNat 32 ((256 * t.val + r.val) % 2048))) (l.val % 128) := by
  have ht : t.val < 32 := t.isLt
  have e : iblk m c 8 t (ix2 r l) = V m c main_v31 (ix2 ⟨256 * (t.val % 8) + r.val, by omega⟩ l) := by
    blk_simp [iblk, idx t]
    generalize V m c main_v31 = x
    blk_ext [idx t]
  rw [e, v31_eq]
  refine (tiled_at _ _ _).trans ((prev_at _ _).trans ?_)
  dsimp only
  rw [show 256 * (t.val % 8) + r.val = (256 * t.val + r.val) % 2048 by omega]

/-- What the three products over a block of rows add up to, for the `k`-th array. -/
theorem turned_block (c : Dev nD) (t : Fin cfg0.N) (k : Fin 6) (x : FVec Ideal S256x512 .f32)
    (hx : ∀ r l, x (ix2 r l) = lane (m (c.tc.loc main_arg0)) k ⟨256 * t.val + r.val, row_lt t r⟩ l) (r : Fin 256) (l : Fin 512) :
    rotated (iblk m c 6 t) (iblk m c 7 t) (iblk m c 8 t) x (ix2 r l)
    = turnedLane (m (c.tc.loc main_arg0)) k ⟨256 * t.val + r.val, row_lt t r⟩ l := by
  refine (rotated_at _ _ _ _ _ _).trans (Eq.trans ?_ (turned_eq _ _ _))
  exact congrArg₂ (α := EReal) (β := EReal) (· + ·) (congrArg₂ (α := EReal) (β := EReal) (· + ·)
    (Ideal.mul_congr (hx _ _) (table6 m c t r l)) (Ideal.mul_congr (hx _ _) (table7 m c t r l)))
    (Ideal.mul_congr (hx _ _) (table8 m c t r l))

theorem out_lt (t : Fin cfg0.N) (r : Fin 1024) : 1024 * t.val + r.val < 32768 := by
  have ht : t.val < 32 := t.isLt
  omega

theorem rowsOf_at (f : Fin 8192 → Fin 512 → EReal) (t : Fin cfg0.N) (r : Fin 1024) (j : Fin 128) :
    f ⟨256 * t.val + r.val / 4, by have ht : t.val < 32 := t.isLt; omega⟩ ⟨128 * (r.val % 4) + j.val, by omega⟩
    = rowsOf f (ix2 ⟨1024 * t.val + r.val, out_lt t r⟩ j) := by
  unfold rowsOf
  refine congrArg₂ f (Fin.ext ?_) (Fin.ext ?_)
  · show 256 * t.val + r.val / 4 = (1024 * t.val + r.val) / 4
    omega
  · show 128 * (r.val % 4) + j.val = 128 * ((1024 * t.val + r.val) % 4) + j.val
    omega

theorem final_9 (c : Dev nD) : (dats m 0 c).arrAt 9 (cfgs 0).N = rowsOf (lane (m (c.tc.loc main_arg0)) 0) := by
  generalize hf : rowsOf (lane (m (c.tc.loc main_arg0)) 0) = f
  refine (dats m 0 c).arrAt_eq_of_covers 9 _ (by decide +kernel) fun t _ y => ?_
  rw [after0_9, ld_eq]
  idx_vars y
  refine (heads_at _ _ _).trans ((block0 m c t _ _).trans ((rowsOf_at (lane (m (c.tc.loc main_arg0)) 0) t y0 y1).trans ?_))
  rw [hf]
  blk_ext [idx t]

theorem final_10 (c : Dev nD) : (dats m 0 c).arrAt 10 (cfgs 0).N = rowsOf (lane (m (c.tc.loc main_arg0)) 1) := by
  generalize hf : rowsOf (lane (m (c.tc.loc main_arg0)) 1) = f
  refine (dats m 0 c).arrAt_eq_of_covers 10 _ (by decide +kernel) fun t _ y => ?_
  rw [after0_10, ld_eq]
  idx_vars y
  refine (heads_at _ _ _).trans ((block1 m c t _ _).trans ((rowsOf_at (lane (m (c.tc.loc main_arg0)) 1) t y0 y1).trans ?_))
  rw [hf]
  blk_ext [idx t]

theorem final_11 (c : Dev nD) : (dats m 0 c).arrAt 11 (cfgs 0).N = rowsOf (turnedLane (m (c.tc.loc main_arg0)) 2) := by
  generalize hf : rowsOf (turnedLane (m (c.tc.loc main_arg0)) 2) = f
  refine (dats m 0 c).arrAt_eq_of_covers 11 _ (by decide +kernel) fun t _ y => ?_
  rw [after0_11, ld_eq, ld_eq, ld_eq, ld_eq]
  idx_vars y
  refine (heads_at _ _ _).trans ((turned_block m c t 2 _ (block2 m c t) _ _).trans ((rowsOf_at (turnedLane (m (c.tc.loc main_arg0)) 2) t y0 y1).trans ?_))
  rw [hf]
  blk_ext [idx t]

theorem final_12 (c : Dev nD) : (dats m 0 c).arrAt 12 (cfgs 0).N = rowsOf (lane (m (c.tc.loc main_arg0)) 3) := by
  generalize hf : rowsOf (lane (m (c.tc.loc main_arg0)) 3) = f
  refine (dats m 0 c).arrAt_eq_of_covers 12 _ (by decide +kernel) fun t _ y => ?_
  rw [after0_12, ld_eq]
  idx_vars y
  refine (heads_at _ _ _).trans ((block3 m c t _ _).trans ((rowsOf_at (lane (m (c.tc.loc main_arg0)) 3) t y0 y1).trans ?_))
  rw [hf]
  blk_ext [idx t]

theorem final_13 (c : Dev nD) : (dats m 0 c).arrAt 13 (cfgs 0).N = rowsOf (turnedLane (m (c.tc.loc main_arg0)) 4) := by
  generalize hf : rowsOf (turnedLane (m (c.tc.loc main_arg0)) 4) = f
  refine (dats m 0 c).arrAt_eq_of_covers 13 _ (by decide +kernel) fun t _ y => ?_
  rw [after0_13, ld_eq, ld_eq, ld_eq, ld_eq]
  idx_vars y
  refine (heads_at _ _ _).trans ((turned_block m c t 4 _ (block4 m c t) _ _).trans ((rowsOf_at (turnedLane (m (c.tc.loc main_arg0)) 4) t y0 y1).trans ?_))
  rw [hf]
  blk_ext [idx t]

theorem final_14 (c : Dev nD) : (dats m 0 c).arrAt 14 (cfgs 0).N = rowsOf (lane (m (c.tc.loc main_arg0)) 5) := by
  generalize hf : rowsOf (lane (m (c.tc.loc main_arg0)) 5) = f
  refine (dats m 0 c).arrAt_eq_of_covers 14 _ (by decide +kernel) fun t _ y => ?_
  rw [after0_14, ld_eq]
  idx_vars y
  refine (heads_at _ _ _).trans ((block5 m c t _ _).trans ((rowsOf_at (lane (m (c.tc.loc main_arg0)) 5) t y0 y1).trans ?_))
  rw [hf]
  blk_ext [idx t]

theorem final_15 (c : Dev nD) : (dats m 0 c).arrAt 15 (cfgs 0).N = lanesOf (turnedLane (m (c.tc.loc main_arg0)) 2) := by
  generalize hf : lanesOf (turnedLane (m (c.tc.loc main_arg0)) 2) = f
  refine (dats m 0 c).arrAt_eq_of_covers 15 _ (by decide +kernel) fun t _ y => ?_
  rw [after0_15, ld_eq, ld_eq, ld_eq, ld_eq, half_eq]
  idx_vars y
  refine (turned_block m c t 2 _ (block2 m c t) _ _).trans ?_
  change lanesOf (turnedLane (m (c.tc.loc main_arg0)) 2) (ix2 ⟨256 * t.val + y0.val, row_lt t y0⟩ y1) = _
  rw [hf]
  blk_ext [idx t]

theorem final_16 (c : Dev nD) : (dats m 0 c).arrAt 16 (cfgs 0).N = lanesOf (lane (m (c.tc.loc main_arg0)) 3) := by
  generalize hf : lanesOf (lane (m (c.tc.loc main_arg0)) 3) = f
  refine (dats m 0 c).arrAt_eq_of_covers 16 _ (by decide +kernel) fun t _ y => ?_
  rw [after0_16, ld_eq, half_eq]
  idx_vars y
  refine (block3 m c t _ _).trans ?_
  change lanesOf (lane (m (c.tc.loc main_arg0)) 3) (ix2 ⟨256 * t.val + y0.val, row_lt t y0⟩ y1) = _
  rw [hf]
  blk_ext [idx t]

theorem final_17 (c : Dev nD) : (dats m 0 c).arrAt 17 (cfgs 0).N = lanesOf (turnedLane (m (c.tc.loc main_arg0)) 4) := by
  generalize hf : lanesOf (turnedLane (m (c.tc.loc main_arg0)) 4) = f
  refine (dats m 0 c).arrAt_eq_of_covers 17 _ (by decide +kernel) fun t _ y => ?_
  rw [after0_17, ld_eq, ld_eq, ld_eq, ld_eq, half_eq]
  idx_vars y
  refine (turned_block m c t 4 _ (block4 m c t) _ _).trans ?_
  change lanesOf (turnedLane (m (c.tc.loc main_arg0)) 4) (ix2 ⟨256 * t.val + y0.val, row_lt t y0⟩ y1) = _
  rw [hf]
  blk_ext [idx t]

theorem final_18 (c : Dev nD) : (dats m 0 c).arrAt 18 (cfgs 0).N = lanesOf (lane (m (c.tc.loc main_arg0)) 5) := by
  generalize hf : lanesOf (lane (m (c.tc.loc main_arg0)) 5) = f
  refine (dats m 0 c).arrAt_eq_of_covers 18 _ (by decide +kernel) fun t _ y => ?_
  rw [after0_18, ld_eq, half_eq]
  idx_vars y
  refine (block5 m c t _ _).trans ?_
  change lanesOf (lane (m (c.tc.loc main_arg0)) 5) (ix2 ⟨256 * t.val + y0.val, row_lt t y0⟩ y1) = _
  rw [hf]
  blk_ext [idx t]

end Cert.Kernel9Ideal.Value

namespace Cert.Reference9Ideal.Value
open Cert.Reference9Ideal Cert.Reference9Ideal.Gen

variable (m : (ℓ : Loc nD τ sig) → Buf (Elt Ideal) ℓ)

theorem v77_eq (X : FVec Ideal S8192x5632 .f32) : shapeCast S32768x128 (columns X ![0, 0, 0] slices_S4x2048x3072_S4x2048x512_0_0_0) shapeCasts_S4x2048x4x128_S32768x128
    = Cert.Kernel9Ideal.Value.rowsOf (lane X 0) := by
  funext i
  idx_vars i
  exact rows_plain _ 0 slices_S4x2048x3072_S4x2048x512_0_0_0 _ _

theorem v78_eq (X : FVec Ideal S8192x5632 .f32) : shapeCast S32768x128 (columns X ![0, 0, 512] slices_S4x2048x3072_S4x2048x512_0_0_512) shapeCasts_S4x2048x4x128_S32768x128
    = Cert.Kernel9Ideal.Value.rowsOf (lane X 1) := by
  funext i
  idx_vars i
  exact rows_plain _ 1 slices_S4x2048x3072_S4x2048x512_0_0_512 _ _

theorem v79_eq (c : Dev nD) : res_main_v79 m c
    = Cert.Kernel9Ideal.Value.rowsOf (turnedLane (m (c.tc.loc main_arg0)) 2) := by
  change shapeCast S32768x128 (turnedHeads (columns (m (c.tc.loc main_arg0)) ![0, 0, 1024] slices_S4x2048x3072_S4x2048x512_0_0_1024) angles) shapeCasts_S4x2048x4x128_S32768x128 = _
  funext i
  idx_vars i
  exact rows_turned _ 2 slices_S4x2048x3072_S4x2048x512_0_0_1024 _ _

theorem v80_eq (X : FVec Ideal S8192x5632 .f32) : shapeCast S32768x128 (columns X ![0, 0, 1536] slices_S4x2048x3072_S4x2048x512_0_0_1536) shapeCasts_S4x2048x4x128_S32768x128
    = Cert.Kernel9Ideal.Value.rowsOf (lane X 3) := by
  funext i
  idx_vars i
  exact rows_plain _ 3 slices_S4x2048x3072_S4x2048x512_0_0_1536 _ _

theorem v81_eq (c : Dev nD) : res_main_v81 m c
    = Cert.Kernel9Ideal.Value.rowsOf (turnedLane (m (c.tc.loc main_arg0)) 4) := by
  change shapeCast S32768x128 (turnedHeads (columns (m (c.tc.loc main_arg0)) ![0, 0, 2048] slices_S4x2048x3072_S4x2048x512_0_0_2048) angles) shapeCasts_S4x2048x4x128_S32768x128 = _
  funext i
  idx_vars i
  exact rows_turned _ 4 slices_S4x2048x3072_S4x2048x512_0_0_2048 _ _

theorem v82_eq (X : FVec Ideal S8192x5632 .f32) : shapeCast S32768x128 (columns X ![0, 0, 2560] slices_S4x2048x3072_S4x2048x512_0_0_2560) shapeCasts_S4x2048x4x128_S32768x128
    = Cert.Kernel9Ideal.Value.rowsOf (lane X 5) := by
  funext i
  idx_vars i
  exact rows_plain _ 5 slices_S4x2048x3072_S4x2048x512_0_0_2560 _ _

theorem v84_eq (c : Dev nD) : res_main_v84 m c
    = Cert.Kernel9Ideal.Value.lanesOf (turnedLane (m (c.tc.loc main_arg0)) 2) := by
  change truncf .bf16 (shapeCast S8192x512 (turnedHeads (columns (m (c.tc.loc main_arg0)) ![0, 0, 1024] slices_S4x2048x3072_S4x2048x512_0_0_1024) angles) shapeCasts_S4x2048x4x128_S8192x512) bitsLt_bf16_f32 = _
  funext i
  idx_vars i
  exact lanes_turned _ 2 slices_S4x2048x3072_S4x2048x512_0_0_1024 _ _

theorem v86_eq (X : FVec Ideal S8192x5632 .f32) : truncf .bf16 (shapeCast S8192x512 (columns X ![0, 0, 1536] slices_S4x2048x3072_S4x2048x512_0_0_1536) shapeCasts_S4x2048x4x128_S8192x512) bitsLt_bf16_f32
    = Cert.Kernel9Ideal.Value.lanesOf (lane X 3) := by
  funext i
  idx_vars i
  exact lanes_plain _ 3 slices_S4x2048x3072_S4x2048x512_0_0_1536 _ _

theorem v88_eq (c : Dev nD) : res_main_v88 m c
    = Cert.Kernel9Ideal.Value.lanesOf (turnedLane (m (c.tc.loc main_arg0)) 4) := by
  change truncf .bf16 (shapeCast S8192x512 (turnedHeads (columns (m (c.tc.loc main_arg0)) ![0, 0, 2048] slices_S4x2048x3072_S4x2048x512_0_0_2048) angles) shapeCasts_S4x2048x4x128_S8192x512) bitsLt_bf16_f32 = _
  funext i
  idx_vars i
  exact lanes_turned _ 4 slices_S4x2048x3072_S4x2048x512_0_0_2048 _ _

theorem v90_eq (X : FVec Ideal S8192x5632 .f32) : truncf .bf16 (shapeCast S8192x512 (columns X ![0, 0, 2560] slices_S4x2048x3072_S4x2048x512_0_0_2560) shapeCasts_S4x2048x4x128_S8192x512) bitsLt_bf16_f32
    = Cert.Kernel9Ideal.Value.lanesOf (lane X 5) := by
  funext i
  idx_vars i
  exact lanes_plain _ 5 slices_S4x2048x3072_S4x2048x512_0_0_2560 _ _

end Cert.Reference9Ideal.Value

namespace Cert.Proof

theorem frame_prep_p_ref : Cert.quiescent_Reference9Ideal :=
  fun m g _ => (θ_run Cert.Reference9Ideal.defs _ _).mono (fun r h => ⟨fun c => (h c).2.2.2.2.2.2.2.2.2.2,
    Idealize.ShloMosaic.sem_eq_zero_of_no_sems (by decide) r.2⟩) (Cert.Reference9Ideal.Value.run m g)

set_option maxHeartbeats 2000000 in
theorem algebraic_prep_p : Cert.algebraic_Kernel9Ideal_Reference9Ideal := by
  pair_intro
  · run_from Cert.Kernel9Ideal.Hand.run_main m g
    · exact hc.1 16
    · exact hc.1 17
    · exact hc.1 18
  · run_from Cert.Reference9Ideal.Value.run m' g'
    · exact (Cert.Reference9Ideal.Value.v77_eq _).trans (Cert.Kernel9Ideal.Value.final_9 m c).symm
    · exact (Cert.Reference9Ideal.Value.v78_eq _).trans (Cert.Kernel9Ideal.Value.final_10 m c).symm
    · exact (Cert.Reference9Ideal.Value.v79_eq m' c).trans (by simp only [hagree c]; exact (Cert.Kernel9Ideal.Value.final_11 m c).symm)
    · exact (Cert.Reference9Ideal.Value.v80_eq _).trans (Cert.Kernel9Ideal.Value.final_12 m c).symm
    · exact (Cert.Reference9Ideal.Value.v81_eq m' c).trans (by simp only [hagree c]; exact (Cert.Kernel9Ideal.Value.final_13 m c).symm)
    · exact (Cert.Reference9Ideal.Value.v82_eq _).trans (Cert.Kernel9Ideal.Value.final_14 m c).symm
    · exact (Cert.Reference9Ideal.Value.v84_eq m' c).trans (by simp only [hagree c]; exact (Cert.Kernel9Ideal.Value.final_15 m c).symm)
    · exact (Cert.Reference9Ideal.Value.v86_eq _).trans (Cert.Kernel9Ideal.Value.final_16 m c).symm
    · exact (Cert.Reference9Ideal.Value.v88_eq m' c).trans (by simp only [hagree c]; exact (Cert.Kernel9Ideal.Value.final_17 m c).symm)
    · exact (Cert.Reference9Ideal.Value.v90_eq _).trans (Cert.Kernel9Ideal.Value.final_18 m c).symm

end Cert.Proof

end
-- ==== Proof.PrepSampleRunIdeal.lean ====
module

public import proofs.«01_k».proof.Proof.Gen.Kernel10Ideal.Frame
public import Idealize.ShloMosaic.Lib.Claim

/-! The call that splits the projected rows into keys and values, sample rows at exact arithmetic: what its body leaves in each output block, and
the run of the whole program. The body stores every fourth row of a block at a time, one head after the other. -/

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole block. -/
abbrev whole : Rect S32x512 := Rect.unit (s := S32x512) ![0, 0] S32x512.size inb_S32x512_S32x512_0_0

/-- The rows 0, 4, 8, … of an output block: head 0 of every token. -/
abbrev head0 : Rect S128x128 := ⟨(⟨![0, 0], S32x128.size, ![4, 1], inb_S128x128_S32x128_0_0_s_4_1⟩ : LoadRect S128x128), spos_4_1⟩

/-- The rows 1, 5, 9, … of an output block: head 1 of every token. -/
abbrev head1 : Rect S128x128 := ⟨(⟨![1, 0], S32x128.size, ![4, 1], inb_S128x128_S32x128_1_0_s_4_1⟩ : LoadRect S128x128), spos_4_1⟩

/-- The rows 2, 6, 10, … of an output block: head 2 of every token. -/
abbrev head2 : Rect S128x128 := ⟨(⟨![2, 0], S32x128.size, ![4, 1], inb_S128x128_S32x128_2_0_s_4_1⟩ : LoadRect S128x128), spos_4_1⟩

/-- The rows 3, 7, 11, … of an output block: head 3 of every token. -/
abbrev head3 : Rect S128x128 := ⟨(⟨![3, 0], S32x128.size, ![4, 1], inb_S128x128_S32x128_3_0_s_4_1⟩ : LoadRect S128x128), spos_4_1⟩

/-- The rows `x` with their leading thirty-two features of each head rotated, by the tables `c`, `sa` and `sb`. -/
def rotated (c sa sb x : FVec F S32x512 .f32) : FVec F S32x512 .f32 :=
  addf (addf (mulf x (shapeCast S32x512 c shapeCasts_S32x512_S32x512))
    (mulf (dynamicRotate 1 496#32 none x rotates_S32x512_d1) (shapeCast S32x512 sa shapeCasts_S32x512_S32x512)))
    (mulf (dynamicRotate 1 16#32 none x rotates_S32x512_d1) (shapeCast S32x512 sb shapeCasts_S32x512_S32x512))

/-- The four stores of a block of rows, the last first. -/
def stores (x : FVec F S32x512 .f32) : List (View.Piece (Elt F) S128x128 .f32) :=
  [⟨head3, extractStridedSlice S32x128 ![0, 384] x slices_S32x512_o0_384_S32x128⟩,
   ⟨head2, extractStridedSlice S32x128 ![0, 256] x slices_S32x512_o0_256_S32x128⟩,
   ⟨head1, extractStridedSlice S32x128 ![0, 128] x slices_S32x512_o0_128_S32x128⟩,
   ⟨head0, extractStridedSlice S32x128 ![0, 0] x slices_S32x512_o0_0_S32x128⟩]

/-- The four stores cover the block: a row is one of the four residues. -/
theorem stores_cover (x : FVec F S32x512 .f32) (y : S128x128.Idx) : ∃ p ∈ stores x, y ∈ p.1.set := by
  have h0 : (y 0).val < 128 := (y 0).isLt
  have h1 : (y 1).val < 128 := (y 1).isLt
  have h : (y 0).val % 4 = 0 ∨ (y 0).val % 4 = 1 ∨ (y 0).val % 4 = 2 ∨ (y 0).val % 4 = 3 := by omega
  rcases h with h | h | h | h
  · refine ⟨_, (List.Mem.tail _ (List.Mem.tail _ (List.Mem.tail _ (List.Mem.head _)))), (LoadRect.mem_set head0.toLoadRect).mpr fun a => ?_⟩
    fin_cases a
    · exact ⟨(y 0).val / 4, by show _ < 32; omega, by show (y 0).val = 0 + 4 * ((y 0).val / 4); omega⟩
    · exact ⟨(y 1).val, h1, by show (y 1).val = 0 + 1 * (y 1).val; omega⟩
  · refine ⟨_, (List.Mem.tail _ (List.Mem.tail _ (List.Mem.head _))), (LoadRect.mem_set head1.toLoadRect).mpr fun a => ?_⟩
    fin_cases a
    · exact ⟨(y 0).val / 4, by show _ < 32; omega, by show (y 0).val = 1 + 4 * ((y 0).val / 4); omega⟩
    · exact ⟨(y 1).val, h1, by show (y 1).val = 0 + 1 * (y 1).val; omega⟩
  · refine ⟨_, (List.Mem.tail _ (List.Mem.head _)), (LoadRect.mem_set head2.toLoadRect).mpr fun a => ?_⟩
    fin_cases a
    · exact ⟨(y 0).val / 4, by show _ < 32; omega, by show (y 0).val = 2 + 4 * ((y 0).val / 4); omega⟩
    · exact ⟨(y 1).val, h1, by show (y 1).val = 0 + 1 * (y 1).val; omega⟩
  · refine ⟨_, (List.Mem.head _), (LoadRect.mem_set head3.toLoadRect).mpr fun a => ?_⟩
    fin_cases a
    · exact ⟨(y 0).val / 4, by show _ < 32; omega, by show (y 0).val = 3 + 4 * ((y 0).val / 4); omega⟩
    · exact ⟨(y 1).val, h1, by show (y 1).val = 0 + 1 * (y 1).val; omega⟩

/-- A block stored head by head. -/
def heads (x : FVec F S32x512 .f32) : Vec F S128x128 .f32 := View.canon (stores x)

/-- A block stored whole. -/
theorem whole_cover (x : Vec F S32x512 .bf16) (y : S32x512.Idx) :
    ∃ p ∈ ([⟨whole, x⟩] : List (View.Piece (Elt F) S32x512 .bf16)), y ∈ p.1.set :=
  View.cover_of_tiled [⟨whole, x⟩] S32x512.size (by rfl) y

/-- A block stored whole at half precision. -/
def half (x : FVec F S32x512 .f32) : Vec F S32x512 .bf16 := View.canon [⟨whole, truncf .bf16 x bitsLt_bf16_f32⟩]

set_option maxHeartbeats 8000000 in
/-- The body on whole blocks: the inputs stay as they were, each output holds what its stores leave. -/
theorem sound_kernel (c : Dev nD) (E : Set ℕ) (i : grid0.Coords) (arg1 : Memref sig .tc .vmem S32x512 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S32x512 .bf16) (harg16 : arg16.IsWhole) (arg17 : Memref sig .tc .vmem S32x512 .bf16) (harg17 : arg17.IsWhole) (arg18 : Memref sig .tc .vmem S32x512 .bf16) (harg18 : arg18.IsWhole) (arg19 : Memref sig .tc .vmem S32x512 .bf16) (harg19 : arg19.IsWhole)
    (x0 x1 x2 x3 x4 x5 x6 x7 x8 : Vec F S32x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (heads (View.ld x0 whole)) ∗ owns (c : Thread nD τ) arg11 fullShare (heads (View.ld x1 whole)) ∗ owns (c : Thread nD τ) arg12 fullShare (heads (rotated (View.ld x6 whole) (View.ld x7 whole) (View.ld x8 whole) (View.ld x2 whole))) ∗ owns (c : Thread nD τ) arg13 fullShare (heads (View.ld x3 whole)) ∗ owns (c : Thread nD τ) arg14 fullShare (heads (rotated (View.ld x6 whole) (View.ld x7 whole) (View.ld x8 whole) (View.ld x4 whole))) ∗ owns (c : Thread nD τ) arg15 fullShare (heads (View.ld x5 whole)) ∗ owns (c : Thread nD τ) arg16 fullShare (half (rotated (View.ld x6 whole) (View.ld x7 whole) (View.ld x8 whole) (View.ld x2 whole))) ∗ owns (c : Thread nD τ) arg17 fullShare (half (View.ld x3 whole)) ∗ owns (c : Thread nD τ) arg18 fullShare (half (rotated (View.ld x6 whole) (View.ld x7 whole) (View.ld x8 whole) (View.ld x4 whole))) ∗ owns (c : Thread nD τ) arg19 fullShare (half (View.ld x5 whole))) -∗ K ⟨⟩))
      ⊢ wp frame (wpE (defs₀ (F := F)) Variants.none c none) E (cc0_prep_s i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold cc0_prep_s k0_part1 k0_part2 k0_part3
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (stores_cover _)
  isplitl [H10]
  · iexists _; isplitr
    swap; · iexact H10
    ipureintro
    exact View.read_writes_eq_canon _ _ _ (stores_cover _)
  isplitl [H11]
  · iexists _; isplitr
    swap; · iexact H11
    ipureintro
    exact View.read_writes_eq_canon _ _ _ (stores_cover _)
  isplitl [H12]
  · iexists _; isplitr
    swap; · iexact H12
    ipureintro
    exact View.read_writes_eq_canon _ _ _ (stores_cover _)
  isplitl [H13]
  · iexists _; isplitr
    swap; · iexact H13
    ipureintro
    exact View.read_writes_eq_canon _ _ _ (stores_cover _)
  isplitl [H14]
  · iexists _; isplitr
    swap; · iexact H14
    ipureintro
    exact View.read_writes_eq_canon _ _ _ (stores_cover _)
  isplitl [H15]
  · iexists _; isplitr
    swap; · iexact H15
    ipureintro
    exact View.read_writes_eq_canon _ _ _ (whole_cover _)
  isplitl [H16]
  · iexists _; isplitr
    swap; · iexact H16
    ipureintro
    exact View.read_writes_eq_canon _ _ _ (whole_cover _)
  isplitl [H17]
  · iexists _; isplitr
    swap; · iexact H17
    ipureintro
    exact View.read_writes_eq_canon _ _ _ (whole_cover _)
  iexists _; isplitr
  swap; · iexact H18
  ipureintro
  exact View.read_writes_eq_canon _ _ _ (whole_cover _)

/-- What every block holds after a step of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => heads (View.ld (iblk m c 0 t) whole)
    | ⟨10, _⟩ => heads (View.ld (iblk m c 1 t) whole)
    | ⟨11, _⟩ => heads (rotated (View.ld (iblk m c 6 t) whole) (View.ld (iblk m c 7 t) whole) (View.ld (iblk m c 8 t) whole) (View.ld (iblk m c 2 t) whole))
    | ⟨12, _⟩ => heads (View.ld (iblk m c 3 t) whole)
    | ⟨13, _⟩ => heads (rotated (View.ld (iblk m c 6 t) whole) (View.ld (iblk m c 7 t) whole) (View.ld (iblk m c 8 t) whole) (View.ld (iblk m c 4 t) whole))
    | ⟨14, _⟩ => heads (View.ld (iblk m c 5 t) whole)
    | ⟨15, _⟩ => half (rotated (View.ld (iblk m c 6 t) whole) (View.ld (iblk m c 7 t) whole) (View.ld (iblk m c 8 t) whole) (View.ld (iblk m c 2 t) whole))
    | ⟨16, _⟩ => half (View.ld (iblk m c 3 t) whole)
    | ⟨17, _⟩ => half (rotated (View.ld (iblk m c 6 t) whole) (View.ld (iblk m c 7 t) whole) (View.ld (iblk m c 8 t) whole) (View.ld (iblk m c 4 t) whole))
    | ⟨18, _⟩ => half (View.ld (iblk m c 5 t) whole)
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = heads (View.ld (iblk m c 0 t) whole) := by dsimp only [dats]
theorem after0_10 (c : Dev nD) (t : Fin cfg0.N) : (dats m 0 c).after 10 t = heads (View.ld (iblk m c 1 t) whole) := by dsimp only [dats]
theorem after0_11 (c : Dev nD) (t : Fin cfg0.N) : (dats m 0 c).after 11 t = heads (rotated (View.ld (iblk m c 6 t) whole) (View.ld (iblk m c 7 t) whole) (View.ld (iblk m c 8 t) whole) (View.ld (iblk m c 2 t) whole)) := by dsimp only [dats]
theorem after0_12 (c : Dev nD) (t : Fin cfg0.N) : (dats m 0 c).after 12 t = heads (View.ld (iblk m c 3 t) whole) := by dsimp only [dats]
theorem after0_13 (c : Dev nD) (t : Fin cfg0.N) : (dats m 0 c).after 13 t = heads (rotated (View.ld (iblk m c 6 t) whole) (View.ld (iblk m c 7 t) whole) (View.ld (iblk m c 8 t) whole) (View.ld (iblk m c 4 t) whole)) := by dsimp only [dats]
theorem after0_14 (c : Dev nD) (t : Fin cfg0.N) : (dats m 0 c).after 14 t = heads (View.ld (iblk m c 5 t) whole) := by dsimp only [dats]
theorem after0_15 (c : Dev nD) (t : Fin cfg0.N) : (dats m 0 c).after 15 t = half (rotated (View.ld (iblk m c 6 t) whole) (View.ld (iblk m c 7 t) whole) (View.ld (iblk m c 8 t) whole) (View.ld (iblk m c 2 t) whole)) := by dsimp only [dats]
theorem after0_16 (c : Dev nD) (t : Fin cfg0.N) : (dats m 0 c).after 16 t = half (View.ld (iblk m c 3 t) whole) := by dsimp only [dats]
theorem after0_17 (c : Dev nD) (t : Fin cfg0.N) : (dats m 0 c).after 17 t = half (rotated (View.ld (iblk m c 6 t) whole) (View.ld (iblk m c 7 t) whole) (View.ld (iblk m c 8 t) whole) (View.ld (iblk m c 4 t) whole)) := by dsimp only [dats]
theorem after0_18 (c : Dev nD) (t : Fin cfg0.N) : (dats m 0 c).after 18 t = half (View.ld (iblk m c 5 t) whole) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a step of the grid, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any step: its input blocks are the arrays' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 4000000 in
/-- The run: every array ends at what the steps leave, and no semaphore is up. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument ends unchanged and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.Kernel10Ideal.Hand

end
-- ==== Proof.PrepSampleParts.lean ====
module

public import proofs.«01_k».proof.Defs
public import proofs.«01_k».proof.Proof.PrepSampleRunIdeal
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! One pass of the call, read entry by entry: what the body leaves in each of its output blocks. -/

namespace Cert.Kernel10Ideal.Value
open Cert.Kernel10Ideal Cert.Kernel10Ideal.Gen Cert.Kernel10Ideal.Hand

theorem heads_at (x : FVec Ideal S32x512 .f32) (r : Fin 128) (j : Fin 128) :
    heads x (ix2 r j) = x (ix2 ⟨r.val / 4, by omega⟩ ⟨128 * (r.val % 4) + j.val, by omega⟩) := by
  unfold heads
  have hc := stores_cover x (ix2 r j)
  unfold stores at hc ⊢
  canon_tiles z h using hc
  · idx_vars z
    have h0 : 3 + 4 * z0.val = r.val := congrArg (fun i : S128x128.Idx => (i 0).val) h
    have h1 : 0 + 1 * z1.val = j.val := congrArg (fun i : S128x128.Idx => (i 1).val) h
    clear hc h
    pointwise
    exact congrArg x (ix2_congr (Fin.ext (by dsimp only; omega)) (Fin.ext (by dsimp only; omega)))
  · idx_vars z
    have h0 : 2 + 4 * z0.val = r.val := congrArg (fun i : S128x128.Idx => (i 0).val) h
    have h1 : 0 + 1 * z1.val = j.val := congrArg (fun i : S128x128.Idx => (i 1).val) h
    clear hc h
    pointwise
    exact congrArg x (ix2_congr (Fin.ext (by dsimp only; omega)) (Fin.ext (by dsimp only; omega)))
  · idx_vars z
    have h0 : 1 + 4 * z0.val = r.val := congrArg (fun i : S128x128.Idx => (i 0).val) h
    have h1 : 0 + 1 * z1.val = j.val := congrArg (fun i : S128x128.Idx => (i 1).val) h
    clear hc h
    pointwise
    exact congrArg x (ix2_congr (Fin.ext (by dsimp only; omega)) (Fin.ext (by dsimp only; omega)))
  · idx_vars z
    have h0 : 0 + 4 * z0.val = r.val := congrArg (fun i : S128x128.Idx => (i 0).val) h
    have h1 : 0 + 1 * z1.val = j.val := congrArg (fun i : S128x128.Idx => (i 1).val) h
    clear hc h
    pointwise
    exact congrArg x (ix2_congr (Fin.ext (by dsimp only; omega)) (Fin.ext (by dsimp only; omega)))

theorem half_eq (x : FVec Ideal S32x512 .f32) : half x = x := by
  unfold half
  frame_out
  rfl

theorem ld_eq (x : (⟨S32x512, .f32⟩ : BufTy).Contents (Elt Ideal)) : View.ld (Val := Elt Ideal) (e' := .f32) x whole = x := by
  funext i
  idx_vars i
  unfold whole
  pointwise

end Cert.Kernel10Ideal.Value

end
-- ==== Proof.PrepSampleRot.lean ====
module

public import proofs.«01_k».proof.Defs
public import proofs.«01_k».proof.Proof.PrepSampleRunIdeal
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The turn of one block: each lane is the lane itself times the cosine table plus its two neighbours at distance 16,
    each times its sine table. -/

namespace Cert.Kernel10Ideal.Value
open Cert.Kernel10Ideal Cert.Kernel10Ideal.Gen Cert.Kernel10Ideal.Hand

theorem rotated_at (c sa sb x : FVec Ideal S32x512 .f32) (r : Fin 32) (l : Fin 512) :
    rotated c sa sb x (ix2 r l) = x (ix2 r l) * c (ix2 r l)
      + x (ix2 r ⟨(l.val + 16) % 512, Nat.mod_lt _ (by decide)⟩) * sa (ix2 r l)
      + x (ix2 r ⟨(l.val + 496) % 512, Nat.mod_lt _ (by decide)⟩) * sb (ix2 r l) := by
  unfold rotated
  pointwise
  have e : (⟨(l.val + 512 - 496) % 512, Nat.mod_lt _ (by decide)⟩ : Fin 512) = ⟨(l.val + 16) % 512, Nat.mod_lt _ (by decide)⟩ :=
    Fin.ext (by show (l.val + 512 - 496) % 512 = (l.val + 16) % 512; omega)
  have e' : (⟨(l.val + 512 - 16) % 512, Nat.mod_lt _ (by decide)⟩ : Fin 512) = ⟨(l.val + 496) % 512, Nat.mod_lt _ (by decide)⟩ :=
    Fin.ext (by show (l.val + 512 - 16) % 512 = (l.val + 496) % 512; omega)
  exact congrArg₂ (α := EReal) (β := EReal) (· + ·)
    (congrArg (fun k => x (ix2 r l) * c (ix2 r l) + x (ix2 r k) * sa (ix2 r l)) e)
    (congrArg (fun k => x (ix2 r k) * sb (ix2 r l)) e')

end Cert.Kernel10Ideal.Value

end
-- ==== Proof.PrepSampleTab.lean ====
module

public import proofs.«01_k».proof.Defs
public import proofs.«01_k».proof.Proof.PrepSampleRunIdeal
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The tables of cosines and sines the call reads, entry by entry: zero and one outside the turned lanes. -/

namespace Cert.Kernel10Ideal.Value
open Cert.Kernel10Ideal Cert.Kernel10Ideal.Gen Cert.Kernel10Ideal.Hand

variable (m : (ℓ : Loc nD τ sig) → Buf (Elt Ideal) ℓ)

def tiled (u : FVec Ideal S32x128 .f32) : FVec Ideal S32x512 .f32 :=
  shapeCast S32x512 (broadcastInDim S1x32x4x128 ![0, 1, 2, 3] bcast_S1x32x1x128_S1x32x4x128_0_1_2_3
    (shapeCast S1x32x1x128 u shapeCasts_S32x128_S1x32x1x128)) shapeCasts_S1x32x4x128_S32x512

theorem tiled_at (u : FVec Ideal S32x128 .f32) (p : Fin 32) (l : Fin 512) :
    tiled u (ix2 p l) = u (ix2 p ⟨l.val % 128, Nat.mod_lt _ (by decide)⟩) := by
  unfold tiled
  pointwise

def angles : FVec Ideal S32x16 .f32 :=
  mulf (broadcastInDim S32x16 ![0, 1] bcast_S32x1_S32x16_0_1 (broadcastInDim S32x1 ![0] bcast_S32_S32x1_0 (sitofp .f32 (broadcastInDim S32 ![] bcast_S_S32 (constantI S_ 32 8192#32))))) (broadcastInDim S32x16 ![0, 1] bcast_S1x16_S32x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_at (p : Fin 32) (d : Fin 16) :
    angles (ix2 p d) = angle (FloatOps.sitofp (F := Ideal) .f32 8192#32) d.val := by
  unfold angles angle
  pointwise

theorem v25_eq (c : Dev nD) : V m c main_v25 = tiled (concatenate S32x128 1 [⟨S32x16, Host.cos angles⟩, ⟨S32x16, Host.cos angles⟩,
    ⟨S32x96, broadcastInDim S32x96 ![] bcast_S_S32x96 (constant S_ .f32 0x3F800000#32)⟩] concatenates_S32x16_S32x16_S32x96_S32x128_d1) := by
  show StableHlo.after hostOps0 (fun b => m (c, b)) main_v25 = _
  after_results <;> rfl

theorem v28_eq (c : Dev nD) : V m c main_v28 = tiled (concatenate S32x128 1 [⟨S32x16, Host.negf (Host.sin angles)⟩,
    ⟨S32x112, broadcastInDim S32x112 ![] bcast_S_S32x112 (constant S_ .f32 0x00000000#32)⟩] concatenates_S32x16_S32x112_S32x128_d1) := by
  show StableHlo.after hostOps0 (fun b => m (c, b)) main_v28 = _
  after_results <;> rfl

theorem v31_eq (c : Dev nD) : V m c main_v31 = tiled (concatenate S32x128 1 [
    ⟨S32x16, broadcastInDim S32x16 ![] bcast_S_S32x16 (constant S_ .f32 0x00000000#32)⟩, ⟨S32x16, Host.sin angles⟩,
    ⟨S32x96, broadcastInDim S32x96 ![] bcast_S_S32x96 (constant S_ .f32 0x00000000#32)⟩] concatenates_S32x16_S32x16_S32x96_S32x128_d1) := by
  show StableHlo.after hostOps0 (fun b => m (c, b)) main_v31 = _
  after_results <;> rfl

/-- The table of cosines: twice the cosines of the pairs, then ones. -/
theorem cos_at (p : Fin 32) (d : Fin 128) :
    concatenate S32x128 1 [⟨S32x16, Host.cos angles⟩, ⟨S32x16, Host.cos angles⟩,
    ⟨S32x96, broadcastInDim S32x96 ![] bcast_S_S32x96 (constant S_ .f32 0x3F800000#32)⟩] concatenates_S32x16_S32x16_S32x96_S32x128_d1 (ix2 p d)
    = cosLane (FloatOps.sitofp (F := Ideal) .f32 8192#32) d.val := by
  generalize ha : angles = a
  pointwise
  subst ha
  unfold cosLane
  by_cases h16 : d.val < 16
  · rw [dif_pos h16, if_pos h16]
    exact congrArg Ideal.cos (angles_at p _)
  · rw [dif_neg h16, if_neg h16]
    by_cases h32 : d.val < 32
    · rw [dif_pos (show d.val - 16 < 16 by omega), if_pos h32]
      exact congrArg Ideal.cos (angles_at p _)
    · rw [dif_neg (show ¬ d.val - 16 < 16 by omega), if_neg h32]

/-- The table for the lane sixteen further on: the negated sines, then zeros. -/
theorem next_at (p : Fin 32) (d : Fin 128) :
    concatenate S32x128 1 [⟨S32x16, Host.negf (Host.sin angles)⟩,
    ⟨S32x112, broadcastInDim S32x112 ![] bcast_S_S32x112 (constant S_ .f32 0x00000000#32)⟩] concatenates_S32x16_S32x112_S32x128_d1 (ix2 p d)
    = nextLane (FloatOps.sitofp (F := Ideal) .f32 8192#32) d.val := by
  generalize ha : angles = a
  pointwise
  subst ha
  unfold nextLane
  by_cases h16 : d.val < 16
  · rw [dif_pos h16, if_pos h16]
    exact congrArg (fun u => -Ideal.sin u) (angles_at p _)
  · rw [dif_neg h16, if_neg h16]

/-- The table for the lane sixteen back: zeros, the sines, zeros. -/
theorem prev_at (p : Fin 32) (d : Fin 128) :
    concatenate S32x128 1 [
    ⟨S32x16, broadcastInDim S32x16 ![] bcast_S_S32x16 (constant S_ .f32 0x00000000#32)⟩, ⟨S32x16, Host.sin angles⟩,
    ⟨S32x96, broadcastInDim S32x96 ![] bcast_S_S32x96 (constant S_ .f32 0x00000000#32)⟩] concatenates_S32x16_S32x16_S32x96_S32x128_d1 (ix2 p d)
    = prevLane (FloatOps.sitofp (F := Ideal) .f32 8192#32) d.val := by
  generalize ha : angles = a
  pointwise
  subst ha
  unfold prevLane
  by_cases h16 : d.val < 16
  · first | rw [dif_pos h16, if_pos h16] | rw [if_pos h16, if_pos h16]
  · first | rw [dif_neg h16, if_neg h16] | rw [if_neg h16, if_neg h16]
    by_cases h32 : d.val < 32
    · rw [dif_pos (show d.val - 16 < 16 by omega), if_pos h32]
      exact congrArg Ideal.sin (angles_at p _)
    · rw [dif_neg (show ¬ d.val - 16 < 16 by omega), if_neg h32]

end Cert.Kernel10Ideal.Value

end
-- ==== Proof.PrepSampleRef.lean ====
module

public import proofs.«01_k».proof.Defs
public import proofs.«01_k».proof.Proof.Gen.Reference10Ideal.Run
public import proofs.«01_k».proof.Proof.Rotary
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The reference's keys and values, entry by entry: its turned heads are the rotary embedding of their rows. -/

namespace Cert.Reference10Ideal.Value
open Cert.Reference10Ideal Cert.Reference10Ideal.Gen
variable (m : (ℓ : Loc nD τ sig) → Buf (Elt Ideal) ℓ)

def turnedHeads (x : FVec Ideal S32x1x4x128 .f32) (a : FVec Ideal S1x16 .f32) : FVec Ideal S32x1x4x128 .f32 :=
  concatenate S32x1x4x128 3 [⟨S32x1x4x32, (concatenate S32x1x4x32 3 [
    ⟨S32x1x4x16, (subf
      (mulf (extractStridedSlice S32x1x4x16 ![0, 0, 0, 0] x slices_S32x1x4x128_S32x1x4x16_0_0_0_0)
        (broadcastInDim S32x1x4x16 ![0, 1, 2, 3] bcast_S1x1x1x16_S32x1x4x16_0_1_2_3 (broadcastInDim S1x1x1x16 ![1, 3] bcast_S1x16_S1x1x1x16_1_3 (Host.cos a))))
      (mulf (extractStridedSlice S32x1x4x16 ![0, 0, 0, 16] x slices_S32x1x4x128_S32x1x4x16_0_0_0_16)
        (broadcastInDim S32x1x4x16 ![0, 1, 2, 3] bcast_S1x1x1x16_S32x1x4x16_0_1_2_3 (broadcastInDim S1x1x1x16 ![1, 3] bcast_S1x16_S1x1x1x16_1_3 (Host.sin a)))))⟩,
    ⟨S32x1x4x16, (addf
      (mulf (extractStridedSlice S32x1x4x16 ![0, 0, 0, 16] x slices_S32x1x4x128_S32x1x4x16_0_0_0_16)
        (broadcastInDim S32x1x4x16 ![0, 1, 2, 3] bcast_S1x1x1x16_S32x1x4x16_0_1_2_3 (broadcastInDim S1x1x1x16 ![1, 3] bcast_S1x16_S1x1x1x16_1_3 (Host.cos a))))
      (mulf (extractStridedSlice S32x1x4x16 ![0, 0, 0, 0] x slices_S32x1x4x128_S32x1x4x16_0_0_0_0)
        (broadcastInDim S32x1x4x16 ![0, 1, 2, 3] bcast_S1x1x1x16_S32x1x4x16_0_1_2_3 (broadcastInDim S1x1x1x16 ![1, 3] bcast_S1x16_S1x1x1x16_1_3 (Host.sin a)))))⟩] concatenates_S32x1x4x16_S32x1x4x16_S32x1x4x32_d3)⟩,
    ⟨S32x1x4x96, extractStridedSlice S32x1x4x96 ![0, 0, 0, 32] x slices_S32x1x4x128_S32x1x4x96_0_0_0_32⟩] concatenates_S32x1x4x32_S32x1x4x96_S32x1x4x128_d3

def angles : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 8192#32)) (iotaInDim S1 32 0))))) ((broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

def columns (X : FVec Ideal S32x5632 .f32) (o : Fin 3 → Nat) (h : S32x1x3072.Slices o S32x1x512) : FVec Ideal S32x1x4x128 .f32 :=
  shapeCast _ (extractStridedSlice S32x1x512 o (shapeCast _ (extractStridedSlice S32x3072 ![0, 2048] X slices_S32x5632_S32x3072_0_2048) shapeCasts_S32x3072_S32x1x3072) h) shapeCasts_S32x1x512_S32x1x4x128

theorem angles_at (p : Fin 1) (d : Fin 16) :
    angles (ix2 p d) = angle (FloatOps.sitofp (F := Ideal) .f32 8192#32) d.val := by
  unfold angles angle
  pointwise
  rw [show IntOp.addi 8192#32 0#32 = 8192#32 by decide]

theorem rows_at (x : FVec Ideal S32x1x4x128 .f32) (r : Fin 128) (j : Fin 128) :
    shapeCast S128x128 x shapeCasts_S32x1x4x128_S128x128 (ix2 r j)
    = x (ix4 ⟨r.val / 4, by omega⟩ 0 ⟨r.val % 4, Nat.mod_lt _ (by decide)⟩ j) := by
  pointwise

theorem columns_at (X : FVec Ideal S32x5632 .f32) (k : Fin 6) (h : S32x1x3072.Slices ![0, 0, 512 * k.val] S32x1x512)
    (b : Fin 32) (p : Fin 1) (g : Fin 4) (d : Fin 128) :
    columns X ![0, 0, 512 * k.val] h (ix4 b p g d) = lane X k ⟨b.val, by omega⟩ ⟨128 * g.val + d.val, by omega⟩ := by
  unfold columns lane
  pointwise
  exact congrArg X (ix2_congr rfl (Fin.ext (by show 2048 + (512 * k.val + (g.val * 128 + d.val)) = 2048 + 512 * k.val + (128 * g.val + d.val); omega)))

/-- The reference's embedding at head `g`, lane `d` of that head. -/
theorem turnedHeads_at (x : FVec Ideal S32x1x4x128 .f32) (b : Fin 32) (p : Fin 1) (g : Fin 4) (d : Fin 128) :
    turnedHeads x angles (ix4 b p g d)
    = turned (FloatOps.sitofp (F := Ideal) .f32 8192#32)
        (fun l => x (ix4 b p ⟨l.val / 128, by omega⟩ ⟨l.val % 128, Nat.mod_lt _ (by decide)⟩)) ⟨128 * g.val + d.val, by omega⟩ := by
  obtain rfl : p = 0 := Subsingleton.elim _ _
  generalize ha : angles = a
  unfold turnedHeads
  pointwise
  subst ha
  unfold turned
  have hd : (128 * g.val + d.val) % 128 = d.val := by omega
  have same : ∀ (g' : Fin 4) (d' d'' : Fin 128), g'.val = g.val → d'.val = d''.val → x (ix4 b 0 g d'') = x (ix4 b 0 g' d') := by
    intro g' d' d'' h h'
    obtain rfl : g' = g := Fin.ext h
    obtain rfl : d' = d'' := Fin.ext h'
    rfl
  simp only [hd]
  by_cases h32 : d.val < 32
  · rw [dif_pos h32, dif_pos h32]
    by_cases h16 : d.val < 16
    · rw [dif_pos h16, dif_pos h16]
      refine congrArg₂ (α := EReal) (β := EReal) (· - ·) (Ideal.mul_congr (same _ _ _ ?_ ?_) (congrArg Ideal.cos (angles_at 0 _)))
        (Ideal.mul_congr (same _ _ _ ?_ ?_) (congrArg Ideal.sin (angles_at 0 _))) <;> dsimp only <;> omega
    · rw [dif_neg h16, dif_neg h16]
      refine congrArg₂ (α := EReal) (β := EReal) (· + ·) (Ideal.mul_congr (same _ _ _ ?_ ?_) (congrArg Ideal.cos (angles_at 0 _)))
        (Ideal.mul_congr (same _ _ _ ?_ ?_) (congrArg Ideal.sin (angles_at 0 _))) <;> dsimp only <;> omega
  · rw [dif_neg h32, dif_neg h32]
    refine same _ _ _ ?_ ?_ <;> dsimp only <;> omega

/-- An array of keys or values, one head per row. -/
theorem rows_plain (X : FVec Ideal S32x5632 .f32) (k : Fin 6) (h : S32x1x3072.Slices ![0, 0, 512 * k.val] S32x1x512)
    (r : Fin 128) (j : Fin 128) :
    shapeCast S128x128 (columns X ![0, 0, 512 * k.val] h) shapeCasts_S32x1x4x128_S128x128 (ix2 r j)
    = lane X k ⟨r.val / 4, by omega⟩ ⟨128 * (r.val % 4) + j.val, by omega⟩ := by
  refine (rows_at _ _ _).trans ((columns_at X k h _ _ _ _).trans ?_)
  exact congrArg₂ (lane X k) rfl rfl

theorem row_of_columns (X : FVec Ideal S32x5632 .f32) (k : Fin 6) (h : S32x1x3072.Slices ![0, 0, 512 * k.val] S32x1x512)
    (b : Fin 32) (p : Fin 1) (r : Fin 32) (e : b.val = r.val) :
    (fun l : Fin 512 => columns X ![0, 0, 512 * k.val] h (ix4 b p ⟨l.val / 128, by omega⟩ ⟨l.val % 128, Nat.mod_lt _ (by decide)⟩))
    = lane X k r := by
  funext l
  refine (columns_at X k h _ _ _ _).trans ?_
  exact congrArg₂ (lane X k) (Fin.ext e) (Fin.ext (by dsimp only; omega))

/-- A turned array of keys, one head per row. -/
theorem rows_turned (X : FVec Ideal S32x5632 .f32) (k : Fin 6) (h : S32x1x3072.Slices ![0, 0, 512 * k.val] S32x1x512)
    (r : Fin 128) (j : Fin 128) :
    shapeCast S128x128 (turnedHeads (columns X ![0, 0, 512 * k.val] h) angles) shapeCasts_S32x1x4x128_S128x128 (ix2 r j)
    = turned (FloatOps.sitofp (F := Ideal) .f32 8192#32) (lane X k ⟨r.val / 4, by omega⟩)
        ⟨128 * (r.val % 4) + j.val, by omega⟩ := by
  refine (rows_at _ _ _).trans ((turnedHeads_at _ _ _ _ _).trans ?_)
  exact turned_congr rfl (row_of_columns X k h _ _ _ rfl) rfl

end Cert.Reference10Ideal.Value

end
-- ==== Proof.PrepSample.lean ====
module

public import proofs.«01_k».proof.Defs
public import proofs.«01_k».proof.Proof.PrepSampleRunIdeal
public import proofs.«01_k».proof.Proof.Gen.Reference10Ideal.Run
public import proofs.«01_k».proof.Proof.PrepSampleParts
public import proofs.«01_k».proof.Proof.PrepSampleRot
public import proofs.«01_k».proof.Proof.PrepSampleTab
public import proofs.«01_k».proof.Proof.PrepSampleRef
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The keys and values of the sampled tokens: six arrays of four heads each, the keys of the selected blocks and of the window turned
    by the position that follows the past, laid out one head per row. -/

namespace Cert.Layer

/-- Lane `l` of the `k`-th array of sampled token `r`, turned by the position 8192. -/
def turnedSampleLane (X : (⟨2, ![32, 5632]⟩ : Shape).Idx → EReal) (k : Fin 6) (r : Fin 32) (l : Fin 512) : EReal :=
  turned (FloatOps.sitofp (F := Ideal) .f32 8192#32) (lane X k r) l

end Cert.Layer

namespace Cert.Kernel10Ideal.Value
open Cert.Kernel10Ideal Cert.Kernel10Ideal.Gen Cert.Kernel10Ideal.Hand

variable (m : (ℓ : Loc nD τ sig) → Buf (Elt Ideal) ℓ)

theorem idx : ∀ t : Fin cfg0.N, win0_0.index t = ![0, 4]
    ∧ win0_1.index t = ![0, 5]
    ∧ win0_2.index t = ![0, 6]
    ∧ win0_3.index t = ![0, 7]
    ∧ win0_4.index t = ![0, 8]
    ∧ win0_5.index t = ![0, 9]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0] :=
  (by decide +kernel : ∀ t : Fin grid0.N, _)

/-- One head per row. -/
def rowsOf (f : Fin 32 → Fin 512 → EReal) : S128x128.Idx → EReal := fun i =>
  f ⟨(i 0).val / 4, by have := (i 0).isLt; change (i 0).val < 128 at this; omega⟩
    ⟨128 * ((i 0).val % 4) + (i 1).val, by have := (i 1).isLt; change (i 1).val < 128 at this; omega⟩

theorem block0 (c : Dev nD) (t : Fin cfg0.N) (r : Fin 32) (l : Fin 512) :
    iblk m c 0 t (ix2 r l) = lane (m (c.tc.loc main_arg0)) 0 r l := by
  unfold lane
  blk_simp [iblk, idx t]
  blk_ext [V, idx t]

theorem block1 (c : Dev nD) (t : Fin cfg0.N) (r : Fin 32) (l : Fin 512) :
    iblk m c 1 t (ix2 r l) = lane (m (c.tc.loc main_arg0)) 1 r l := by
  unfold lane
  blk_simp [iblk, idx t]
  blk_ext [V, idx t]

theorem block2 (c : Dev nD) (t : Fin cfg0.N) (r : Fin 32) (l : Fin 512) :
    iblk m c 2 t (ix2 r l) = lane (m (c.tc.loc main_arg0)) 2 r l := by
  unfold lane
  blk_simp [iblk, idx t]
  blk_ext [V, idx t]

theorem block3 (c : Dev nD) (t : Fin cfg0.N) (r : Fin 32) (l : Fin 512) :
    iblk m c 3 t (ix2 r l) = lane (m (c.tc.loc main_arg0)) 3 r l := by
  unfold lane
  blk_simp [iblk, idx t]
  blk_ext [V, idx t]

theorem block4 (c : Dev nD) (t : Fin cfg0.N) (r : Fin 32) (l : Fin 512) :
    iblk m c 4 t (ix2 r l) = lane (m (c.tc.loc main_arg0)) 4 r l := by
  unfold lane
  blk_simp [iblk, idx t]
  blk_ext [V, idx t]

theorem block5 (c : Dev nD) (t : Fin cfg0.N) (r : Fin 32) (l : Fin 512) :
    iblk m c 5 t (ix2 r l) = lane (m (c.tc.loc main_arg0)) 5 r l := by
  unfold lane
  blk_simp [iblk, idx t]
  blk_ext [V, idx t]

theorem table6 (c : Dev nD) (t : Fin cfg0.N) (r : Fin 32) (l : Fin 512) :
    iblk m c 6 t (ix2 r l) = cosLane (FloatOps.sitofp (F := Ideal) .f32 8192#32) (l.val % 128) := by
  have e : iblk m c 6 t (ix2 r l) = V m c main_v25 (ix2 r l) := by
    blk_simp [iblk, idx t]
    generalize V m c main_v25 = x
    blk_ext [idx t]
  rw [e, v25_eq]
  exact (tiled_at _ _ _).trans (cos_at _ _)

theorem table7 (c : Dev nD) (t : Fin cfg0.N) (r : Fin 32) (l : Fin 512) :
    iblk m c 7 t (ix2 r l) = nextLane (FloatOps.sitofp (F := Ideal) .f32 8192#32) (l.val % 128) := by
  have e : iblk m c 7 t (ix2 r l) = V m c main_v28 (ix2 r l) := by
    blk_simp [iblk, idx t]
    generalize V m c main_v28 = x
    blk_ext [idx t]
  rw [e, v28_eq]
  exact (tiled_at _ _ _).trans (next_at _ _)

theorem table8 (c : Dev nD) (t : Fin cfg0.N) (r : Fin 32) (l : Fin 512) :
    iblk m c 8 t (ix2 r l) = prevLane (FloatOps.sitofp (F := Ideal) .f32 8192#32) (l.val % 128) := by
  have e : iblk m c 8 t (ix2 r l) = V m c main_v31 (ix2 r l) := by
    blk_simp [iblk, idx t]
    generalize V m c main_v31 = x
    blk_ext [idx t]
  rw [e, v31_eq]
  exact (tiled_at _ _ _).trans (prev_at _ _)

/-- What the three products over a block of rows add up to, for the `k`-th array. -/
theorem turned_block (c : Dev nD) (t : Fin cfg0.N) (k : Fin 6) (x : FVec Ideal S32x512 .f32)
    (hx : ∀ r l, x (ix2 r l) = lane (m (c.tc.loc main_arg0)) k r l) (r : Fin 32) (l : Fin 512) :
    rotated (iblk m c 6 t) (iblk m c 7 t) (iblk m c 8 t) x (ix2 r l)
    = turnedSampleLane (m (c.tc.loc main_arg0)) k r l := by
  refine (rotated_at _ _ _ _ _ _).trans (Eq.trans ?_ (turned_eq _ _ _))
  exact congrArg₂ (α := EReal) (β := EReal) (· + ·) (congrArg₂ (α := EReal) (β := EReal) (· + ·)
    (Ideal.mul_congr (hx _ _) (table6 m c t r l)) (Ideal.mul_congr (hx _ _) (table7 m c t r l)))
    (Ideal.mul_congr (hx _ _) (table8 m c t r l))

theorem rowsOf_at (f : Fin 32 → Fin 512 → EReal) (r : Fin 128) (j : Fin 128) :
    f ⟨r.val / 4, by omega⟩ ⟨128 * (r.val % 4) + j.val, by omega⟩ = rowsOf f (ix2 r j) := rfl

theorem final_9 (c : Dev nD) : (dats m 0 c).arrAt 9 (cfgs 0).N = rowsOf (lane (m (c.tc.loc main_arg0)) 0) := by
  generalize hf : rowsOf (lane (m (c.tc.loc main_arg0)) 0) = f
  refine (dats m 0 c).arrAt_eq_of_covers 9 _ (by decide +kernel) fun t _ y => ?_
  rw [after0_9, ld_eq]
  idx_vars y
  refine (heads_at _ _ _).trans ((block0 m c t _ _).trans ((rowsOf_at (lane (m (c.tc.loc main_arg0)) 0) y0 y1).trans ?_))
  rw [hf]
  blk_ext [idx t]

theorem final_10 (c : Dev nD) : (dats m 0 c).arrAt 10 (cfgs 0).N = rowsOf (lane (m (c.tc.loc main_arg0)) 1) := by
  generalize hf : rowsOf (lane (m (c.tc.loc main_arg0)) 1) = f
  refine (dats m 0 c).arrAt_eq_of_covers 10 _ (by decide +kernel) fun t _ y => ?_
  rw [after0_10, ld_eq]
  idx_vars y
  refine (heads_at _ _ _).trans ((block1 m c t _ _).trans ((rowsOf_at (lane (m (c.tc.loc main_arg0)) 1) y0 y1).trans ?_))
  rw [hf]
  blk_ext [idx t]

theorem final_11 (c : Dev nD) : (dats m 0 c).arrAt 11 (cfgs 0).N = rowsOf (turnedSampleLane (m (c.tc.loc main_arg0)) 2) := by
  generalize hf : rowsOf (turnedSampleLane (m (c.tc.loc main_arg0)) 2) = f
  refine (dats m 0 c).arrAt_eq_of_covers 11 _ (by decide +kernel) fun t _ y => ?_
  rw [after0_11, ld_eq, ld_eq, ld_eq, ld_eq]
  idx_vars y
  refine (heads_at _ _ _).trans ((turned_block m c t 2 _ (block2 m c t) _ _).trans ((rowsOf_at (turnedSampleLane (m (c.tc.loc main_arg0)) 2) y0 y1).trans ?_))
  rw [hf]
  blk_ext [idx t]

theorem final_12 (c : Dev nD) : (dats m 0 c).arrAt 12 (cfgs 0).N = rowsOf (lane (m (c.tc.loc main_arg0)) 3) := by
  generalize hf : rowsOf (lane (m (c.tc.loc main_arg0)) 3) = f
  refine (dats m 0 c).arrAt_eq_of_covers 12 _ (by decide +kernel) fun t _ y => ?_
  rw [after0_12, ld_eq]
  idx_vars y
  refine (heads_at _ _ _).trans ((block3 m c t _ _).trans ((rowsOf_at (lane (m (c.tc.loc main_arg0)) 3) y0 y1).trans ?_))
  rw [hf]
  blk_ext [idx t]

theorem final_13 (c : Dev nD) : (dats m 0 c).arrAt 13 (cfgs 0).N = rowsOf (turnedSampleLane (m (c.tc.loc main_arg0)) 4) := by
  generalize hf : rowsOf (turnedSampleLane (m (c.tc.loc main_arg0)) 4) = f
  refine (dats m 0 c).arrAt_eq_of_covers 13 _ (by decide +kernel) fun t _ y => ?_
  rw [after0_13, ld_eq, ld_eq, ld_eq, ld_eq]
  idx_vars y
  refine (heads_at _ _ _).trans ((turned_block m c t 4 _ (block4 m c t) _ _).trans ((rowsOf_at (turnedSampleLane (m (c.tc.loc main_arg0)) 4) y0 y1).trans ?_))
  rw [hf]
  blk_ext [idx t]

theorem final_14 (c : Dev nD) : (dats m 0 c).arrAt 14 (cfgs 0).N = rowsOf (lane (m (c.tc.loc main_arg0)) 5) := by
  generalize hf : rowsOf (lane (m (c.tc.loc main_arg0)) 5) = f
  refine (dats m 0 c).arrAt_eq_of_covers 14 _ (by decide +kernel) fun t _ y => ?_
  rw [after0_14, ld_eq]
  idx_vars y
  refine (heads_at _ _ _).trans ((block5 m c t _ _).trans ((rowsOf_at (lane (m (c.tc.loc main_arg0)) 5) y0 y1).trans ?_))
  rw [hf]
  blk_ext [idx t]

end Cert.Kernel10Ideal.Value

namespace Cert.Reference10Ideal.Value
open Cert.Reference10Ideal Cert.Reference10Ideal.Gen

variable (m : (ℓ : Loc nD τ sig) → Buf (Elt Ideal) ℓ)

theorem v77_eq (X : FVec Ideal S32x5632 .f32) : shapeCast S128x128 (columns X ![0, 0, 0] slices_S32x1x3072_S32x1x512_0_0_0) shapeCasts_S32x1x4x128_S128x128
    = Cert.Kernel10Ideal.Value.rowsOf (lane X 0) := by
  funext i
  idx_vars i
  exact rows_plain _ 0 slices_S32x1x3072_S32x1x512_0_0_0 _ _

theorem v78_eq (X : FVec Ideal S32x5632 .f32) : shapeCast S128x128 (columns X ![0, 0, 512] slices_S32x1x3072_S32x1x512_0_0_512) shapeCasts_S32x1x4x128_S128x128
    = Cert.Kernel10Ideal.Value.rowsOf (lane X 1) := by
  funext i
  idx_vars i
  exact rows_plain _ 1 slices_S32x1x3072_S32x1x512_0_0_512 _ _

theorem v79_eq (c : Dev nD) : res_main_v79 m c
    = Cert.Kernel10Ideal.Value.rowsOf (turnedSampleLane (m (c.tc.loc main_arg0)) 2) := by
  change shapeCast S128x128 (turnedHeads (columns (m (c.tc.loc main_arg0)) ![0, 0, 1024] slices_S32x1x3072_S32x1x512_0_0_1024) angles) shapeCasts_S32x1x4x128_S128x128 = _
  funext i
  idx_vars i
  exact rows_turned _ 2 slices_S32x1x3072_S32x1x512_0_0_1024 _ _

theorem v80_eq (X : FVec Ideal S32x5632 .f32) : shapeCast S128x128 (columns X ![0, 0, 1536] slices_S32x1x3072_S32x1x512_0_0_1536) shapeCasts_S32x1x4x128_S128x128
    = Cert.Kernel10Ideal.Value.rowsOf (lane X 3) := by
  funext i
  idx_vars i
  exact rows_plain _ 3 slices_S32x1x3072_S32x1x512_0_0_1536 _ _

theorem v81_eq (c : Dev nD) : res_main_v81 m c
    = Cert.Kernel10Ideal.Value.rowsOf (turnedSampleLane (m (c.tc.loc main_arg0)) 4) := by
  change shapeCast S128x128 (turnedHeads (columns (m (c.tc.loc main_arg0)) ![0, 0, 2048] slices_S32x1x3072_S32x1x512_0_0_2048) angles) shapeCasts_S32x1x4x128_S128x128 = _
  funext i
  idx_vars i
  exact rows_turned _ 4 slices_S32x1x3072_S32x1x512_0_0_2048 _ _

theorem v82_eq (X : FVec Ideal S32x5632 .f32) : shapeCast S128x128 (columns X ![0, 0, 2560] slices_S32x1x3072_S32x1x512_0_0_2560) shapeCasts_S32x1x4x128_S128x128
    = Cert.Kernel10Ideal.Value.rowsOf (lane X 5) := by
  funext i
  idx_vars i
  exact rows_plain _ 5 slices_S32x1x3072_S32x1x512_0_0_2560 _ _

end Cert.Reference10Ideal.Value

namespace Cert.Proof

theorem frame_prep_s_ref : Cert.quiescent_Reference10Ideal :=
  fun m g _ => (θ_run Cert.Reference10Ideal.defs _ _).mono (fun r h => ⟨fun c => (h c).2.2.2.2.2.2,
    Idealize.ShloMosaic.sem_eq_zero_of_no_sems (by decide) r.2⟩) (Cert.Reference10Ideal.Value.run m g)

set_option maxHeartbeats 2000000 in
theorem algebraic_prep_s : Cert.algebraic_Kernel10Ideal_Reference10Ideal := by
  pair_intro
  · run_from Cert.Kernel10Ideal.Hand.run_main m g
  · run_from Cert.Reference10Ideal.Value.run m' g'
    · exact (Cert.Reference10Ideal.Value.v77_eq _).trans (Cert.Kernel10Ideal.Value.final_9 m c).symm
    · exact (Cert.Reference10Ideal.Value.v78_eq _).trans (Cert.Kernel10Ideal.Value.final_10 m c).symm
    · exact (Cert.Reference10Ideal.Value.v79_eq m' c).trans (by simp only [hagree c]; exact (Cert.Kernel10Ideal.Value.final_11 m c).symm)
    · exact (Cert.Reference10Ideal.Value.v80_eq _).trans (Cert.Kernel10Ideal.Value.final_12 m c).symm
    · exact (Cert.Reference10Ideal.Value.v81_eq m' c).trans (by simp only [hagree c]; exact (Cert.Kernel10Ideal.Value.final_13 m c).symm)
    · exact (Cert.Reference10Ideal.Value.v82_eq _).trans (Cert.Kernel10Ideal.Value.final_14 m c).symm

end Cert.Proof

end
-- ==== Proof.Window.lean ====
module

public import proofs.«01_k».proof.Defs
public import proofs.«01_k».proof.Proof.Gen.Kernel11Ideal.Frame
public import proofs.«01_k».proof.Proof.Gen.Reference11Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel11Ideal.Value
open Cert.Kernel11Ideal Cert.Kernel11Ideal.Gen

variable (m : (ℓ : Loc nD τ sig) → Buf (Elt Ideal) ℓ)

theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] :=
  (by decide +kernel : ∀ t : Fin grid0.N, _)

/-- the rows of one sequence moved on by one position: the four rows of the oldest position drop out, the four new
rows come last -/
def moved (C : S32x2048x128.Idx → EReal) (n : S32x4x128.Idx → EReal) : S32x2048x128.Idx → EReal :=
  fun i => if h : (i 1).val < 2044 then C (ix3 (i 0) ⟨(i 1).val + 4, Nat.add_lt_of_lt_sub h⟩ (i 2))
    else n (ix3 (i 0) ⟨(i 1).val - 2044, Nat.sub_lt_left_of_lt_add (Nat.le_of_not_lt h) (i 1).isLt⟩ (i 2))

/-- one block of it -/
def tile (C : S1x2048x128.Idx → EReal) (n : S1x4x128.Idx → EReal) : S1x2048x128.Idx → EReal :=
  fun y => if h : (y 1).val < 2044 then C (ix3 0 ⟨(y 1).val + 4, Nat.add_lt_of_lt_sub h⟩ (y 2))
    else n (ix3 0 ⟨(y 1).val - 2044, Nat.sub_lt_left_of_lt_add (Nat.le_of_not_lt h) (y 1).isLt⟩ (y 2))

theorem out_k (c : Dev nD) (t : Fin cfg0.N) (y : S1x2048x128.Idx) :
    (outsAt0 m c t).1 y = tile (iblk m c 0 t) (iblk m c 2 t) y := by
  dsimp only [outsAt0]
  frame_out
  canon_tiles x h using View.cover_of_tiledBy _ ![1, 4, 128] (by sl_kernel_rfl) _
  all_goals (open_payloads; pointwise [tile])
  · refine Eq.trans ?_ (dif_neg (by omega)).symm
    idx_vars x
    idx_vars y
    change y1.val = 2044 + x1.val at h1
    blk_ext
  · refine Eq.trans ?_ (dif_pos (by omega)).symm
    idx_vars x
    idx_vars y
    change y1.val = x1.val at h1
    blk_ext

theorem rows_k (c : Dev nD) : V m c main_v1 = shapeCast S32x2048x128 (shapeCast S32x512x4x128 (m ((c : Thread nD τ).loc main_arg0)) shapeCasts_S1x32x512x4x128_S32x512x4x128) shapeCasts_S32x512x4x128_S32x2048x128 := by
  show StableHlo.after hostOps0 (fun b => m (c, b)) main_v1 = _
  after_results <;> rfl

theorem new_k (c : Dev nD) : V m c main_v4 = shapeCast S32x4x128 (m ((c : Thread nD τ).loc main_arg2)) shapeCasts_S128x128_S32x4x128 := by
  show StableHlo.after hostOps0 (fun b => m (c, b)) main_v4 = _
  after_results <;> rfl

theorem block_k (c : Dev nD) (t : Fin cfg0.N) (r : Fin 2048) (j : Fin 128) :
    (outsAt0 m c t).1 (ix3 0 r j) = moved (V m c main_v1) (V m c main_v4) (ix3 ⟨t.val, lt_of_lt_of_eq t.isLt (show cfg0.N = 32 from N_0)⟩ r j) := by
  rw [out_k]
  by_cases h : r.val < 2044
  · refine (dif_pos h).trans (Eq.trans ?_ (dif_pos h).symm)
    blk_ext [iblk, idx t]
  · refine (dif_neg h).trans (Eq.trans ?_ (dif_neg h).symm)
    blk_ext [iblk, idx t]

theorem final_k (c : Dev nD) : (dats m 0 c).arrAt 4 (cfgs 0).N
    = moved (shapeCast S32x2048x128 (shapeCast S32x512x4x128 (m ((c : Thread nD τ).loc main_arg0)) shapeCasts_S1x32x512x4x128_S32x512x4x128) shapeCasts_S32x512x4x128_S32x2048x128)
        (shapeCast S32x4x128 (m ((c : Thread nD τ).loc main_arg2)) shapeCasts_S128x128_S32x4x128) := by
  refine (dats m 0 c).arrAt_eq_of_covers 4 _ (by decide +kernel) fun t hf y => ?_
  rw [← rows_k m c, ← new_k m c]
  blk_simp
  rw [after0_4]
  idx_vars y
  obtain rfl : y0 = 0 := Subsingleton.elim _ _
  refine (block_k m c t y1 y2).trans ?_
  blk_ext [idx t]

theorem out_v (c : Dev nD) (t : Fin cfg0.N) (y : S1x2048x128.Idx) :
    (outsAt0 m c t).2 y = tile (iblk m c 1 t) (iblk m c 3 t) y := by
  dsimp only [outsAt0]
  frame_out
  canon_tiles x h using View.cover_of_tiledBy _ ![1, 4, 128] (by sl_kernel_rfl) _
  all_goals (open_payloads; pointwise [tile])
  · refine Eq.trans ?_ (dif_neg (by omega)).symm
    idx_vars x
    idx_vars y
    change y1.val = 2044 + x1.val at h1
    blk_ext
  · refine Eq.trans ?_ (dif_pos (by omega)).symm
    idx_vars x
    idx_vars y
    change y1.val = x1.val at h1
    blk_ext

theorem rows_v (c : Dev nD) : V m c main_v3 = shapeCast S32x2048x128 (shapeCast S32x512x4x128 (m ((c : Thread nD τ).loc main_arg1)) shapeCasts_S1x32x512x4x128_S32x512x4x128) shapeCasts_S32x512x4x128_S32x2048x128 := by
  show StableHlo.after hostOps0 (fun b => m (c, b)) main_v3 = _
  after_results <;> rfl

theorem new_v (c : Dev nD) : V m c main_v5 = shapeCast S32x4x128 (m ((c : Thread nD τ).loc main_arg3)) shapeCasts_S128x128_S32x4x128 := by
  show StableHlo.after hostOps0 (fun b => m (c, b)) main_v5 = _
  after_results <;> rfl

theorem block_v (c : Dev nD) (t : Fin cfg0.N) (r : Fin 2048) (j : Fin 128) :
    (outsAt0 m c t).2 (ix3 0 r j) = moved (V m c main_v3) (V m c main_v5) (ix3 ⟨t.val, lt_of_lt_of_eq t.isLt (show cfg0.N = 32 from N_0)⟩ r j) := by
  rw [out_v]
  by_cases h : r.val < 2044
  · refine (dif_pos h).trans (Eq.trans ?_ (dif_pos h).symm)
    blk_ext [iblk, idx t]
  · refine (dif_neg h).trans (Eq.trans ?_ (dif_neg h).symm)
    blk_ext [iblk, idx t]

theorem final_v (c : Dev nD) : (dats m 0 c).arrAt 5 (cfgs 0).N
    = moved (shapeCast S32x2048x128 (shapeCast S32x512x4x128 (m ((c : Thread nD τ).loc main_arg1)) shapeCasts_S1x32x512x4x128_S32x512x4x128) shapeCasts_S32x512x4x128_S32x2048x128)
        (shapeCast S32x4x128 (m ((c : Thread nD τ).loc main_arg3)) shapeCasts_S128x128_S32x4x128) := by
  refine (dats m 0 c).arrAt_eq_of_covers 5 _ (by decide +kernel) fun t hf y => ?_
  rw [← rows_v m c, ← new_v m c]
  blk_simp
  rw [after0_5]
  idx_vars y
  obtain rfl : y0 = 0 := Subsingleton.elim _ _
  refine (block_v m c t y1 y2).trans ?_
  blk_ext [idx t]

end Cert.Kernel11Ideal.Value

namespace Cert.Reference11Ideal.Value
open Cert.Reference11Ideal Cert.Reference11Ideal.Gen

theorem ref_eq (C : FVec Ideal S1x32x512x4x128 .f32) (n : FVec Ideal S128x128 .f32) :
    shapeCast S32x2048x128 (extractStridedSlice S32x512x4x128 ![0, 1, 0, 0] (concatenate S32x513x4x128 1 [⟨S32x512x4x128, shapeCast S32x512x4x128 C shapeCasts_S1x32x512x4x128_S32x512x4x128⟩, ⟨S32x1x4x128, shapeCast S32x1x4x128 n shapeCasts_S128x128_S32x1x4x128⟩] concatenates_S32x512x4x128_S32x1x4x128_S32x513x4x128_d1) slices_S32x513x4x128_S32x512x4x128_0_1_0_0) shapeCasts_S32x512x4x128_S32x2048x128
    = Cert.Kernel11Ideal.Value.moved (shapeCast S32x2048x128 (shapeCast S32x512x4x128 C shapeCasts_S1x32x512x4x128_S32x512x4x128) shapeCasts_S32x512x4x128_S32x2048x128)
        (shapeCast _ n Cert.Kernel11Ideal.Gen.shapeCasts_S128x128_S32x4x128) := by
  funext i
  idx_vars i
  pointwise [Cert.Kernel11Ideal.Value.moved]
  by_cases h : i1.val < 2044
  · refine (dif_pos (by omega)).trans (Eq.trans ?_ (dif_pos h).symm)
    congr 1
    congr 1 <;> (apply Fin.ext; simp; try omega)
  · refine (dif_neg (by omega)).trans (Eq.trans ?_ (dif_neg h).symm)
    congr 1
    congr 1 <;> (apply Fin.ext; simp; try omega)

end Cert.Reference11Ideal.Value

namespace Cert.Proof

theorem frame_window_ref : Cert.quiescent_Reference11Ideal :=
  fun m g _ => (θ_run Cert.Reference11Ideal.defs _ _).mono (fun r h => ⟨fun c => (h c).2.2,
    Idealize.ShloMosaic.sem_eq_zero_of_no_sems (by decide) r.2⟩) (Cert.Reference11Ideal.Value.run m g)

theorem algebraic_window : Cert.algebraic_Kernel11Ideal_Reference11Ideal := by
  pair_intro
  · run_from Cert.Kernel11Ideal.Gen.run_main m g
  · run_from Cert.Reference11Ideal.Value.run m' g'
    · exact (Cert.Reference11Ideal.Value.ref_eq _ _).trans (by simp only [hagree c]; exact (Cert.Kernel11Ideal.Value.final_k m c).symm)
    · exact (Cert.Reference11Ideal.Value.ref_eq _ _).trans (by simp only [hagree c]; exact (Cert.Kernel11Ideal.Value.final_v m c).symm)

end Cert.Proof

end
-- ==== Proof.GatingSample.lean ====
module

public import proofs.«01_k».proof.Defs
public import proofs.«01_k».proof.Proof.Gen.Kernel12Ideal.Frame
public import proofs.«01_k».proof.Proof.Gen.Reference12Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel12Ideal.Value
open Cert.Kernel12Ideal Cert.Kernel12Ideal.Gen

variable (m : (ℓ : Loc nD τ sig) → Buf (Elt Ideal) ℓ)

theorem idx : ∀ t : Fin cfg0.N, win0_0.index t = ![0, 0] ∧ win0_1.index t = ![0, 1] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- the value half of every row normalised -/
def vn (X : S32x4096.Idx → EReal) (g : S1x2048.Idx → EReal) : S32x2048.Idx → EReal :=
  fun i => nrm (X (ix2 (i 0) ⟨2048 + (i 1).val, Nat.add_lt_add_left (i 1).isLt 2048⟩))
    (fun k => X (ix2 (i 0) ⟨2048 + k.val, Nat.add_lt_add_left k.isLt 2048⟩)) (g (ix2 0 (i 1)))

/-- the gate of a single position: the first entry of each head's mixing matrix and bias -/
def out (X : S32x4096.Idx → EReal) (g : S1x2048.Idx → EReal) (W : S1x16x128x128.Idx → EReal) (B : S1x16x128.Idx → EReal) :
    S32x2048.Idx → EReal :=
  fun i => X (ix2 (i 0) ⟨(i 1).val, Nat.lt_trans (i 1).isLt (by decide)⟩)
    * (vn X g i * W (ix4 0 ⟨(i 1).val / 128, Nat.div_lt_of_lt_mul (i 1).isLt⟩ 0 0)
      + B (ix3 0 ⟨(i 1).val / 128, Nat.div_lt_of_lt_mul (i 1).isLt⟩ 0))

theorem pay1_at (x : Vec Ideal S32x2048 .f32) (g : Vec Ideal S1x2048 .f32) (r : Fin 32) (j : Fin 2048) :
    k0_pay1 (F := Ideal) x g (ix2 r j) = nrm (x (ix2 r j)) (fun k => x (ix2 r k)) (g (ix2 0 j)) := by
  pointwise [k0_pay1, nrm]

theorem pay2_at (x : Vec Ideal S32x2048 .f32) (g : Vec Ideal S1x2048 .f32) (u : Vec Ideal S32x2048 .f32)
    (w b : Vec Ideal S1x2048 .f32) (r : Fin 32) (j : Fin 2048) :
    k0_pay2 (F := Ideal) x g u w b (ix2 r j)
      = u (ix2 r j) * (nrm (x (ix2 r j)) (fun k => x (ix2 r k)) (g (ix2 0 j)) * w (ix2 0 j) + b (ix2 0 j)) := by
  rw [← pay1_at]
  pointwise [k0_pay2]

theorem v_at (c : Dev nD) (t : Fin cfg0.N) (r : Fin 32) (j : Fin 2048) :
    iblk m c 1 t (ix2 r j) = m ((c : Thread nD τ).loc main_arg0) (ix2 r ⟨2048 + j.val, Nat.add_lt_add_left j.isLt 2048⟩) := by
  blk_ext [iblk, V, idx t]

theorem g_at (c : Dev nD) (t : Fin cfg0.N) (j : Fin 2048) :
    iblk m c 2 t (ix2 0 j) = m ((c : Thread nD τ).loc main_arg1) (ix2 0 j) := by
  blk_simp [iblk, idx t]
  entry_read
  pointwise
  blk_ext [idx t]

theorem w_at (c : Dev nD) (t : Fin cfg0.N) (j : Fin 2048) :
    iblk m c 3 t (ix2 0 j) = m ((c : Thread nD τ).loc main_arg2) (ix4 0 ⟨j.val / 128, Nat.div_lt_of_lt_mul j.isLt⟩ 0 0) := by
  blk_simp [iblk, idx t]
  entry_read
  pointwise
  blk_ext [idx t]

theorem b_at (c : Dev nD) (t : Fin cfg0.N) (j : Fin 2048) :
    iblk m c 4 t (ix2 0 j) = m ((c : Thread nD τ).loc main_arg3) (ix3 0 ⟨j.val / 128, Nat.div_lt_of_lt_mul j.isLt⟩ 0) := by
  blk_simp [iblk, idx t]
  entry_read
  pointwise
  blk_ext [idx t]

theorem final_v (c : Dev nD) : (dats m 0 c).arrAt 6 (cfgs 0).N
    = vn (m ((c : Thread nD τ).loc main_arg0)) (m ((c : Thread nD τ).loc main_arg1)) := by
  refine (dats m 0 c).arrAt_eq_of_covers 6 _ (by decide +kernel) fun t hf y => ?_
  blk_simp
  rw [after0_6]
  frame_out
  idx_vars y
  rw [pay1_at]
  unfold vn
  refine nrm_congr ?_ (fun k => ?_) ?_
  · rw [v_at]; blk_ext [idx t]
  · rw [v_at]; blk_ext [idx t]
  · rw [g_at]; blk_ext [idx t]

theorem final_o (c : Dev nD) : (dats m 0 c).arrAt 5 (cfgs 0).N
    = out (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  rw [pay2_at]
  unfold out vn
  refine Ideal.mul_congr ?_ (congrArg₂ (α := EReal) (β := EReal) (· + ·) (Ideal.mul_congr
    (nrm_congr ?_ (fun k => ?_) ?_) ?_) ?_)
  · blk_ext [iblk, V, idx t]
  · rw [v_at]; blk_ext [idx t]
  · rw [v_at]; blk_ext [idx t]
  · rw [g_at]; blk_ext [idx t]
  · rw [w_at]; blk_ext [idx t]
  · rw [b_at]; blk_ext [idx t]

end Cert.Kernel12Ideal.Value

namespace Cert.Reference12Ideal.Value
open Cert.Reference12Ideal Cert.Reference12Ideal.Gen

theorem ref_v (x : FVec Ideal S32x4096 .f32) (g : FVec Ideal S1x2048 .f32) :
    ((shapeCast _ (mulf (mulf (extractStridedSlice S32x1x2048 ![0, 0, 2048] (shapeCast _ x shapeCasts_S32x4096_S32x1x4096) slices_S32x1x4096_S32x1x2048_0_0_2048) (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf (extractStridedSlice S32x1x2048 ![0, 0, 2048] (shapeCast _ x shapeCasts_S32x4096_S32x1x4096) slices_S32x1x4096_S32x1x2048_0_0_2048) (extractStridedSlice S32x1x2048 ![0, 0, 2048] (shapeCast _ x shapeCasts_S32x4096_S32x1x4096) slices_S32x1x4096_S32x1x2048_0_0_2048)) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 (shapeCast _ g shapeCasts_S1x2048_S2048)))) shapeCasts_S32x1x2048_S32x2048) : FVec Ideal S32x2048 .f32) = Cert.Kernel12Ideal.Value.vn x g := by
  funext i
  pointwise [Cert.Kernel12Ideal.Value.vn, nrm]

theorem ref_o (x : FVec Ideal S32x4096 .f32) (g : FVec Ideal S1x2048 .f32) (w : FVec Ideal S1x16x128x128 .f32)
    (b : FVec Ideal S1x16x128 .f32) :
    ((truncf .bf16 (shapeCast _ (mulf (extractStridedSlice S32x1x2048 ![0, 0, 0] (shapeCast _ x shapeCasts_S32x4096_S32x1x4096) slices_S32x1x4096_S32x1x2048_0_0_0) (shapeCast _ (extractStridedSlice S32x1x16x128 ![0, 0, 0, 0] (shapeCast _ (addf (transpose S32x1x128x16x128 [1, 2, 4, 0, 3] (Host.dotGeneral dot_S32x1x128x16x128_S16x128x128_S16x32x1x128x128_2_2_014_1_3_0 none (shapeCast _ (pad S32x128x16x128 ![0, 0, 0, 0] ![0, 127, 0, 0] ![0, 0, 0, 0] (shapeCast _ (mulf (mulf (extractStridedSlice S32x1x2048 ![0, 0, 2048] (shapeCast _ x shapeCasts_S32x4096_S32x1x4096) slices_S32x1x4096_S32x1x2048_0_0_2048) (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf (extractStridedSlice S32x1x2048 ![0, 0, 2048] (shapeCast _ x shapeCasts_S32x4096_S32x1x4096) slices_S32x1x4096_S32x1x2048_0_0_2048) (extractStridedSlice S32x1x2048 ![0, 0, 2048] (shapeCast _ x shapeCasts_S32x4096_S32x1x4096) slices_S32x1x4096_S32x1x2048_0_0_2048)) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 (shapeCast _ g shapeCasts_S1x2048_S2048)))) shapeCasts_S32x1x2048_S32x1x16x128) (sitofp .f32 (constantI S_ 32 0#32)) pads_S32x1x16x128_S32x128x16x128_000_01270_000_000 h_S_) shapeCasts_S32x128x16x128_S32x1x128x16x128) (mulf (shapeCast _ w shapeCasts_S1x16x128x128_S16x128x128) (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S16x32x1x128x128_S32x1x128x16x128_1_2_4_0_3) (broadcastInDim S32x1x128x16x128 ![0, 1, 2, 3, 4] bcast_S1x1x128x16x1_S32x1x128x16x128_0_1_2_3_4 (broadcastInDim S1x1x128x16x1 ![2, 3] bcast_S128x16_S1x1x128x16x1_2_3 (transpose S128x16 [1, 0] (shapeCast _ b shapeCasts_S1x16x128_S16x128) transposes_S16x128_S128x16_1_0)))) shapeCasts_S32x1x128x16x128_S32x128x16x128) slices_S32x128x16x128_S32x1x16x128_0_0_0_0) shapeCasts_S32x1x16x128_S32x1x2048)) shapeCasts_S32x1x2048_S32x2048) bitsLt_bf16_f32) : FVec Ideal S32x2048 .bf16) = Cert.Kernel12Ideal.Value.out x g w b := by
  funext i
  idx_vars i
  pointwise [Cert.Kernel12Ideal.Value.out, Cert.Kernel12Ideal.Value.vn, nrm]
  refine Ideal.mul_congr rfl (congrArg₂ (α := EReal) (β := EReal) (· + ·) ?_ rfl)
  rw [Finset.sum_eq_zero (M := EReal) (s := Finset.univ) (f := fun x_1 : Fin 127 => _) fun k _ => ?_, add_zero,
    Fin.sum_univ_one]
  · rw [dif_pos ⟨by omega, by omega⟩]
    rfl
  · rw [dif_neg (fun h => h.1), show (FloatOps.sitofp (F := Ideal) .f32 0#32 : EReal) = 0 from Idealize.ShloMosaic.sitofp_zero, zero_mul]
    exact ite_self _

end Cert.Reference12Ideal.Value

namespace Cert.Proof

theorem frame_sgu_s_ref : Cert.quiescent_Reference12Ideal :=
  fun m g _ => (θ_run Cert.Reference12Ideal.defs _ _).mono (fun r h => ⟨fun c => (h c).2.2,
    Idealize.ShloMosaic.sem_eq_zero_of_no_sems (by decide) r.2⟩) (Cert.Reference12Ideal.Value.run m g)

theorem algebraic_sgu_s : Cert.algebraic_Kernel12Ideal_Reference12Ideal := by
  pair_intro
  · run_from Cert.Kernel12Ideal.Gen.run_main m g
  · run_from Cert.Reference12Ideal.Value.run m' g'
    · exact (Cert.Reference12Ideal.Value.ref_o _ _ _ _).trans (Cert.Kernel12Ideal.Value.final_o m c).symm
    · exact (Cert.Reference12Ideal.Value.ref_v _ _).trans (Cert.Kernel12Ideal.Value.final_v m c).symm

end Cert.Proof

end
-- ==== Proof.GatingPromptRef.lean ====
module

public import proofs.«01_k».proof.Defs
public import proofs.«01_k».proof.Proof.Gen.Reference13Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The reference's spatial gating unit of the prompt, read entry by entry. -/

namespace Cert.Reference13Ideal.Value
open Cert.Reference13Ideal Cert.Reference13Ideal.Gen

def halves (x : FVec Ideal S8192x4096 .bf16) : FVec Ideal S4x2048x4096 .f32 :=
  shapeCast _ (extf .f32 x bitsLt_bf16_f32) shapeCasts_S8192x4096_S4x2048x4096

def normed (x : FVec Ideal S4x2048x4096 .f32) (g : FVec Ideal S1x2048 .f32) : FVec Ideal S4x2048x2048 .f32 :=
  mulf (mulf (extractStridedSlice S4x2048x2048 ![0, 0, 2048] x slices_S4x2048x4096_S4x2048x2048_0_0_2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (extractStridedSlice S4x2048x2048 ![0, 0, 2048] x slices_S4x2048x4096_S4x2048x2048_0_0_2048) (extractStridedSlice S4x2048x2048 ![0, 0, 2048] x slices_S4x2048x4096_S4x2048x2048_0_0_2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))

def chunks (n : FVec Ideal S4x2048x2048 .f32) : FVec Ideal S4x16x128x16x128 .f32 :=
  shapeCast _ (pad S4x2048x16x128 ![0, 0, 0, 0] ![0, 0, 0, 0] ![0, 0, 0, 0] (shapeCast _ n shapeCasts_S4x2048x2048_S4x2048x16x128) (sitofp .f32 (constantI S_ 32 0#32)) pads_S4x2048x16x128_S4x2048x16x128_000_000_000_000 h_S_) shapeCasts_S4x2048x16x128_S4x16x128x16x128

def masked (w : FVec Ideal S1x16x128x128 .f32) : FVec Ideal S16x128x128 .f32 :=
  mulf (shapeCast _ w shapeCasts_S1x16x128x128_S16x128x128) (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

def mixed (v : FVec Ideal S4x16x128x16x128 .f32) (w : FVec Ideal S16x128x128 .f32) (b : FVec Ideal S1x16x128 .f32) :
    FVec Ideal S4x16x128x16x128 .f32 :=
  addf (transpose S4x16x128x16x128 [1, 2, 4, 0, 3] (Host.dotGeneral dot_S4x16x128x16x128_S16x128x128_S16x4x16x128x128_2_2_014_1_3_0 none v w) transposes_S16x4x16x128x128_S4x16x128x16x128_1_2_4_0_3) (broadcastInDim S4x16x128x16x128 ![0, 1, 2, 3, 4] bcast_S1x1x128x16x1_S4x16x128x16x128_0_1_2_3_4 (broadcastInDim S1x1x128x16x1 ![2, 3] bcast_S128x16_S1x1x128x16x1_2_3 (transpose S128x16 [1, 0] (shapeCast _ b shapeCasts_S1x16x128_S16x128) transposes_S16x128_S128x16_1_0)))

def product (x : FVec Ideal S4x2048x4096 .f32) (y : FVec Ideal S4x16x128x16x128 .f32) : FVec Ideal S8192x2048 .bf16 :=
  truncf .bf16 (shapeCast _ (mulf (extractStridedSlice S4x2048x2048 ![0, 0, 0] x slices_S4x2048x4096_S4x2048x2048_0_0_0) (shapeCast _ (shapeCast _ y shapeCasts_S4x16x128x16x128_S4x2048x16x128) shapeCasts_S4x2048x16x128_S4x2048x2048)) shapeCasts_S4x2048x2048_S8192x2048) bitsLt_bf16_f32

theorem halves_at (x : FVec Ideal S8192x4096 .bf16) (b : Fin 4) (p : Fin 2048) (j : Fin 4096) :
    halves x (ix3 b p j) = x (ix2 ⟨b.val * 2048 + p.val, by omega⟩ j) := by
  unfold halves
  pointwise

theorem normed_at (x : FVec Ideal S4x2048x4096 .f32) (g : FVec Ideal S1x2048 .f32) (b : Fin 4) (p : Fin 2048) (j : Fin 2048) :
    normed x g (ix3 b p j) = nrm (x (ix3 b p ⟨2048 + j.val, by omega⟩)) (fun k => x (ix3 b p ⟨2048 + k.val, by omega⟩)) (g (ix2 0 j)) := by
  unfold normed
  pointwise [nrm]

theorem chunks_at (n : FVec Ideal S4x2048x2048 .f32) (b : Fin 4) (q : Fin 16) (k : Fin 128) (h : Fin 16) (d : Fin 128) :
    chunks n (ix5 b q k h d) = n (ix3 b ⟨q.val * 128 + k.val, by omega⟩ ⟨h.val * 128 + d.val, by omega⟩) := by
  unfold chunks
  pointwise
  rw [dif_pos (by omega)]

theorem masked_at (w : FVec Ideal S1x16x128x128 .f32) (h : Fin 16) (r k : Fin 128) :
    masked w (ix3 h r k) = Scalar.select (IntOp.cmpi .sge (BitVec.ofNat 32 r.val) (BitVec.ofNat 32 k.val)) (w (ix4 0 h r k)) (0 : EReal) := by
  unfold masked
  pointwise
  rw [show IntOp.addi (BitVec.ofNat 32 r.val) 0#32 = BitVec.ofNat 32 r.val from BitVec.add_zero _]

theorem mixed_at (v : FVec Ideal S4x16x128x16x128 .f32) (w : FVec Ideal S16x128x128 .f32) (b : FVec Ideal S1x16x128 .f32)
    (s : Fin 4) (q : Fin 16) (r : Fin 128) (h : Fin 16) (d : Fin 128) :
    mixed v w b (ix5 s q r h d) = (∑ k : Fin 128, w (ix3 h r k) * v (ix5 s q k h d)) + b (ix3 0 h r) := by
  unfold mixed
  pointwise
  exact congrArg₂ (α := EReal) (β := EReal) (· + ·) (Finset.sum_congr rfl fun k _ => mul_comm _ _) rfl

theorem product_at (x : FVec Ideal S4x2048x4096 .f32) (y : FVec Ideal S4x16x128x16x128 .f32) (r : Fin 8192) (j : Fin 2048) :
    product x y (ix2 r j) = x (ix3 ⟨r.val / 2048, by omega⟩ ⟨r.val % 2048, by omega⟩ ⟨j.val, by omega⟩)
      * y (ix5 ⟨r.val / 2048, by omega⟩ ⟨r.val % 2048 / 128, by omega⟩ ⟨r.val % 2048 % 128, by omega⟩ ⟨j.val / 128, by omega⟩ ⟨j.val % 128, by omega⟩) := by
  unfold product
  pointwise

end Cert.Reference13Ideal.Value

end
-- ==== Proof.GatingPrompt.lean ====
module

public import proofs.«01_k».proof.Defs
public import proofs.«01_k».proof.Proof.Gen.Kernel13Ideal.Frame
public import proofs.«01_k».proof.Proof.Gen.Reference13Ideal.Run
public import proofs.«01_k».proof.Proof.GatingPromptRef
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The spatial gating unit of the prompt: the value half of every row is normalised, each chunk of 128 rows is mixed head by head with the
    lower triangle of that head's matrix, a bias is added, and the other half of the row is multiplied by what comes out. -/

namespace Cert.Kernel13Ideal.Value
open Cert.Kernel13Ideal Cert.Kernel13Ideal.Gen

variable (m : (ℓ : Loc nD τ sig) → Buf (Elt Ideal) ℓ)

theorem idx : ∀ t : Fin cfg0.N, win0_0.index t = ![t.val, 0] ∧ win0_1.index t = ![t.val, 1] ∧ win0_2.index t = ![0, 0]
    ∧ win0_3.index t = ![0, 0, 0] ∧ win0_4.index t = ![0, 0] ∧ win0_5.index t = ![t.val, 0] :=
  (by decide +kernel : ∀ t : Fin grid0.N, _)

/-- One entry of a gated tile of head `g`, from the normalised rows, the mask, the biases, the head's matrix and the other half. -/
def gated (g : Fin 16) (vn : FVec Ideal S128x2048 .bf16) (ms : IVec S128x128 1) (bt : FVec Ideal S128x16 .f32)
    (w : Vec Ideal S1x128x128 .f32) (u : Vec Ideal S128x128 .bf16) (r : Fin 128) (j : Fin 128) : EReal :=
  u (ix2 r j) * ((∑ k : Fin 128, Scalar.select (ms (ix2 r k)) (w (ix3 0 r k)) (0 : EReal) * vn (ix2 k ⟨128 * g.val + j.val, by omega⟩))
    + bt (ix2 r g))

theorem tile1_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay6 (F := Ideal) vn ms bt w u (ix2 r j) = gated 1 vn ms bt w u r j := by
  unfold gated
  pointwise [k0_pay6]

theorem tile2_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay7 (F := Ideal) vn ms bt w u (ix2 r j) = gated 2 vn ms bt w u r j := by
  unfold gated
  pointwise [k0_pay7]

theorem tile3_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay10 (F := Ideal) (k0_pay8 vn ms w) (k0_pay9 bt) u (ix2 r j) = gated 3 vn ms bt w u r j := by
  unfold gated
  pointwise [k0_pay10, k0_pay8, k0_pay9]

theorem tile4_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay11 (F := Ideal) vn ms bt w u (ix2 r j) = gated 4 vn ms bt w u r j := by
  unfold gated
  pointwise [k0_pay11]

theorem tile5_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay12 (F := Ideal) vn ms bt w u (ix2 r j) = gated 5 vn ms bt w u r j := by
  unfold gated
  pointwise [k0_pay12]

theorem tile6_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay13 (F := Ideal) vn ms bt w u (ix2 r j) = gated 6 vn ms bt w u r j := by
  unfold gated
  pointwise [k0_pay13]

theorem tile7_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay14 (F := Ideal) vn ms bt w u (ix2 r j) = gated 7 vn ms bt w u r j := by
  unfold gated
  pointwise [k0_pay14]

theorem tile8_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay16 (F := Ideal) vn bt (k0_pay15 ms w) u (ix2 r j) = gated 8 vn ms bt w u r j := by
  unfold gated
  pointwise [k0_pay16, k0_pay15]

theorem tile9_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay17 (F := Ideal) vn ms bt w u (ix2 r j) = gated 9 vn ms bt w u r j := by
  unfold gated
  pointwise [k0_pay17]

theorem tile10_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay19 (F := Ideal) (k0_pay18 vn ms bt w) u (ix2 r j) = gated 10 vn ms bt w u r j := by
  unfold gated
  pointwise [k0_pay19, k0_pay18]

theorem tile11_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay20 (F := Ideal) vn ms bt w u (ix2 r j) = gated 11 vn ms bt w u r j := by
  unfold gated
  pointwise [k0_pay20]

theorem tile12_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay21 (F := Ideal) vn ms bt w u (ix2 r j) = gated 12 vn ms bt w u r j := by
  unfold gated
  pointwise [k0_pay21]

theorem tile13_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay22 (F := Ideal) vn ms bt w u (ix2 r j) = gated 13 vn ms bt w u r j := by
  unfold gated
  pointwise [k0_pay22]

theorem tile14_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay23 (F := Ideal) vn ms bt w u (ix2 r j) = gated 14 vn ms bt w u r j := by
  unfold gated
  pointwise [k0_pay23]

theorem tile15_at (vn : FVec Ideal S128x2048 .bf16) (ms : IVec S128x128 1) (bt : FVec Ideal S128x16 .f32)
    (w : Vec Ideal S1x128x128 .f32) (u : Vec Ideal S128x128 .bf16) (r : Fin 128) (j : Fin 128) :
    k0_pay1 (F := Ideal) (k0_pay24 vn ms w) (k0_pay25 bt) u (ix2 r j) = gated 15 vn ms bt w u r j := by
  unfold gated
  pointwise [k0_pay1, k0_pay24, k0_pay25]

theorem tile0_at (v : Vec Ideal S128x2048 .bf16) (g : Vec Ideal S1x2048 .f32) (b : Vec Ideal S128x16 .f32)
    (w : Vec Ideal S1x128x128 .f32) (u : Vec Ideal S128x128 .bf16) (r : Fin 128) (j : Fin 128) :
    k0_pay5 (F := Ideal) v g b w u (ix2 r j) = gated 0 (k0_pay2 v g) k0_pay3 (k0_pay4 b) w u r j := by
  unfold gated
  unfold k0_pay5
  generalize k0_pay3 = ms
  generalize k0_pay2 v g = vn
  generalize k0_pay4 b = bt
  pointwise

theorem rows_at (v : Vec Ideal S128x2048 .bf16) (g : Vec Ideal S1x2048 .f32) (r : Fin 128) (j : Fin 2048) :
    k0_pay2 (F := Ideal) v g (ix2 r j) = nrm (v (ix2 r j)) (fun k => v (ix2 r k)) (g (ix2 0 j)) := by
  pointwise [k0_pay2, nrm]

theorem mask_at (r : Fin 128) (k : Fin 128) :
    k0_pay3 (ix2 r k) = IntOp.cmpi .sge (BitVec.ofNat 32 r.val) (BitVec.ofNat 32 k.val) := by
  pointwise [k0_pay3]

theorem bias_at (b : Vec Ideal S128x16 .f32) (r : Fin 128) (g : Fin 16) : k0_pay4 (F := Ideal) b (ix2 r g) = b (ix2 r g) := by
  pointwise [k0_pay4]

/-- One entry of the gate, from the blocks of a chunk: the row's own half times the mixed, normalised other half plus the bias. -/
def gate (x0 x1 : Vec Ideal S128x2048 .bf16) (x2 : Vec Ideal S1x2048 .f32) (x3 : Vec Ideal S16x128x128 .f32)
    (x4 : Vec Ideal S128x16 .f32) (r : Fin 128) (j : Fin 2048) : EReal :=
  x0 (ix2 r j) * ((∑ k : Fin 128, Scalar.select (IntOp.cmpi .sge (BitVec.ofNat 32 r.val) (BitVec.ofNat 32 k.val))
      (x3 (ix3 ⟨j.val / 128, by omega⟩ r k)) (0 : EReal) * nrm (x1 (ix2 k j)) (fun k' => x1 (ix2 k k')) (x2 (ix2 0 j)))
    + x4 (ix2 r ⟨j.val / 128, by omega⟩))

theorem gated_eq (x0 x1 : Vec Ideal S128x2048 .bf16) (x2 : Vec Ideal S1x2048 .f32) (x3 : Vec Ideal S16x128x128 .f32)
    (x4 : Vec Ideal S128x16 .f32) (g : Fin 16) (w : Vec Ideal S1x128x128 .f32) (u : Vec Ideal S128x128 .bf16) (r : Fin 128) (j : Fin 128)
    (hu : u (ix2 r j) = x0 (ix2 r ⟨128 * g.val + j.val, by omega⟩)) (hw : ∀ k, w (ix3 0 r k) = x3 (ix3 g r k)) :
    gated g (k0_pay2 x1 x2) k0_pay3 (k0_pay4 x4) w u r j = gate x0 x1 x2 x3 x4 r ⟨128 * g.val + j.val, by omega⟩ := by
  have hg : (⟨(128 * g.val + j.val) / 128, by omega⟩ : Fin 16) = g := Fin.ext (by show (128 * g.val + j.val) / 128 = g.val; omega)
  unfold gated gate
  rw [hu, bias_at]
  refine Ideal.mul_congr rfl (congrArg₂ (α := EReal) (β := EReal) (· + ·) (Finset.sum_congr rfl fun k _ => ?_)
    (congrArg (fun a => x4 (ix2 r a)) hg.symm))
  rw [mask_at, rows_at, hw]
  exact Ideal.mul_congr (congrArg (fun a => Scalar.select (IntOp.cmpi .sge (BitVec.ofNat 32 r.val) (BitVec.ofNat 32 k.val))
      (x3 (ix3 a r k)) (0 : EReal)) hg.symm) rfl

theorem ld1 (x : Vec Ideal S128x2048 .bf16) : View.ld (Val := Elt Ideal) (e' := .bf16) x r0_0 = x := by
  funext i
  idx_vars i
  unfold r0_0
  pointwise

theorem ld2 (x : Vec Ideal S1x2048 .f32) : View.ld (Val := Elt Ideal) (e' := .f32) x r0_1 = x := by
  funext i
  idx_vars i
  unfold r0_1
  pointwise
  rw [Subsingleton.elim i0 0]

theorem ld4 (x : Vec Ideal S128x16 .f32) : View.ld (Val := Elt Ideal) (e' := .f32) x r0_2 = x := by
  funext i
  idx_vars i
  unfold r0_2
  pointwise

theorem col_lt (g : Fin 16) (j : Fin 128) : 128 * g.val + j.val < 2048 := by omega

theorem out_at (x0 x1 : Vec Ideal S128x2048 .bf16) (x2 : Vec Ideal S1x2048 .f32) (x3 : Vec Ideal S16x128x128 .f32)
    (x4 : Vec Ideal S128x16 .f32) (r : Fin 128) (j : Fin 2048) :
    out0_5 (F := Ideal) x0 x1 x2 x3 x4 (ix2 r j) = gate x0 x1 x2 x3 x4 r j := by
  unfold_out out0_5
  rw [ld1, ld2, ld4]
  canon_tiles z h
  · idx_vars z
    change r.val = z0.val at h0
    change j.val = 1920 + z1.val at h1
    obtain rfl : r = z0 := Fin.ext h0
    obtain rfl : j = ⟨128 * (15 : Fin 16).val + z1.val, col_lt 15 z1⟩ := Fin.ext h1
    refine (tile15_at _ _ _ _ _ _ _ ).trans (gated_eq x0 x1 x2 x3 x4 15 _ _ r z1 ?_ fun k => ?_)
    · unfold r0_34; pointwise; blk_ext
    · unfold r0_33; pointwise; blk_ext
  · idx_vars z
    change r.val = z0.val at h0
    change j.val = 1792 + z1.val at h1
    obtain rfl : r = z0 := Fin.ext h0
    obtain rfl : j = ⟨128 * (14 : Fin 16).val + z1.val, col_lt 14 z1⟩ := Fin.ext h1
    refine (tile14_at _ _ _ _ _ _ _ ).trans (gated_eq x0 x1 x2 x3 x4 14 _ _ r z1 ?_ fun k => ?_)
    · unfold r0_32; pointwise; blk_ext
    · unfold r0_31; pointwise; blk_ext
  · idx_vars z
    change r.val = z0.val at h0
    change j.val = 1664 + z1.val at h1
    obtain rfl : r = z0 := Fin.ext h0
    obtain rfl : j = ⟨128 * (13 : Fin 16).val + z1.val, col_lt 13 z1⟩ := Fin.ext h1
    refine (tile13_at _ _ _ _ _ _ _ ).trans (gated_eq x0 x1 x2 x3 x4 13 _ _ r z1 ?_ fun k => ?_)
    · unfold r0_30; pointwise; blk_ext
    · unfold r0_29; pointwise; blk_ext
  · idx_vars z
    change r.val = z0.val at h0
    change j.val = 1536 + z1.val at h1
    obtain rfl : r = z0 := Fin.ext h0
    obtain rfl : j = ⟨128 * (12 : Fin 16).val + z1.val, col_lt 12 z1⟩ := Fin.ext h1
    refine (tile12_at _ _ _ _ _ _ _ ).trans (gated_eq x0 x1 x2 x3 x4 12 _ _ r z1 ?_ fun k => ?_)
    · unfold r0_28; pointwise; blk_ext
    · unfold r0_27; pointwise; blk_ext
  · idx_vars z
    change r.val = z0.val at h0
    change j.val = 1408 + z1.val at h1
    obtain rfl : r = z0 := Fin.ext h0
    obtain rfl : j = ⟨128 * (11 : Fin 16).val + z1.val, col_lt 11 z1⟩ := Fin.ext h1
    refine (tile11_at _ _ _ _ _ _ _ ).trans (gated_eq x0 x1 x2 x3 x4 11 _ _ r z1 ?_ fun k => ?_)
    · unfold r0_26; pointwise; blk_ext
    · unfold r0_25; pointwise; blk_ext
  · idx_vars z
    change r.val = z0.val at h0
    change j.val = 1280 + z1.val at h1
    obtain rfl : r = z0 := Fin.ext h0
    obtain rfl : j = ⟨128 * (10 : Fin 16).val + z1.val, col_lt 10 z1⟩ := Fin.ext h1
    refine (tile10_at _ _ _ _ _ _ _ ).trans (gated_eq x0 x1 x2 x3 x4 10 _ _ r z1 ?_ fun k => ?_)
    · unfold r0_24; pointwise; blk_ext
    · unfold r0_23; pointwise; blk_ext
  · idx_vars z
    change r.val = z0.val at h0
    change j.val = 1152 + z1.val at h1
    obtain rfl : r = z0 := Fin.ext h0
    obtain rfl : j = ⟨128 * (9 : Fin 16).val + z1.val, col_lt 9 z1⟩ := Fin.ext h1
    refine (tile9_at _ _ _ _ _ _ _ ).trans (gated_eq x0 x1 x2 x3 x4 9 _ _ r z1 ?_ fun k => ?_)
    · unfold r0_22; pointwise; blk_ext
    · unfold r0_21; pointwise; blk_ext
  · idx_vars z
    change r.val = z0.val at h0
    change j.val = 1024 + z1.val at h1
    obtain rfl : r = z0 := Fin.ext h0
    obtain rfl : j = ⟨128 * (8 : Fin 16).val + z1.val, col_lt 8 z1⟩ := Fin.ext h1
    refine (tile8_at _ _ _ _ _ _ _ ).trans (gated_eq x0 x1 x2 x3 x4 8 _ _ r z1 ?_ fun k => ?_)
    · unfold r0_20; pointwise; blk_ext
    · unfold r0_19; pointwise; blk_ext
  · idx_vars z
    change r.val = z0.val at h0
    change j.val = 896 + z1.val at h1
    obtain rfl : r = z0 := Fin.ext h0
    obtain rfl : j = ⟨128 * (7 : Fin 16).val + z1.val, col_lt 7 z1⟩ := Fin.ext h1
    refine (tile7_at _ _ _ _ _ _ _ ).trans (gated_eq x0 x1 x2 x3 x4 7 _ _ r z1 ?_ fun k => ?_)
    · unfold r0_18; pointwise; blk_ext
    · unfold r0_17; pointwise; blk_ext
  · idx_vars z
    change r.val = z0.val at h0
    change j.val = 768 + z1.val at h1
    obtain rfl : r = z0 := Fin.ext h0
    obtain rfl : j = ⟨128 * (6 : Fin 16).val + z1.val, col_lt 6 z1⟩ := Fin.ext h1
    refine (tile6_at _ _ _ _ _ _ _ ).trans (gated_eq x0 x1 x2 x3 x4 6 _ _ r z1 ?_ fun k => ?_)
    · unfold r0_16; pointwise; blk_ext
    · unfold r0_15; pointwise; blk_ext
  · idx_vars z
    change r.val = z0.val at h0
    change j.val = 640 + z1.val at h1
    obtain rfl : r = z0 := Fin.ext h0
    obtain rfl : j = ⟨128 * (5 : Fin 16).val + z1.val, col_lt 5 z1⟩ := Fin.ext h1
    refine (tile5_at _ _ _ _ _ _ _ ).trans (gated_eq x0 x1 x2 x3 x4 5 _ _ r z1 ?_ fun k => ?_)
    · unfold r0_14; pointwise; blk_ext
    · unfold r0_13; pointwise; blk_ext
  · idx_vars z
    change r.val = z0.val at h0
    change j.val = 512 + z1.val at h1
    obtain rfl : r = z0 := Fin.ext h0
    obtain rfl : j = ⟨128 * (4 : Fin 16).val + z1.val, col_lt 4 z1⟩ := Fin.ext h1
    refine (tile4_at _ _ _ _ _ _ _ ).trans (gated_eq x0 x1 x2 x3 x4 4 _ _ r z1 ?_ fun k => ?_)
    · unfold r0_12; pointwise; blk_ext
    · unfold r0_11; pointwise; blk_ext
  · idx_vars z
    change r.val = z0.val at h0
    change j.val = 384 + z1.val at h1
    obtain rfl : r = z0 := Fin.ext h0
    obtain rfl : j = ⟨128 * (3 : Fin 16).val + z1.val, col_lt 3 z1⟩ := Fin.ext h1
    refine (tile3_at _ _ _ _ _ _ _ ).trans (gated_eq x0 x1 x2 x3 x4 3 _ _ r z1 ?_ fun k => ?_)
    · unfold r0_10; pointwise; blk_ext
    · unfold r0_9; pointwise; blk_ext
  · idx_vars z
    change r.val = z0.val at h0
    change j.val = 256 + z1.val at h1
    obtain rfl : r = z0 := Fin.ext h0
    obtain rfl : j = ⟨128 * (2 : Fin 16).val + z1.val, col_lt 2 z1⟩ := Fin.ext h1
    refine (tile2_at _ _ _ _ _ _ _ ).trans (gated_eq x0 x1 x2 x3 x4 2 _ _ r z1 ?_ fun k => ?_)
    · unfold r0_8; pointwise; blk_ext
    · unfold r0_7; pointwise; blk_ext
  · idx_vars z
    change r.val = z0.val at h0
    change j.val = 128 + z1.val at h1
    obtain rfl : r = z0 := Fin.ext h0
    obtain rfl : j = ⟨128 * (1 : Fin 16).val + z1.val, col_lt 1 z1⟩ := Fin.ext h1
    refine (tile1_at _ _ _ _ _ _ _ ).trans (gated_eq x0 x1 x2 x3 x4 1 _ _ r z1 ?_ fun k => ?_)
    · unfold r0_6; pointwise; blk_ext
    · unfold r0_5; pointwise; blk_ext
  · idx_vars z
    change r.val = z0.val at h0
    change j.val = z1.val at h1
    obtain rfl : r = z0 := Fin.ext h0
    obtain rfl : j = ⟨128 * (0 : Fin 16).val + z1.val, col_lt 0 z1⟩ := Fin.ext (by dsimp only; omega)
    refine (tile0_at _ _ _ _ _ _ _ ).trans (gated_eq x0 x1 x2 x3 x4 0 _ _ r z1 ?_ fun k => ?_)
    · unfold r0_4; pointwise; blk_ext
    · unfold r0_3; pointwise; blk_ext

/-- The normalised value half at row `r`, column `j`. -/
def vn (X : S8192x4096.Idx → EReal) (g : S1x2048.Idx → EReal) (r : Fin 8192) (j : Fin 2048) : EReal :=
  nrm (X (ix2 r ⟨2048 + j.val, by omega⟩)) (fun k => X (ix2 r ⟨2048 + k.val, by omega⟩)) (g (ix2 0 j))

/-- The gate of the whole prompt: row `r` lies at place `r % 128` of chunk `r / 128`. -/
def out (X : S8192x4096.Idx → EReal) (g : S1x2048.Idx → EReal) (W : S1x16x128x128.Idx → EReal) (B : S1x16x128.Idx → EReal)
    (r : Fin 8192) (j : Fin 2048) : EReal :=
  X (ix2 r ⟨j.val, by omega⟩) * ((∑ k : Fin 128, Scalar.select (IntOp.cmpi .sge (BitVec.ofNat 32 (r.val % 128)) (BitVec.ofNat 32 k.val))
      (W (ix4 0 ⟨j.val / 128, by omega⟩ ⟨r.val % 128, by omega⟩ k)) (0 : EReal)
        * vn X g ⟨128 * (r.val / 128) + k.val, by omega⟩ j)
    + B (ix3 0 ⟨j.val / 128, by omega⟩ ⟨r.val % 128, by omega⟩))

theorem row_lt (t : Fin cfg0.N) (r : Fin 128) : 128 * t.val + r.val < 8192 := by
  have ht : t.val < 64 := t.isLt
  omega

theorem u_at (c : Dev nD) (t : Fin cfg0.N) (r : Fin 128) (j : Fin 2048) :
    iblk m c 0 t (ix2 r j) = m ((c : Thread nD τ).loc main_arg0) (ix2 ⟨128 * t.val + r.val, row_lt t r⟩ ⟨j.val, by omega⟩) := by
  blk_simp [iblk, idx t]
  blk_ext [V, idx t]

theorem v_at (c : Dev nD) (t : Fin cfg0.N) (r : Fin 128) (j : Fin 2048) :
    iblk m c 1 t (ix2 r j) = m ((c : Thread nD τ).loc main_arg0) (ix2 ⟨128 * t.val + r.val, row_lt t r⟩ ⟨2048 + j.val, by omega⟩) := by
  blk_simp [iblk, idx t]
  blk_ext [V, idx t]

theorem g_at (c : Dev nD) (t : Fin cfg0.N) (j : Fin 2048) :
    iblk m c 2 t (ix2 0 j) = m ((c : Thread nD τ).loc main_arg1) (ix2 0 j) := by
  blk_simp [iblk, idx t]
  entry_read
  pointwise
  blk_ext [idx t]

theorem w_at (c : Dev nD) (t : Fin cfg0.N) (h : Fin 16) (r k : Fin 128) :
    iblk m c 3 t (ix3 h r k) = m ((c : Thread nD τ).loc main_arg2) (ix4 0 h r k) := by
  blk_simp [iblk, idx t]
  entry_read
  pointwise
  blk_ext [idx t]

theorem b_at (c : Dev nD) (t : Fin cfg0.N) (r : Fin 128) (h : Fin 16) :
    iblk m c 4 t (ix2 r h) = m ((c : Thread nD τ).loc main_arg3) (ix3 0 h r) := by
  blk_simp [iblk, idx t]
  entry_read
  pointwise
  blk_ext [idx t]

theorem gate_eq (c : Dev nD) (t : Fin cfg0.N) (r : Fin 128) (j : Fin 2048) :
    gate (iblk m c 0 t) (iblk m c 1 t) (iblk m c 2 t) (iblk m c 3 t) (iblk m c 4 t) r j
    = out (m ((c : Thread nD τ).loc main_arg0)) (m ((c : Thread nD τ).loc main_arg1)) (m ((c : Thread nD τ).loc main_arg2))
        (m ((c : Thread nD τ).loc main_arg3)) ⟨128 * t.val + r.val, row_lt t r⟩ j := by
  have h1 : (128 * t.val + r.val) % 128 = r.val := by omega
  have h2 : 128 * ((128 * t.val + r.val) / 128) = 128 * t.val := by omega
  unfold gate out vn
  simp only [h1, h2]
  refine Ideal.mul_congr (u_at m c t r j) (congrArg₂ (α := EReal) (β := EReal) (· + ·) (Finset.sum_congr rfl fun k _ => ?_) (b_at m c t r _))
  refine Ideal.mul_congr ?_ (nrm_congr (v_at m c t k j) (fun k' => v_at m c t k k') (g_at m c t j))
  exact congrArg (fun a => Scalar.select (IntOp.cmpi .sge (BitVec.ofNat 32 r.val) (BitVec.ofNat 32 k.val)) a (0 : EReal)) (w_at m c t _ r k)

theorem final (c : Dev nD) : (dats m 0 c).arrAt 5 (cfgs 0).N
    = fun i : S8192x2048.Idx => out (m ((c : Thread nD τ).loc main_arg0)) (m ((c : Thread nD τ).loc main_arg1)) (m ((c : Thread nD τ).loc main_arg2))
        (m ((c : Thread nD τ).loc main_arg3)) (i 0) (i 1) := by
  generalize hf : (fun i : S8192x2048.Idx => out (m ((c : Thread nD τ).loc main_arg0)) (m ((c : Thread nD τ).loc main_arg1)) (m ((c : Thread nD τ).loc main_arg2))
        (m ((c : Thread nD τ).loc main_arg3)) (i 0) (i 1)) = f
  refine (dats m 0 c).arrAt_eq_of_covers 5 _ (by decide +kernel) fun t _ y => ?_
  rw [after0_5]
  idx_vars y
  refine (out_at _ _ _ _ _ _ _).trans ((gate_eq m c t y0 y1).trans ((congrFun hf (ix2 ⟨128 * t.val + y0.val, row_lt t y0⟩ y1)).trans ?_))
  blk_ext [idx t]

end Cert.Kernel13Ideal.Value

namespace Cert.Reference13Ideal.Value
open Cert.Reference13Ideal Cert.Reference13Ideal.Gen

theorem ref_eq (x : FVec Ideal S8192x4096 .bf16) (g : FVec Ideal S1x2048 .f32) (w : FVec Ideal S1x16x128x128 .f32)
    (b : FVec Ideal S1x16x128 .f32) :
    ((truncf .bf16 (shapeCast _ (mulf (extractStridedSlice S4x2048x2048 ![0, 0, 0] (shapeCast _ (extf .f32 x bitsLt_bf16_f32) shapeCasts_S8192x4096_S4x2048x4096) slices_S4x2048x4096_S4x2048x2048_0_0_0) (shapeCast _ (shapeCast _ (addf (transpose S4x16x128x16x128 [1, 2, 4, 0, 3] (Host.dotGeneral dot_S4x16x128x16x128_S16x128x128_S16x4x16x128x128_2_2_014_1_3_0 none (shapeCast _ (pad S4x2048x16x128 ![0, 0, 0, 0] ![0, 0, 0, 0] ![0, 0, 0, 0] (shapeCast _ (mulf (mulf (extractStridedSlice S4x2048x2048 ![0, 0, 2048] (shapeCast _ (extf .f32 x bitsLt_bf16_f32) shapeCasts_S8192x4096_S4x2048x4096) slices_S4x2048x4096_S4x2048x2048_0_0_2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (extractStridedSlice S4x2048x2048 ![0, 0, 2048] (shapeCast _ (extf .f32 x bitsLt_bf16_f32) shapeCasts_S8192x4096_S4x2048x4096) slices_S4x2048x4096_S4x2048x2048_0_0_2048) (extractStridedSlice S4x2048x2048 ![0, 0, 2048] (shapeCast _ (extf .f32 x bitsLt_bf16_f32) shapeCasts_S8192x4096_S4x2048x4096) slices_S4x2048x4096_S4x2048x2048_0_0_2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) shapeCasts_S4x2048x2048_S4x2048x16x128) (sitofp .f32 (constantI S_ 32 0#32)) pads_S4x2048x16x128_S4x2048x16x128_000_000_000_000 h_S_) shapeCasts_S4x2048x16x128_S4x16x128x16x128) (mulf (shapeCast _ w shapeCasts_S1x16x128x128_S16x128x128) (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S16x4x16x128x128_S4x16x128x16x128_1_2_4_0_3) (broadcastInDim S4x16x128x16x128 ![0, 1, 2, 3, 4] bcast_S1x1x128x16x1_S4x16x128x16x128_0_1_2_3_4 (broadcastInDim S1x1x128x16x1 ![2, 3] bcast_S128x16_S1x1x128x16x1_2_3 (transpose S128x16 [1, 0] (shapeCast _ b shapeCasts_S1x16x128_S16x128) transposes_S16x128_S128x16_1_0)))) shapeCasts_S4x16x128x16x128_S4x2048x16x128) shapeCasts_S4x2048x16x128_S4x2048x2048)) shapeCasts_S4x2048x2048_S8192x2048) bitsLt_bf16_f32) : FVec Ideal S8192x2048 .bf16) = fun i => Cert.Kernel13Ideal.Value.out x g w b (i 0) (i 1) := by
  change product (halves x) (mixed (chunks (normed (halves x) g)) (masked w) b) = _
  funext i
  idx_vars i
  refine (product_at _ _ _ _).trans ?_
  have h1 : i0.val % 2048 % 128 = i0.val % 128 := by omega
  have h2 : ∀ k : Fin 128, (⟨i0.val / 2048 * 2048 + (i0.val % 2048 / 128 * 128 + k.val), by omega⟩ : Fin 8192)
      = ⟨128 * (i0.val / 128) + k.val, by omega⟩ := fun k => Fin.ext (by dsimp only; omega)
  have h3 : (⟨i0.val / 2048 * 2048 + i0.val % 2048, by omega⟩ : Fin 8192) = i0 := Fin.ext (by dsimp only; omega)
  have h4 : (⟨i1.val / 128 * 128 + i1.val % 128, by omega⟩ : Fin 2048) = i1 := Fin.ext (by dsimp only; omega)
  rw [halves_at, mixed_at]
  dsimp only
  rw [h3]
  show _ = Cert.Kernel13Ideal.Value.out x g w b i0 i1
  unfold Cert.Kernel13Ideal.Value.out Cert.Kernel13Ideal.Value.vn
  refine Ideal.mul_congr rfl (congrArg₂ (α := EReal) (β := EReal) (· + ·) (Finset.sum_congr rfl fun k _ => ?_) ?_)
  · rw [masked_at, chunks_at, normed_at]
    dsimp only
    simp only [h1]
    refine Ideal.mul_congr rfl (nrm_congr ?_ (fun k' => ?_) ?_)
    · rw [halves_at]
      dsimp only
      rw [h2 k]
      exact congrArg (fun a : Fin 2048 => x (ix2 ⟨128 * (i0.val / 128) + k.val, by omega⟩ ⟨2048 + a.val, by omega⟩)) h4
    · rw [halves_at]
      dsimp only
      rw [h2 k]
    · rw [h4]
  · simp only [h1]

end Cert.Reference13Ideal.Value

namespace Cert.Proof

theorem frame_sgu_p_ref : Cert.quiescent_Reference13Ideal :=
  fun m g _ => (θ_run Cert.Reference13Ideal.defs _ _).mono (fun r h => ⟨fun c => (h c).2,
    Idealize.ShloMosaic.sem_eq_zero_of_no_sems (by decide) r.2⟩) (Cert.Reference13Ideal.Value.run m g)

theorem algebraic_sgu_p : Cert.algebraic_Kernel13Ideal_Reference13Ideal := by
  pair_intro
  · run_from Cert.Kernel13Ideal.Gen.run_main m g
  · run_from Cert.Reference13Ideal.Value.run m' g'
    · exact (Cert.Reference13Ideal.Value.ref_eq _ _ _ _).trans (Cert.Kernel13Ideal.Value.final m c).symm

end Cert.Proof

end
-- ==== Proof.NormLastPrompt.lean ====
module

public import proofs.«01_k».proof.Defs
public import proofs.«01_k».proof.Proof.Gen.Kernel14Ideal.Frame
public import proofs.«01_k».proof.Proof.Gen.Reference14Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel14Ideal.Value
open Cert.Kernel14Ideal Cert.Kernel14Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- every row normalised -/
def out (x : S8192x4096.Idx → EReal) (g : S4096.Idx → EReal) : S8192x4096.Idx → EReal :=
  fun i => rms (x (ix2 (i 0) (i 1))) (fun k => x (ix2 (i 0) k)) (g (ix1 (i 1)))

theorem pay_at (x : Vec Ideal S256x4096 .f32) (g : Vec Ideal S1x4096 .f32) (r : Fin 256) (j : Fin 4096) :
    k0_pay1 (F := Ideal) x g (ix2 r j) = rms (x (ix2 r j)) (fun k => x (ix2 r k)) (g (ix2 0 j)) := by
  pointwise [k0_pay1, rms]

theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_at]
  refine rms_congr ?_ (fun k => ?_) ?_
  · blk_ext [iblk, V, idx t]
  · blk_ext [iblk, V, idx t]
  · blk_simp [iblk, idx t]
    entry_read
    pointwise
    blk_ext [idx t]

end Cert.Kernel14Ideal.Value

namespace Cert.Reference14Ideal.Value
open Cert.Reference14Ideal Cert.Reference14Ideal.Gen

theorem ref_eq (x : FVec Ideal S8192x4096 .f32) (g : FVec Ideal S4096 .f32) :
    mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))
    = Cert.Kernel14Ideal.Value.out x g := by
  funext i
  pointwise [Cert.Kernel14Ideal.Value.out, rms]

end Cert.Reference14Ideal.Value

namespace Cert.Proof

theorem frame_last_p_ref : Cert.quiescent_Reference14Ideal :=
  fun m g _ => (θ_run Cert.Reference14Ideal.defs _ _).mono (fun r h => ⟨fun c => (h c).2,
    Idealize.ShloMosaic.sem_eq_zero_of_no_sems (by decide) r.2⟩) (Cert.Reference14Ideal.Value.run m g)

theorem algebraic_last_p : Cert.algebraic_Kernel14Ideal_Reference14Ideal := by
  pair_intro
  · run_from Cert.Kernel14Ideal.Gen.run_main m g
  · run_from Cert.Reference14Ideal.Value.run m' g'
    exact (Cert.Reference14Ideal.Value.ref_eq _ _).trans (Cert.Kernel14Ideal.Value.final m c).symm

end Cert.Proof

end
-- ==== Proof.NormLastSample.lean ====
module

public import proofs.«01_k».proof.Defs
public import proofs.«01_k».proof.Proof.Gen.Kernel15Ideal.Frame
public import proofs.«01_k».proof.Proof.Gen.Reference15Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel15Ideal.Value
open Cert.Kernel15Ideal Cert.Kernel15Ideal.Gen

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- every row normalised -/
def out (x : S32x4096.Idx → EReal) (g : S4096.Idx → EReal) : S32x4096.Idx → EReal :=
  fun i => rms (x (ix2 (i 0) (i 1))) (fun k => x (ix2 (i 0) k)) (g (ix1 (i 1)))

theorem pay_at (x : Vec Ideal S32x4096 .f32) (g : Vec Ideal S1x4096 .f32) (r : Fin 32) (j : Fin 4096) :
    k0_pay1 (F := Ideal) x g (ix2 r j) = rms (x (ix2 r j)) (fun k => x (ix2 r k)) (g (ix2 0 j)) := by
  pointwise [k0_pay1, rms]

theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_at]
  refine rms_congr ?_ (fun k => ?_) ?_
  · blk_ext [iblk, V, idx t]
  · blk_ext [iblk, V, idx t]
  · blk_simp [iblk, idx t]
    entry_read
    pointwise
    blk_ext [idx t]

end Cert.Kernel15Ideal.Value

namespace Cert.Reference15Ideal.Value
open Cert.Reference15Ideal Cert.Reference15Ideal.Gen

theorem ref_eq (x : FVec Ideal S32x4096 .f32) (g : FVec Ideal S4096 .f32) :
    mulf (mulf x (broadcastInDim S32x4096 ![0, 1] bcast_S32x1_S32x4096_0_1 (Host.rsqrt (addf (Host.divf (broadcastInDim S32x1 ![0] bcast_S32_S32x1_0 (Host.reduceAdd (mulf x x) (constant S_ .f32 0x00000000#32) reducesTo_S32x4096_S32_d1 h_S_)) (broadcastInDim S32x1 ![] bcast_S_S32x1 (constant S_ .f32 0x45800000#32))) (broadcastInDim S32x1 ![] bcast_S_S32x1 (constant S_ .f32 0x358637BD#32)))))) (broadcastInDim S32x4096 ![0, 1] bcast_S1x4096_S32x4096_0_1 (broadcastInDim S1x4096 ![1] bcast_S4096_S1x4096_1 g))
    = Cert.Kernel15Ideal.Value.out x g := by
  funext i
  pointwise [Cert.Kernel15Ideal.Value.out, rms]

end Cert.Reference15Ideal.Value

namespace Cert.Proof

theorem frame_last_s_ref : Cert.quiescent_Reference15Ideal :=
  fun m g _ => (θ_run Cert.Reference15Ideal.defs _ _).mono (fun r h => ⟨fun c => (h c).2,
    Idealize.ShloMosaic.sem_eq_zero_of_no_sems (by decide) r.2⟩) (Cert.Reference15Ideal.Value.run m g)

theorem algebraic_last_s : Cert.algebraic_Kernel15Ideal_Reference15Ideal := by
  pair_intro
  · run_from Cert.Kernel15Ideal.Gen.run_main m g
  · run_from Cert.Reference15Ideal.Value.run m' g'
    exact (Cert.Reference15Ideal.Value.ref_eq _ _).trans (Cert.Kernel15Ideal.Value.final m c).symm

end Cert.Proof

end
-- ==== Proof.NormPrompt.lean ====
module

public import proofs.«01_k».proof.Defs
public import proofs.«01_k».proof.Proof.Gen.Kernel16Ideal.Frame
public import proofs.«01_k».proof.Proof.Gen.Reference16Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel16Ideal.Value
open Cert.Kernel16Ideal Cert.Kernel16Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- every row normalised -/
def out (x : S8192x4096.Idx → EReal) (g : S1x4096.Idx → EReal) : S8192x4096.Idx → EReal :=
  fun i => rms (x (ix2 (i 0) (i 1))) (fun k => x (ix2 (i 0) k)) (g (ix2 0 (i 1)))

theorem pay_at (x : Vec Ideal S256x4096 .f32) (g : Vec Ideal S1x4096 .f32) (r : Fin 256) (j : Fin 4096) :
    k0_pay1 (F := Ideal) x g (ix2 r j) = rms (x (ix2 r j)) (fun k => x (ix2 r k)) (g (ix2 0 j)) := by
  pointwise [k0_pay1, rms]

theorem x_eq (c : Dev nD) : V m c main_v0 = shapeCast S8192x4096 (m ((c : Thread nD τ).loc main_arg0)) shapeCasts_S4x2048x4096_S8192x4096 := by
  show StableHlo.after hostOps0 (fun b => m (c, b)) main_v0 = _
  after_results <;> rfl

theorem final (c : Dev nD) : (dats m 0 c).arrAt 2 (cfgs 0).N
    = out (shapeCast S8192x4096 (m ((c : Thread nD τ).loc main_arg0)) shapeCasts_S4x2048x4096_S8192x4096) (m ((c : Thread nD τ).loc main_arg1)) := by
  refine (dats m 0 c).arrAt_eq_of_covers 2 _ (by decide +kernel) fun t hf y => ?_
  rw [← x_eq m c]
  blk_simp
  rw [after0_2]
  frame_out
  idx_vars y
  rw [pay_at]
  refine rms_congr ?_ (fun k => ?_) ?_
  · blk_ext [iblk, idx t]
  · blk_ext [iblk, idx t]
  · blk_simp [iblk, idx t]
    entry_read
    pointwise
    blk_ext [idx t]

end Cert.Kernel16Ideal.Value

namespace Cert.Reference16Ideal.Value
open Cert.Reference16Ideal Cert.Reference16Ideal.Gen

theorem ref_eq (x : FVec Ideal S4x2048x4096 .f32) (g : FVec Ideal S1x4096 .f32) :
    truncf .bf16 (shapeCast S8192x4096 (mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 g shapeCasts_S1x4096_S4096)))) shapeCasts_S4x2048x4096_S8192x4096) bitsLt_bf16_f32
    = Cert.Kernel16Ideal.Value.out (shapeCast S8192x4096 x shapeCasts_S4x2048x4096_S8192x4096) g := by
  funext i
  pointwise [Cert.Kernel16Ideal.Value.out, rms]

end Cert.Reference16Ideal.Value

namespace Cert.Proof

theorem frame_norm_p_ref : Cert.quiescent_Reference16Ideal :=
  fun m g _ => (θ_run Cert.Reference16Ideal.defs _ _).mono (fun r h => ⟨fun c => (h c).2,
    Idealize.ShloMosaic.sem_eq_zero_of_no_sems (by decide) r.2⟩) (Cert.Reference16Ideal.Value.run m g)

theorem algebraic_norm_p : Cert.algebraic_Kernel16Ideal_Reference16Ideal := by
  pair_intro
  · run_from Cert.Kernel16Ideal.Gen.run_main m g
  · run_from Cert.Reference16Ideal.Value.run m' g'
    exact (Cert.Reference16Ideal.Value.ref_eq _ _).trans (Cert.Kernel16Ideal.Value.final m c).symm

end Cert.Proof

end
-- ==== Proof.NormSample.lean ====
module

public import proofs.«01_k».proof.Defs
public import proofs.«01_k».proof.Proof.Gen.Kernel17Ideal.Frame
public import proofs.«01_k».proof.Proof.Gen.Reference17Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

namespace Cert.Kernel17Ideal.Value
open Cert.Kernel17Ideal Cert.Kernel17Ideal.Gen

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- every row normalised -/
def out (x : S32x4096.Idx → EReal) (g : S1x4096.Idx → EReal) : S32x4096.Idx → EReal :=
  fun i => rms (x (ix2 (i 0) (i 1))) (fun k => x (ix2 (i 0) k)) (g (ix2 0 (i 1)))

theorem pay_at (x : Vec Ideal S32x4096 .f32) (g : Vec Ideal S1x4096 .f32) (r : Fin 32) (j : Fin 4096) :
    k0_pay1 (F := Ideal) x g (ix2 r j) = rms (x (ix2 r j)) (fun k => x (ix2 r k)) (g (ix2 0 j)) := by
  pointwise [k0_pay1, rms]

theorem x_eq (c : Dev nD) : V m c main_v0 = shapeCast S32x4096 (m ((c : Thread nD τ).loc main_arg0)) shapeCasts_S32x1x4096_S32x4096 := by
  show StableHlo.after hostOps0 (fun b => m (c, b)) main_v0 = _
  after_results <;> rfl

theorem final (c : Dev nD) : (dats m 0 c).arrAt 2 (cfgs 0).N
    = out (shapeCast S32x4096 (m ((c : Thread nD τ).loc main_arg0)) shapeCasts_S32x1x4096_S32x4096) (m ((c : Thread nD τ).loc main_arg1)) := by
  refine (dats m 0 c).arrAt_eq_of_covers 2 _ (by decide +kernel) fun t hf y => ?_
  rw [← x_eq m c]
  blk_simp
  rw [after0_2]
  frame_out
  idx_vars y
  rw [pay_at]
  refine rms_congr ?_ (fun k => ?_) ?_
  · blk_ext [iblk, idx t]
  · blk_ext [iblk, idx t]
  · blk_simp [iblk, idx t]
    entry_read
    pointwise
    blk_ext [idx t]

end Cert.Kernel17Ideal.Value

namespace Cert.Reference17Ideal.Value
open Cert.Reference17Ideal Cert.Reference17Ideal.Gen

theorem ref_eq (x : FVec Ideal S32x1x4096 .f32) (g : FVec Ideal S1x4096 .f32) :
    truncf .bf16 (shapeCast S32x4096 (mulf (mulf x (broadcastInDim S32x1x4096 ![0, 1, 2] bcast_S32x1x1_S32x1x4096_0_1_2 (Host.rsqrt (addf (Host.divf (broadcastInDim S32x1x1 ![0, 1] bcast_S32x1_S32x1x1_0_1 (Host.reduceAdd (mulf x x) (constant S_ .f32 0x00000000#32) reducesTo_S32x1x4096_S32x1_d2 h_S_)) (broadcastInDim S32x1x1 ![] bcast_S_S32x1x1 (constant S_ .f32 0x45800000#32))) (broadcastInDim S32x1x1 ![] bcast_S_S32x1x1 (constant S_ .f32 0x358637BD#32)))))) (broadcastInDim S32x1x4096 ![0, 1, 2] bcast_S1x1x4096_S32x1x4096_0_1_2 (broadcastInDim S1x1x4096 ![2] bcast_S4096_S1x1x4096_2 (shapeCast S4096 g shapeCasts_S1x4096_S4096)))) shapeCasts_S32x1x4096_S32x4096) bitsLt_bf16_f32
    = Cert.Kernel17Ideal.Value.out (shapeCast S32x4096 x shapeCasts_S32x1x4096_S32x4096) g := by
  funext i
  pointwise [Cert.Kernel17Ideal.Value.out, rms]

end Cert.Reference17Ideal.Value

namespace Cert.Proof

theorem frame_norm_s_ref : Cert.quiescent_Reference17Ideal :=
  fun m g _ => (θ_run Cert.Reference17Ideal.defs _ _).mono (fun r h => ⟨fun c => (h c).2,
    Idealize.ShloMosaic.sem_eq_zero_of_no_sems (by decide) r.2⟩) (Cert.Reference17Ideal.Value.run m g)

theorem algebraic_norm_s : Cert.algebraic_Kernel17Ideal_Reference17Ideal := by
  pair_intro
  · run_from Cert.Kernel17Ideal.Gen.run_main m g
  · run_from Cert.Reference17Ideal.Value.run m' g'
    exact (Cert.Reference17Ideal.Value.ref_eq _ _).trans (Cert.Kernel17Ideal.Value.final m c).symm

end Cert.Proof

end
-- ==== Proof.CompressParts.lean ====
module

public import proofs.«01_k».proof.Defs
public import proofs.«01_k».proof.Proof.Gen.Kernel18Ideal.Frame
public import proofs.«01_k».proof.Proof.Gen.Reference18Ideal.Run
public import proofs.«01_k».proof.Proof.Shared
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer

/-! The prompt's compressed keys and values before their last projection.  A sequence of 2048 positions is cut into 128
    stretches of 16; a token pools two neighbouring stretches, each position and column with a weight of its own. -/

namespace Cert.Kernel18Ideal.Value
open Cert.Kernel18Ideal Cert.Kernel18Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0, 0] ∧ win0_7.index t = ![t.val, 0, 0] :=
  (by decide +kernel : ∀ t : Fin grid0.N, _)

/-- a row of weights for every row of a tile -/
def wide (w : Vec Ideal S1x128 .f32) : FVec Ideal S128x128 .f32 :=
  broadcastTo S128x128 (shapeCast S1x128 w shapeCasts_S1x128_S1x128) broadcasts_S1x128_S128x128

theorem wide_at (w : Vec Ideal S1x128 .f32) (n d : Fin 128) : wide w (ix2 n d) = w (ix2 0 d) := by
  unfold wide
  pointwise

/-- the weighted sum of the sixteen positions of every stretch -/
def acc (r : Fin 16 → Vec Ideal S128x128 .f32) (w : Fin 16 → Vec Ideal S1x128 .f32) : FVec Ideal S128x128 .f32 :=
  addf (addf (addf (addf (addf (addf (addf (addf (addf (addf (addf (addf (addf (addf (addf (mulf (r 0) (wide (w 0))) (mulf (r 1) (wide (w 1)))) (mulf (r 2) (wide (w 2)))) (mulf (r 3) (wide (w 3)))) (mulf (r 4) (wide (w 4)))) (mulf (r 5) (wide (w 5)))) (mulf (r 6) (wide (w 6)))) (mulf (r 7) (wide (w 7)))) (mulf (r 8) (wide (w 8)))) (mulf (r 9) (wide (w 9)))) (mulf (r 10) (wide (w 10)))) (mulf (r 11) (wide (w 11)))) (mulf (r 12) (wide (w 12)))) (mulf (r 13) (wide (w 13)))) (mulf (r 14) (wide (w 14)))) (mulf (r 15) (wide (w 15)))

theorem acc_at (r : Fin 16 → Vec Ideal S128x128 .f32) (w : Fin 16 → Vec Ideal S1x128 .f32) (n d : Fin 128) :
    acc r w (ix2 n d) = ∑ j : Fin 16, r j (ix2 n d) * w j (ix2 0 d) := by
  have e : ∀ (a b : FVec Ideal S128x128 .f32) (i : S128x128.Idx), addf a b i = (a i + b i : EReal) := fun _ _ _ => rfl
  have e' : ∀ (a b : FVec Ideal S128x128 .f32) (i : S128x128.Idx), mulf a b i = (a i * b i : EReal) := fun _ _ _ => rfl
  unfold acc
  simp only [e, e', wide_at, Fin.sum_univ_castSucc, Fin.sum_univ_zero, zero_add]
  rfl

/-- the stretch before, the last one standing before the first -/
def before (n : Fin 128) : Fin 128 := ⟨(n.val + 128 - 1) % 128, Nat.mod_lt _ (by decide)⟩

/-- silu -/
def silu (z : EReal) : EReal := z * logis z

/-- the tile of one head: first halves one stretch back, second halves, bias, then silu -/
def tile (f s : FVec Ideal S128x128 .f32) (b : Vec Ideal S1x128 .f32) : FVec Ideal S1x128x128 .f32 :=
  k0_pay1 (addf (addf (dynamicRotate 0 1#32 none f rotates_S128x128_d0) s) (wide b)) (broadcast S128x128 (Scalar.ofBits .f32 0x3F000000#32))

theorem tile_at (f s : FVec Ideal S128x128 .f32) (b : Vec Ideal S1x128 .f32) (n d : Fin 128) :
    tile f s b (ix3 0 n d) = silu (f (ix2 (before n) d) + s (ix2 n d) + b (ix2 0 d)) := by
  rw [silu, ← half_tanh]
  unfold tile wide
  pointwise [k0_pay1]
  rfl

theorem strip_inb (o : ℕ) (h : o < 64) : ∀ a, S128x128.size a = 0 ∨ (![o, 0] : Fin 2 → Nat) a + (![64, 1] : Fin 2 → Nat) a * (S128x128.size a - 1) < S8192x128.size a := by
  intro a
  fin_cases a
  · right; show o + 64 * 127 < 8192; omega
  · right; show 0 + 1 * 127 < 128; omega

/-- the rows `4 j + g`, then every sixty-fourth -/
def strip (v : Memref sig .tc .vmem S8192x128 .f32) (hv : v.IsWhole) (x : Vec Ideal S8192x128 .f32) (g : Fin 4) (j : Fin 16) :
    Vec Ideal S128x128 .f32 :=
  View.readAt (Elt Ideal) v.view ⟨![4 * j.val + g.val, 0], S128x128.size, ![64, 1], strip_inb _ (by omega)⟩ (hv.unread x)

theorem strip_at (v : Memref sig .tc .vmem S8192x128 .f32) (hv : v.IsWhole) (x : Vec Ideal S8192x128 .f32) (g : Fin 4) (j : Fin 16)
    (n d : Fin 128) : strip v hv x g j (ix2 n d) = x (ix2 ⟨64 * n.val + 4 * j.val + g.val, by omega⟩ d) := by
  unfold strip
  rw [View.readAt_apply, hv.read_unread]
  refine congrArg x (funext fun a => Fin.ext ?_)
  fin_cases a
  · show 4 * j.val + g.val + 64 * n.val = 64 * n.val + 4 * j.val + g.val
    omega
  · show 0 + 1 * d.val = d.val
    omega

theorem row_inb (k : Fin 32) : ∀ a, (![k.val, 0] : Fin 2 → Nat) a + S1x128.size a ≤ S32x128.size a := by
  intro a
  fin_cases a
  · show k.val + 1 ≤ 32; omega
  · show 0 + 128 ≤ 128; omega

/-- one row of weights -/
def wrow (w : Vec Ideal S32x128 .f32) (k : Fin 32) : Vec Ideal S1x128 .f32 :=
  View.ld (Val := Elt Ideal) (e' := .f32) w (Rect.unit ![k.val, 0] S1x128.size (row_inb k))

theorem wrow_at (w : Vec Ideal S32x128 .f32) (k : Fin 32) (d : Fin 128) : wrow w k (ix2 0 d) = w (ix2 k d) := by
  unfold wrow
  pointwise
  blk_ext

/-- a position of the first and of the second stretch of a token -/
def fst (j : Fin 16) : Fin 32 := ⟨j.val, by omega⟩
def snd (j : Fin 16) : Fin 32 := ⟨16 + j.val, by omega⟩

/-- One entry of a pooled tile: head `g`, stretch `n`, column `d`. -/
def pooled (x : Vec Ideal S8192x128 .f32) (w : Vec Ideal S32x128 .f32) (b : Vec Ideal S1x128 .f32) (g : Fin 4) (n d : Fin 128) : EReal :=
  silu ((∑ j : Fin 16, x (ix2 ⟨64 * (before n).val + 4 * j.val + g.val, by have := (before n).isLt; omega⟩ d) * w (ix2 (fst j) d))
    + (∑ j : Fin 16, x (ix2 ⟨64 * n.val + 4 * j.val + g.val, by omega⟩ d) * w (ix2 (snd j) d)) + b (ix2 0 d))

theorem head_at (v : Memref sig .tc .vmem S8192x128 .f32) (hv : v.IsWhole) (x : Vec Ideal S8192x128 .f32) (w : Vec Ideal S32x128 .f32)
    (b : Vec Ideal S1x128 .f32) (g : Fin 4) (n d : Fin 128) :
    tile (acc (strip v hv x g) (fun j => wrow w (fst j))) (acc (strip v hv x g) (fun j => wrow w (snd j))) b (ix3 0 n d)
      = pooled x w b g n d := by
  rw [tile_at, acc_at, acc_at]
  simp only [strip_at, wrow_at]
  rfl

theorem col_lt (g : Fin 4) (j : Fin 128) : 128 * g.val + j.val < 512 := by omega

theorem pooled_col (x : Vec Ideal S8192x128 .f32) (w : Vec Ideal S32x128 .f32) (b : Vec Ideal S1x128 .f32) (g : Fin 4) (n d : Fin 128) :
    pooled x w b g n d = pooled x w b ⟨(128 * g.val + d.val) / 128, by omega⟩ n ⟨(128 * g.val + d.val) % 128, by omega⟩ := by
  have h1 : (⟨(128 * g.val + d.val) / 128, by omega⟩ : Fin 4) = g := Fin.ext (by dsimp only; omega)
  have h2 : (⟨(128 * g.val + d.val) % 128, by omega⟩ : Fin 128) = d := Fin.ext (by dsimp only; omega)
  rw [h1, h2]

set_option maxHeartbeats 2000000 in
theorem out6 (c : Dev nD) (t : Fin cfg0.N) (n : Fin 128) (q : Fin 512) :
    (outsAt0 m c t).1 (ix3 0 n q) = pooled (iblk m c 0 t) (iblk m c 2 t) (iblk m c 3 t) ⟨q.val / 128, by omega⟩ n ⟨q.val % 128, by omega⟩ := by
  unfold outsAt0
  frame_out
  canon_tiles z h
  · idx_vars z
    change n.val = z1.val at h1
    change q.val = 384 + z2.val at h2
    obtain rfl : n = z1 := Fin.ext h1
    obtain rfl : q = ⟨128 * (3 : Fin 4).val + z2.val, col_lt 3 z2⟩ := Fin.ext (h2)
    obtain rfl : z0 = 0 := Subsingleton.elim _ _
    exact (head_at (ms0_0 t) (hs0_0 t) (iblk m c 0 t) (iblk m c 2 t) (iblk m c 3 t) 3 n z2).trans (pooled_col _ _ _ 3 n z2)
  · idx_vars z
    change n.val = z1.val at h1
    change q.val = 256 + z2.val at h2
    obtain rfl : n = z1 := Fin.ext h1
    obtain rfl : q = ⟨128 * (2 : Fin 4).val + z2.val, col_lt 2 z2⟩ := Fin.ext (h2)
    obtain rfl : z0 = 0 := Subsingleton.elim _ _
    exact (head_at (ms0_0 t) (hs0_0 t) (iblk m c 0 t) (iblk m c 2 t) (iblk m c 3 t) 2 n z2).trans (pooled_col _ _ _ 2 n z2)
  · idx_vars z
    change n.val = z1.val at h1
    change q.val = 128 + z2.val at h2
    obtain rfl : n = z1 := Fin.ext h1
    obtain rfl : q = ⟨128 * (1 : Fin 4).val + z2.val, col_lt 1 z2⟩ := Fin.ext (h2)
    obtain rfl : z0 = 0 := Subsingleton.elim _ _
    exact (head_at (ms0_0 t) (hs0_0 t) (iblk m c 0 t) (iblk m c 2 t) (iblk m c 3 t) 1 n z2).trans (pooled_col _ _ _ 1 n z2)
  · idx_vars z
    change n.val = z1.val at h1
    change q.val = z2.val at h2
    obtain rfl : n = z1 := Fin.ext h1
    obtain rfl : q = ⟨128 * (0 : Fin 4).val + z2.val, col_lt 0 z2⟩ := Fin.ext (h2.trans (Nat.zero_add _).symm)
    obtain rfl : z0 = 0 := Subsingleton.elim _ _
    exact (head_at (ms0_0 t) (hs0_0 t) (iblk m c 0 t) (iblk m c 2 t) (iblk m c 3 t) 0 n z2).trans (pooled_col _ _ _ 0 n z2)

set_option maxHeartbeats 2000000 in
theorem out7 (c : Dev nD) (t : Fin cfg0.N) (n : Fin 128) (q : Fin 512) :
    (outsAt0 m c t).2 (ix3 0 n q) = pooled (iblk m c 1 t) (iblk m c 4 t) (iblk m c 5 t) ⟨q.val / 128, by omega⟩ n ⟨q.val % 128, by omega⟩ := by
  unfold outsAt0
  frame_out
  canon_tiles z h
  · idx_vars z
    change n.val = z1.val at h1
    change q.val = 384 + z2.val at h2
    obtain rfl : n = z1 := Fin.ext h1
    obtain rfl : q = ⟨128 * (3 : Fin 4).val + z2.val, col_lt 3 z2⟩ := Fin.ext (h2)
    obtain rfl : z0 = 0 := Subsingleton.elim _ _
    exact (head_at (ms0_1 t) (hs0_1 t) (iblk m c 1 t) (iblk m c 4 t) (iblk m c 5 t) 3 n z2).trans (pooled_col _ _ _ 3 n z2)
  · idx_vars z
    change n.val = z1.val at h1
    change q.val = 256 + z2.val at h2
    obtain rfl : n = z1 := Fin.ext h1
    obtain rfl : q = ⟨128 * (2 : Fin 4).val + z2.val, col_lt 2 z2⟩ := Fin.ext (h2)
    obtain rfl : z0 = 0 := Subsingleton.elim _ _
    exact (head_at (ms0_1 t) (hs0_1 t) (iblk m c 1 t) (iblk m c 4 t) (iblk m c 5 t) 2 n z2).trans (pooled_col _ _ _ 2 n z2)
  · idx_vars z
    change n.val = z1.val at h1
    change q.val = 128 + z2.val at h2
    obtain rfl : n = z1 := Fin.ext h1
    obtain rfl : q = ⟨128 * (1 : Fin 4).val + z2.val, col_lt 1 z2⟩ := Fin.ext (h2)
    obtain rfl : z0 = 0 := Subsingleton.elim _ _
    exact (head_at (ms0_1 t) (hs0_1 t) (iblk m c 1 t) (iblk m c 4 t) (iblk m c 5 t) 1 n z2).trans (pooled_col _ _ _ 1 n z2)
  · idx_vars z
    change n.val = z1.val at h1
    change q.val = z2.val at h2
    obtain rfl : n = z1 := Fin.ext h1
    obtain rfl : q = ⟨128 * (0 : Fin 4).val + z2.val, col_lt 0 z2⟩ := Fin.ext (h2.trans (Nat.zero_add _).symm)
    obtain rfl : z0 = 0 := Subsingleton.elim _ _
    exact (head_at (ms0_1 t) (hs0_1 t) (iblk m c 1 t) (iblk m c 4 t) (iblk m c 5 t) 0 n z2).trans (pooled_col _ _ _ 0 n z2)

/-- The pooled row of a token: sequence `i 0`, stretch `i 1`, head `i 2 / 128`, column `i 2 % 128`. -/
def out (K : S32768x128.Idx → EReal) (P : S1x32x128.Idx → EReal) (B : S1x128.Idx → EReal) (s : Fin 4) (n : Fin 128) (g : Fin 4) (d : Fin 128) : EReal :=
  silu ((∑ j : Fin 16, K (ix2 ⟨8192 * s.val + (64 * (before n).val + 4 * j.val + g.val), by have := (before n).isLt; omega⟩ d) * P (ix3 0 (fst j) d))
    + (∑ j : Fin 16, K (ix2 ⟨8192 * s.val + (64 * n.val + 4 * j.val + g.val), by omega⟩ d) * P (ix3 0 (snd j) d)) + B (ix2 0 d))

/-- The whole array of pooled rows. -/
def outs (K : S32768x128.Idx → EReal) (P : S1x32x128.Idx → EReal) (B : S1x128.Idx → EReal) : S4x128x512.Idx → EReal :=
  fun i => out K P B (i 0) (i 1) ⟨(i 2).val / 128, by have h : (i 2).val < 512 := (i 2).isLt; omega⟩ ⟨(i 2).val % 128, Nat.mod_lt _ (by decide)⟩

theorem row_lt (t : Fin cfg0.N) (r : Fin 8192) : 8192 * t.val + r.val < 32768 := by
  have ht : t.val < 4 := t.isLt
  omega

theorem x0_at (c : Dev nD) (t : Fin cfg0.N) (r : Fin 8192) (d : Fin 128) :
    iblk m c 0 t (ix2 r d) = m ((c : Thread nD τ).loc main_arg0) (ix2 ⟨8192 * t.val + r.val, row_lt t r⟩ d) := by
  blk_simp [iblk, idx t]
  blk_ext [V, idx t]

theorem x2_at (c : Dev nD) (t : Fin cfg0.N) (k : Fin 32) (d : Fin 128) :
    iblk m c 2 t (ix2 k d) = m ((c : Thread nD τ).loc main_arg2) (ix3 0 k d) := by
  blk_simp [iblk, idx t]
  entry_read
  pointwise
  blk_ext [idx t]

theorem x3_at (c : Dev nD) (t : Fin cfg0.N) (d : Fin 128) :
    iblk m c 3 t (ix2 0 d) = m ((c : Thread nD τ).loc main_arg3) (ix2 0 d) := by
  blk_simp [iblk, idx t]
  entry_read
  pointwise
  blk_ext [idx t]

theorem final6 (c : Dev nD) : (dats m 0 c).arrAt 6 (cfgs 0).N
    = outs (m ((c : Thread nD τ).loc main_arg0)) (m ((c : Thread nD τ).loc main_arg2)) (m ((c : Thread nD τ).loc main_arg3)) := by
  generalize hf : outs (m ((c : Thread nD τ).loc main_arg0)) (m ((c : Thread nD τ).loc main_arg2)) (m ((c : Thread nD τ).loc main_arg3)) = f
  refine (dats m 0 c).arrAt_eq_of_covers 6 _ (by decide +kernel) fun t _ y => ?_
  rw [after0_6]
  idx_vars y
  obtain rfl : y0 = 0 := Subsingleton.elim _ _
  refine (out6 m c t y1 y2).trans (Eq.trans (b := f (ix3 ⟨t.val, t.isLt⟩ y1 y2)) ?_ ?_)
  · rw [← hf]
    unfold pooled
    simp only [x0_at, x2_at, x3_at]
    rfl
  · blk_ext [idx t]

theorem x1_at (c : Dev nD) (t : Fin cfg0.N) (r : Fin 8192) (d : Fin 128) :
    iblk m c 1 t (ix2 r d) = m ((c : Thread nD τ).loc main_arg1) (ix2 ⟨8192 * t.val + r.val, row_lt t r⟩ d) := by
  blk_simp [iblk, idx t]
  blk_ext [V, idx t]

theorem x4_at (c : Dev nD) (t : Fin cfg0.N) (k : Fin 32) (d : Fin 128) :
    iblk m c 4 t (ix2 k d) = m ((c : Thread nD τ).loc main_arg4) (ix3 0 k d) := by
  blk_simp [iblk, idx t]
  entry_read
  pointwise
  blk_ext [idx t]

theorem x5_at (c : Dev nD) (t : Fin cfg0.N) (d : Fin 128) :
    iblk m c 5 t (ix2 0 d) = m ((c : Thread nD τ).loc main_arg5) (ix2 0 d) := by
  blk_simp [iblk, idx t]
  entry_read
  pointwise
  blk_ext [idx t]

theorem final7 (c : Dev nD) : (dats m 0 c).arrAt 7 (cfgs 0).N
    = outs (m ((c : Thread nD τ).loc main_arg1)) (m ((c : Thread nD τ).loc main_arg4)) (m ((c : Thread nD τ).loc main_arg5)) := by
  generalize hf : outs (m ((c : Thread nD τ).loc main_arg1)) (m ((c : Thread nD τ).loc main_arg4)) (m ((c : Thread nD τ).loc main_arg5)) = f
  refine (dats m 0 c).arrAt_eq_of_covers 7 _ (by decide +kernel) fun t _ y => ?_
  rw [after0_7]
  idx_vars y
  obtain rfl : y0 = 0 := Subsingleton.elim _ _
  refine (out7 m c t y1 y2).trans (Eq.trans (b := f (ix3 ⟨t.val, t.isLt⟩ y1 y2)) ?_ ?_)
  · rw [← hf]
    unfold pooled
    simp only [x1_at, x4_at, x5_at]
    rfl
  · blk_ext [idx t]

end Cert.Kernel18Ideal.Value

namespace Cert.Reference18Ideal.Value
open Cert.Reference18Ideal Cert.Reference18Ideal.Gen

/-- the weighted sums of every stretch, with the first or the second half of the weights -/
def first (P : FVec Ideal S1x32x128 .f32) (K : FVec Ideal S32768x128 .f32) : FVec Ideal S4x128x4x128 .f32 :=
  transpose S4x128x4x128 [1, 2, 3, 0] (Host.dotGeneral dot_S16x128_S4x128x16x4x128_S128x4x128x4_0_2_n_013_1_4 none (extractStridedSlice S16x128 ![0, 0] (shapeCast _ P shapeCasts_S1x32x128_S32x128) slices_S32x128_S16x128_0_0) (shapeCast _ K shapeCasts_S32768x128_S4x128x16x4x128)) transposes_S128x4x128x4_S4x128x4x128_1_2_3_0

def second (P : FVec Ideal S1x32x128 .f32) (K : FVec Ideal S32768x128 .f32) : FVec Ideal S4x128x4x128 .f32 :=
  transpose S4x128x4x128 [1, 2, 3, 0] (Host.dotGeneral dot_S16x128_S4x128x16x4x128_S128x4x128x4_0_2_n_013_1_4 none (extractStridedSlice S16x128 ![16, 0] (shapeCast _ P shapeCasts_S1x32x128_S32x128) slices_S32x128_S16x128_16_0) (shapeCast _ K shapeCasts_S32768x128_S4x128x16x4x128)) transposes_S128x4x128x4_S4x128x4x128_1_2_3_0

/-- one stretch back -/
def shifted (f : FVec Ideal S4x128x4x128 .f32) : FVec Ideal S4x128x4x128 .f32 :=
  concatenate S4x128x4x128 1 [⟨S4x1x4x128, (extractStridedSlice S4x1x4x128 ![0, 127, 0, 0] f slices_S4x128x4x128_S4x1x4x128_0_127_0_0)⟩, ⟨S4x127x4x128, (extractStridedSlice S4x127x4x128 ![0, 0, 0, 0] f slices_S4x128x4x128_S4x127x4x128_0_0_0_0)⟩] concatenates_S4x1x4x128_S4x127x4x128_S4x128x4x128_d1

/-- the sum with the bias -/
def total (f s : FVec Ideal S4x128x4x128 .f32) (B : FVec Ideal S1x128 .f32) : FVec Ideal S4x128x4x128 .f32 :=
  addf (addf f s) (broadcastInDim S4x128x4x128 ![0, 1, 2, 3] bcast_S1x1x1x128_S4x128x4x128_0_1_2_3 (broadcastInDim S1x1x1x128 ![3] bcast_S128_S1x1x1x128_3 (shapeCast _ B shapeCasts_S1x128_S128)))

/-- silu, and the heads side by side -/
def act (z : FVec Ideal S4x128x4x128 .f32) : FVec Ideal S4x128x512 .f32 :=
  shapeCast _ (mulf z (Host.divf (broadcastInDim S4x128x4x128 ![] bcast_S_S4x128x4x128 (constant S_ .f32 0x3F800000#32)) (addf (broadcastInDim S4x128x4x128 ![] bcast_S_S4x128x4x128 (constant S_ .f32 0x3F800000#32)) (Host.exp (Host.negf z))))) shapeCasts_S4x128x4x128_S4x128x512

theorem first_at (P : FVec Ideal S1x32x128 .f32) (K : FVec Ideal S32768x128 .f32) (s : Fin 4) (n : Fin 128) (g : Fin 4) (d : Fin 128) :
    first P K (ix4 s n g d) = ∑ j : Fin 16, K (ix2 ⟨8192 * s.val + (64 * n.val + 4 * j.val + g.val), by omega⟩ d) * P (ix3 0 (Cert.Kernel18Ideal.Value.fst j) d) := by
  unfold first
  pointwise
  refine Finset.sum_congr rfl fun j _ => (mul_comm _ _).trans (Ideal.mul_congr ?_ ?_)
  · blk_ext
  · rfl

theorem second_at (P : FVec Ideal S1x32x128 .f32) (K : FVec Ideal S32768x128 .f32) (s : Fin 4) (n : Fin 128) (g : Fin 4) (d : Fin 128) :
    second P K (ix4 s n g d) = ∑ j : Fin 16, K (ix2 ⟨8192 * s.val + (64 * n.val + 4 * j.val + g.val), by omega⟩ d) * P (ix3 0 (Cert.Kernel18Ideal.Value.snd j) d) := by
  unfold second
  pointwise
  refine Finset.sum_congr rfl fun j _ => (mul_comm _ _).trans (Ideal.mul_congr ?_ ?_)
  · blk_ext
  · rfl

theorem shifted_at (f : FVec Ideal S4x128x4x128 .f32) (s : Fin 4) (n : Fin 128) (g : Fin 4) (d : Fin 128) :
    shifted f (ix4 s n g d) = f (ix4 s (Cert.Kernel18Ideal.Value.before n) g d) := by
  unfold shifted Cert.Kernel18Ideal.Value.before
  pointwise
  split_ifs
  · blk_ext
  · blk_ext
  · exact absurd rfl (by assumption)

theorem total_at (f s : FVec Ideal S4x128x4x128 .f32) (B : FVec Ideal S1x128 .f32) (a : Fin 4) (n : Fin 128) (g : Fin 4) (d : Fin 128) :
    total f s B (ix4 a n g d) = f (ix4 a n g d) + s (ix4 a n g d) + B (ix2 0 d) := by
  unfold total
  pointwise

theorem act_at (z : FVec Ideal S4x128x4x128 .f32) (a : Fin 4) (n : Fin 128) (q : Fin 512) :
    act z (ix3 a n q) = Cert.Kernel18Ideal.Value.silu (z (ix4 a n ⟨q.val / 128, by omega⟩ ⟨q.val % 128, Nat.mod_lt _ (by decide)⟩)) := by
  unfold act Cert.Kernel18Ideal.Value.silu logis
  pointwise

theorem ref_eq (K : FVec Ideal S32768x128 .f32) (P : FVec Ideal S1x32x128 .f32) (B : FVec Ideal S1x128 .f32) :
    act (total (shifted (first P K)) (second P K) B) = Cert.Kernel18Ideal.Value.outs K P B := by
  funext i
  idx_vars i
  rw [act_at, total_at, shifted_at, first_at, second_at]
  rfl

end Cert.Reference18Ideal.Value

end
-- ==== Proof.Compress.lean ====
module

public import proofs.«01_k».proof.Defs
public import proofs.«01_k».proof.Proof.Gen.Kernel18Ideal.Frame
public import proofs.«01_k».proof.Proof.Gen.Reference18Ideal.Run
public import proofs.«01_k».proof.Proof.CompressParts
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Layer
open Cert.Reference18Ideal.Value (act total shifted first second ref_eq)

/-! The prompt's pooled rows: the call against its reference.  Each result is named by its parts, whose arrays are then
    brought to the same memory. -/

namespace Cert.Proof

theorem frame_cmp_ref : Cert.quiescent_Reference18Ideal :=
  fun m g _ => (θ_run Cert.Reference18Ideal.defs _ _).mono (fun r h => ⟨fun c => (h c).2.2,
    Idealize.ShloMosaic.sem_eq_zero_of_no_sems (by decide) r.2⟩) (Cert.Reference18Ideal.Value.run m g)

theorem algebraic_cmp : Cert.algebraic_Kernel18Ideal_Reference18Ideal := by
  pair_intro
  · run_from Cert.Kernel18Ideal.Gen.run_main m g
  · run_from Cert.Reference18Ideal.Value.run m' g'
    · refine Eq.trans (b := act (total
        (shifted (first (m' ((c : Thread Cert.Reference18Ideal.nD Cert.Reference18Ideal.τ).loc Cert.Reference18Ideal.main_arg2))
          (m ((c : Thread Cert.Kernel18Ideal.nD Cert.Kernel18Ideal.τ).loc Cert.Kernel18Ideal.main_arg0))))
        (second (m ((c : Thread Cert.Kernel18Ideal.nD Cert.Kernel18Ideal.τ).loc Cert.Kernel18Ideal.main_arg2))
          (m ((c : Thread Cert.Kernel18Ideal.nD Cert.Kernel18Ideal.τ).loc Cert.Kernel18Ideal.main_arg0)))
        (m ((c : Thread Cert.Kernel18Ideal.nD Cert.Kernel18Ideal.τ).loc Cert.Kernel18Ideal.main_arg3)))) rfl ?_
      simp only [hagree c]
      exact (ref_eq _ _ _).trans (Cert.Kernel18Ideal.Value.final6 m c).symm
    · refine Eq.trans (b := act (total
        (shifted (first (m' ((c : Thread Cert.Reference18Ideal.nD Cert.Reference18Ideal.τ).loc Cert.Reference18Ideal.main_arg4))
          (m' ((c : Thread Cert.Reference18Ideal.nD Cert.Reference18Ideal.τ).loc Cert.Reference18Ideal.main_arg1))))
        (second (m ((c : Thread Cert.Kernel18Ideal.nD Cert.Kernel18Ideal.τ).loc Cert.Kernel18Ideal.main_arg4))
          (m ((c : Thread Cert.Kernel18Ideal.nD Cert.Kernel18Ideal.τ).loc Cert.Kernel18Ideal.main_arg1)))
        (m ((c : Thread Cert.Kernel18Ideal.nD Cert.Kernel18Ideal.τ).loc Cert.Kernel18Ideal.main_arg5)))) rfl ?_
      simp only [hagree c]
      exact (ref_eq _ _ _).trans (Cert.Kernel18Ideal.Value.final7 m c).symm

end Cert.Proof

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.PrepPromptRun
public import proofs.«01_k».proof.Proof.PrepSampleRun
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.InProjUv
public import proofs.«01_k».proof.Proof.InProjQkv
public import proofs.«01_k».proof.Proof.InProjGate
public import proofs.«01_k».proof.Proof.FfnUp
public import proofs.«01_k».proof.Proof.FfnDownPrompt
public import proofs.«01_k».proof.Proof.FfnDownSample
public import proofs.«01_k».proof.Proof.OutProj
public import proofs.«01_k».proof.Proof.Merge
public import proofs.«01_k».proof.Proof.PrepPrompt
public import proofs.«01_k».proof.Proof.PrepSample
public import proofs.«01_k».proof.Proof.Window
public import proofs.«01_k».proof.Proof.GatingSample
public import proofs.«01_k».proof.Proof.GatingPrompt
public import proofs.«01_k».proof.Proof.NormLastPrompt
public import proofs.«01_k».proof.Proof.NormLastSample
public import proofs.«01_k».proof.Proof.NormPrompt
public import proofs.«01_k».proof.Proof.NormSample
public import proofs.«01_k».proof.Proof.Compress
public import Idealize.ShloMosaic.Lib.Claim

/-! The claims, assembled: every program keeps its arguments and leaves no semaphore up, and every program that has a
value claim computes at exact arithmetic what its reference computes. -/

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  fun m ρ _ => Cert.Kernel.Gen.frame m ρ,
  fun m ρ _ => Cert.KernelIdeal.Gen.frame m ρ,
  frame_uv_ref,
  fun m ρ _ => Cert.Kernel2.Gen.frame m ρ,
  fun m ρ _ => Cert.Kernel2Ideal.Gen.frame m ρ,
  frame_qkv_ref,
  fun m ρ _ => Cert.Kernel3.Gen.frame m ρ,
  fun m ρ _ => Cert.Kernel3Ideal.Gen.frame m ρ,
  frame_gate_ref,
  fun m ρ _ => Cert.Kernel4.Gen.frame m ρ,
  fun m ρ _ => Cert.Kernel4Ideal.Gen.frame m ρ,
  frame_up_ref,
  fun m ρ _ => Cert.Kernel5.Gen.frame m ρ,
  fun m ρ _ => Cert.Kernel5Ideal.Gen.frame m ρ,
  frame_down_p_ref,
  fun m ρ _ => Cert.Kernel6.Gen.frame m ρ,
  fun m ρ _ => Cert.Kernel6Ideal.Gen.frame m ρ,
  frame_down_s_ref,
  fun m ρ _ => Cert.Kernel7.Gen.frame m ρ,
  fun m ρ _ => Cert.Kernel7Ideal.Gen.frame m ρ,
  frame_out_ref,
  fun m ρ _ => Cert.Kernel8.Gen.frame m ρ,
  fun m ρ _ => Cert.Kernel8Ideal.Gen.frame m ρ,
  frame_merge_ref,
  fun m ρ _ => Cert.Kernel9.Hand.frame m ρ,
  fun m ρ _ => Cert.Kernel9Ideal.Hand.frame m ρ,
  frame_prep_p_ref,
  fun m ρ _ => Cert.Kernel10.Hand.frame m ρ,
  fun m ρ _ => Cert.Kernel10Ideal.Hand.frame m ρ,
  frame_prep_s_ref,
  fun m ρ _ => Cert.Kernel11.Gen.frame m ρ,
  fun m ρ _ => Cert.Kernel11Ideal.Gen.frame m ρ,
  frame_window_ref,
  fun m ρ _ => Cert.Kernel12.Gen.frame m ρ,
  fun m ρ _ => Cert.Kernel12Ideal.Gen.frame m ρ,
  frame_sgu_s_ref,
  fun m ρ _ => Cert.Kernel13.Gen.frame m ρ,
  fun m ρ _ => Cert.Kernel13Ideal.Gen.frame m ρ,
  frame_sgu_p_ref,
  fun m ρ _ => Cert.Kernel14.Gen.frame m ρ,
  fun m ρ _ => Cert.Kernel14Ideal.Gen.frame m ρ,
  frame_last_p_ref,
  fun m ρ _ => Cert.Kernel15.Gen.frame m ρ,
  fun m ρ _ => Cert.Kernel15Ideal.Gen.frame m ρ,
  frame_last_s_ref,
  fun m ρ _ => Cert.Kernel16.Gen.frame m ρ,
  fun m ρ _ => Cert.Kernel16Ideal.Gen.frame m ρ,
  frame_norm_p_ref,
  fun m ρ _ => Cert.Kernel17.Gen.frame m ρ,
  fun m ρ _ => Cert.Kernel17Ideal.Gen.frame m ρ,
  frame_norm_s_ref,
  fun m ρ _ => Cert.Kernel18.Gen.frame m ρ,
  fun m ρ _ => Cert.Kernel18Ideal.Gen.frame m ρ,
  frame_cmp_ref,
  trivial,
  algebraic_uv,
  trivial,
  algebraic_qkv,
  trivial,
  algebraic_gate,
  trivial,
  algebraic_up,
  trivial,
  algebraic_down_p,
  trivial,
  algebraic_down_s,
  trivial,
  algebraic_out,
  trivial,
  algebraic_merge,
  trivial,
  algebraic_prep_p,
  trivial,
  algebraic_prep_s,
  trivial,
  algebraic_window,
  trivial,
  algebraic_sgu_s,
  trivial,
  algebraic_sgu_p,
  trivial,
  algebraic_last_p,
  trivial,
  algebraic_last_s,
  trivial,
  algebraic_norm_p,
  trivial,
  algebraic_norm_s,
  trivial,
  algebraic_cmp⟩

end Cert.Proof

end
